-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_gamma [hPre_finite_gamma : Cert.Pre_finite_gamma.Facts] (m : (ℓ : Loc Cert.KernelIdeal.nD Cert.KernelIdeal.τ Cert.KernelIdeal.sig) → Buf (Elt Ideal) ℓ) : Prop :=
  ∀ c : Dev Cert.KernelIdeal.nD,
    (Cert.Pre_finite_gamma.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_gamma [hPre_finite_gamma : Cert.Pre_finite_gamma.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_gamma.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def Pre_Reference (m : (ℓ : Loc Cert.Reference.nD Cert.Reference.τ Cert.Reference.sig) → Buf (Elt Bits) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite_gamma [hKernelIdeal : Cert.KernelIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_gamma m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite_gamma [hReferenceIdeal : Cert.ReferenceIdeal.Facts] [hPre_finite_gamma : Cert.Pre_finite_gamma.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_gamma m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Reference [hReference : Cert.Reference.Facts] : Prop :=
  ∀ (m : (ℓ : Loc Cert.Reference.nD Cert.Reference.τ Cert.Reference.sig) → Buf (Elt Bits) ℓ) (g : Dev Cert.Reference.nD → PrngReg), Pre_Reference m →
    θ_run (Cert.Reference.defs (F := Bits)) (onTc (τ := Cert.Reference.τ) (Cert.Reference.main (F := Bits))) ⟨m, fun _ => 0, g⟩ (fun r => (∀ c : Dev Cert.Reference.nD,
      r.2.mem ((c.tc : Thread Cert.Reference.nD Cert.Reference.τ).loc Cert.Reference.main_arg0) = m ((c.tc : Thread Cert.Reference.nD Cert.Reference.τ).loc Cert.Reference.main_arg0)
      ∧ r.2.mem ((c.tc : Thread Cert.Reference.nD Cert.Reference.τ).loc Cert.Reference.main_arg1) = m ((c.tc : Thread Cert.Reference.nD Cert.Reference.τ).loc Cert.Reference.main_arg1)
      ∧ r.2.mem ((c.tc : Thread Cert.Reference.nD Cert.Reference.τ).loc Cert.Reference.main_arg2) = m ((c.tc : Thread Cert.Reference.nD Cert.Reference.τ).loc Cert.Reference.main_arg2)
      ∧ r.2.mem ((c.tc : Thread Cert.Reference.nD Cert.Reference.τ).loc Cert.Reference.main_arg3) = m ((c.tc : Thread Cert.Reference.nD Cert.Reference.τ).loc Cert.Reference.main_arg3)
      ∧ r.2.mem ((c.tc : Thread Cert.Reference.nD Cert.Reference.τ).loc Cert.Reference.main_arg4) = m ((c.tc : Thread Cert.Reference.nD Cert.Reference.τ).loc Cert.Reference.main_arg4)
      ∧ r.2.mem ((c.tc : Thread Cert.Reference.nD Cert.Reference.τ).loc Cert.Reference.main_arg5) = m ((c.tc : Thread Cert.Reference.nD Cert.Reference.τ).loc Cert.Reference.main_arg5))
      ∧ r.2.sem = fun _ => 0)

def preserves_Kernel_KernelIdeal : Prop :=
  IdealRules.named_const.Statement Cert.KernelIdeal.κ "inv_n" .f32 0x3970F0F1#32 ((1 / 4352 : ℝ) : EReal)

def preserves_Reference_ReferenceIdeal : Prop :=
  IdealRules.named_const.Statement Cert.ReferenceIdeal.κ "ln2" .f32 0x3F317218#32 ((Real.log 2 : ℝ) : EReal)

def algebraic_KernelIdeal_ReferenceIdeal_pre_finite_gamma [hKernelIdeal : Cert.KernelIdeal.Facts] [hReferenceIdeal : Cert.ReferenceIdeal.Facts] [hPre_finite_gamma : Cert.Pre_finite_gamma.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_gamma m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v7)) (v1 : (c : Dev Cert.KernelIdeal.nD) → Buf (Elt Ideal) ((c.tc : Thread Cert.KernelIdeal.nD Cert.KernelIdeal.τ).loc Cert.KernelIdeal.main_v8)) (v2 : (c : Dev Cert.KernelIdeal.nD) → Buf (Elt Ideal) ((c.tc : Thread Cert.KernelIdeal.nD Cert.KernelIdeal.τ).loc Cert.KernelIdeal.main_v9)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_v8) = v1 c
          ∧ r.2.mem ((c.tc : Thread Cert.KernelIdeal.nD Cert.KernelIdeal.τ).loc Cert.KernelIdeal.main_v9) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v0_0) = v0 c
          ∧ r.2.mem ((c.tc : Thread Cert.ReferenceIdeal.nD Cert.ReferenceIdeal.τ).loc Cert.ReferenceIdeal.main_v0_1) = v1 c
          ∧ r.2.mem ((c.tc : Thread Cert.ReferenceIdeal.nD Cert.ReferenceIdeal.τ).loc Cert.ReferenceIdeal.main_v0_2) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hReference : Cert.Reference.Facts) (hPre_finite_gamma : Cert.Pre_finite_gamma.Facts),
    quiescent_Kernel (hKernel := hKernel)
    ∧ quiescent_KernelIdeal (hKernelIdeal := hKernelIdeal)
    ∧ quiescent_KernelIdeal_pre_finite_gamma (hKernelIdeal := hKernelIdeal) (hPre_finite_gamma := hPre_finite_gamma)
    ∧ quiescent_ReferenceIdeal (hReferenceIdeal := hReferenceIdeal)
    ∧ quiescent_ReferenceIdeal_pre_finite_gamma (hReferenceIdeal := hReferenceIdeal) (hPre_finite_gamma := hPre_finite_gamma)
    ∧ quiescent_Reference (hReference := hReference)
    ∧ preserves_Kernel_KernelIdeal
    ∧ preserves_Reference_ReferenceIdeal
    ∧ algebraic_KernelIdeal_ReferenceIdeal_pre_finite_gamma (hKernelIdeal := hKernelIdeal) (hReferenceIdeal := hReferenceIdeal) (hPre_finite_gamma := hPre_finite_gamma)
-- ==== Pre_finite_gamma.lean ====
abbrev S2x8192x1664 : Shape := ⟨3, ![2, 8192, 1664]⟩
abbrev S2x8192x1 : Shape := ⟨3, ![2, 8192, 1]⟩
abbrev S1664x4352 : Shape := ⟨2, ![1664, 4352]⟩
abbrev S4352 : Shape := ⟨1, ![4352]⟩
abbrev S2x8192x4352 : Shape := ⟨3, ![2, 8192, 4352]⟩
abbrev S_ : Shape := ⟨0, ![]⟩

class Facts : Prop where
  bitsLt_bf16_f32 : FTy.bits .bf16 < FTy.bits .f32
  bcast_S_S4352 : S_.BroadcastsInDim S4352 (![] : Fin 0 → Fin S4352.rank)

variable [Facts]

def fn {F : FTy → Type} [FloatOps F] (main_arg0 : FVec F S2x8192x1664 .fp8e4m3) (main_arg1 : FVec F S2x8192x1 .f32) (main_arg2 : FVec F S1664x4352 .fp8e4m3) (main_arg3 : FVec F S4352 .f32) (main_arg4 : FVec F S2x8192x4352 .bf16) (main_arg5 : FVec F S4352 .bf16) : IVec S4352 1 :=
  let main_v0 : FVec F S4352 .f32 := (extf .f32 · bitsLt_bf16_f32) main_arg5
  let main_v1 : FVec F S4352 .f32 := Host.absf main_v0
  let main_cst : FVec F S_ .f32 := constant S_ .f32 0x7F7F0000#32
  let main_v2 : FVec F S4352 .f32 := broadcastInDim S4352 ![] bcast_S_S4352 main_cst
  let main_v3 : IVec S4352 1 := cmpf .ole main_v1 main_v2
  main_v3
-- ==== Kernel.lean ====
abbrev S2x8192x1664 : Shape := ⟨3, ![2, 8192, 1664]⟩
abbrev S2x8192x1 : Shape := ⟨3, ![2, 8192, 1]⟩
abbrev S1664x4352 : Shape := ⟨2, ![1664, 4352]⟩
abbrev S4352 : Shape := ⟨1, ![4352]⟩
abbrev S2x8192x4352 : Shape := ⟨3, ![2, 8192, 4352]⟩
abbrev S64x1x256 : Shape := ⟨3, ![64, 1, 256]⟩
abbrev S16384x1664 : Shape := ⟨2, ![16384, 1664]⟩
abbrev S1x4352 : Shape := ⟨2, ![1, 4352]⟩
abbrev S16384x4352 : Shape := ⟨2, ![16384, 4352]⟩
abbrev S1x1x256 : Shape := ⟨3, ![1, 1, 256]⟩
abbrev S256x1664 : Shape := ⟨2, ![256, 1664]⟩
abbrev S256x4352 : Shape := ⟨2, ![256, 4352]⟩
abbrev S256x128 : Shape := ⟨2, ![256, 128]⟩
abbrev S1x1x128 : Shape := ⟨3, ![1, 1, 128]⟩
abbrev S1x128 : Shape := ⟨2, ![1, 128]⟩
abbrev S128x128 : Shape := ⟨2, ![128, 128]⟩
abbrev S1664x512 : Shape := ⟨2, ![1664, 512]⟩
abbrev S256x512 : Shape := ⟨2, ![256, 512]⟩
abbrev S32x128 : Shape := ⟨2, ![32, 128]⟩
abbrev S1664x256 : Shape := ⟨2, ![1664, 256]⟩
abbrev S256x256 : Shape := ⟨2, ![256, 256]⟩
abbrev S128 : Shape := ⟨1, ![128]⟩
abbrev S128x1 : Shape := ⟨2, ![128, 1]⟩

abbrev nBuf : Space → Nat
  | .hbm => 18
  | .vmem => 20
  | .smem => 0
  | _ => 0

abbrev bufTy : (tb : Table) → Fin (tcTables nBuf tb) → BufTy
  | .hbm, ⟨0, _⟩ => ⟨S2x8192x1664, .fp8e4m3⟩
  | .hbm, ⟨1, _⟩ => ⟨S2x8192x1, .f32⟩
  | .hbm, ⟨2, _⟩ => ⟨S1664x4352, .fp8e4m3⟩
  | .hbm, ⟨3, _⟩ => ⟨S4352, .f32⟩
  | .hbm, ⟨4, _⟩ => ⟨S2x8192x4352, .bf16⟩
  | .hbm, ⟨5, _⟩ => ⟨S4352, .bf16⟩
  | .hbm, ⟨6, _⟩ => ⟨S64x1x256, .f32⟩
  | .hbm, ⟨7, _⟩ => ⟨S16384x1664, .fp8e4m3⟩
  | .hbm, ⟨8, _⟩ => ⟨S1x4352, .f32⟩
  | .hbm, ⟨9, _⟩ => ⟨S16384x4352, .bf16⟩
  | .hbm, ⟨10, _⟩ => ⟨S4352, .f32⟩
  | .hbm, ⟨11, _⟩ => ⟨S1x4352, .f32⟩
  | .hbm, ⟨12, _⟩ => ⟨S16384x4352, .bf16⟩
  | .hbm, ⟨13, _⟩ => ⟨S16384x4352, .fp8e4m3⟩
  | .hbm, ⟨14, _⟩ => ⟨S64x1x256, .f32⟩
  | .hbm, ⟨15, _⟩ => ⟨S2x8192x4352, .bf16⟩
  | .hbm, ⟨16, _⟩ => ⟨S2x8192x4352, .fp8e4m3⟩
  | .hbm, ⟨17, _⟩ => ⟨S2x8192x1, .f32⟩
  | .local _ .vmem, ⟨0, _⟩ => ⟨S1x1x256, .f32⟩
  | .local _ .vmem, ⟨1, _⟩ => ⟨S1x1x256, .f32⟩
  | .local _ .vmem, ⟨2, _⟩ => ⟨S256x1664, .fp8e4m3⟩
  | .local _ .vmem, ⟨3, _⟩ => ⟨S256x1664, .fp8e4m3⟩
  | .local _ .vmem, ⟨4, _⟩ => ⟨S1664x4352, .fp8e4m3⟩
  | .local _ .vmem, ⟨5, _⟩ => ⟨S1x4352, .f32⟩
  | .local _ .vmem, ⟨6, _⟩ => ⟨S256x4352, .bf16⟩
  | .local _ .vmem, ⟨7, _⟩ => ⟨S256x4352, .bf16⟩
  | .local _ .vmem, ⟨8, _⟩ => ⟨S1x4352, .f32⟩
  | .local _ .vmem, ⟨9, _⟩ => ⟨S256x4352, .bf16⟩
  | .local _ .vmem, ⟨10, _⟩ => ⟨S256x4352, .bf16⟩
  | .local _ .vmem, ⟨11, _⟩ => ⟨S256x4352, .fp8e4m3⟩
  | .local _ .vmem, ⟨12, _⟩ => ⟨S256x4352, .fp8e4m3⟩
  | .local _ .vmem, ⟨13, _⟩ => ⟨S1x1x256, .f32⟩
  | .local _ .vmem, ⟨14, _⟩ => ⟨S1x1x256, .f32⟩
  | .local _ .vmem, ⟨15, _⟩ => ⟨S256x4352, .f32⟩
  | .local _ .vmem, ⟨16, _⟩ => ⟨S256x128, .f32⟩
  | .local _ .vmem, ⟨17, _⟩ => ⟨S256x128, .f32⟩
  | .local _ .vmem, ⟨18, _⟩ => ⟨S256x128, .f32⟩
  | .local _ .vmem, ⟨19, _⟩ => ⟨S256x128, .f32⟩
  | _, _ => ⟨S2x8192x1664, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6_0 : Ref sig .tc := ⟨.hbm, 12, rfl⟩
abbrev main_v6_1 : Ref sig .tc := ⟨.hbm, 13, rfl⟩
abbrev main_v6_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg7_1 : Ref sig .tc := ⟨.vmem, 12, rfl⟩
abbrev cc0_stg8_0 : Ref sig .tc := ⟨.vmem, 13, rfl⟩
abbrev cc0_stg8_1 : Ref sig .tc := ⟨.vmem, 14, rfl⟩
abbrev cc0_scratch0 : Ref sig .tc := ⟨.vmem, 15, rfl⟩
abbrev cc0_scratch1 : Ref sig .tc := ⟨.vmem, 16, rfl⟩
abbrev cc0_scratch2 : Ref sig .tc := ⟨.vmem, 17, rfl⟩
abbrev cc0_scratch3 : Ref sig .tc := ⟨.vmem, 18, rfl⟩
abbrev cc0_scratch4 : Ref sig .tc := ⟨.vmem, 19, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem6_0 : DmaSem sig := 9
abbrev cc0_sem6_1 : DmaSem sig := 10
abbrev cc0_sem7_0 : DmaSem sig := 11
abbrev cc0_sem7_1 : DmaSem sig := 12
abbrev cc0_sem8_0 : DmaSem sig := 13
abbrev cc0_sem8_1 : DmaSem sig := 14

abbrev nD : Nat := 1
abbrev τ : Topo := Topo.v7x

variable {F : FTy → Type} [FloatOps F]

abbrev grid0 : Pipeline.Grid := ⟨1, ![65], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

def k0_cond2 (i : grid0.Coords) : BitVec 1 :=
  let arg0 : BitVec 32 := BitVec.ofNat 32 (i 0).val
  let c0_i32_1 : BitVec 32 := 0#32
  let v3 : BitVec 1 := Scalar.cmpi .sgt arg0 c0_i32_1
  let c64_i32 : BitVec 32 := 64#32
  let v4 : BitVec 1 := Scalar.cmpi .slt arg0 c64_i32
  let v5 : BitVec 1 := Scalar.andi v3 v4
  let v6 : BitVec 32 := Scalar.extui v5
  let c0_i32_2 : BitVec 32 := 0#32
  let v7 : BitVec 1 := Scalar.cmpi .ne v6 c0_i32_2
  v7

def k0_cond3 (i : grid0.Coords) : BitVec 1 :=
  let arg0 : BitVec 32 := BitVec.ofNat 32 (i 0).val
  let c64_i32_3 : BitVec 32 := 64#32
  let v8 : BitVec 1 := Scalar.cmpi .eq arg0 c64_i32_3
  let v9 : BitVec 32 := Scalar.extui v8
  let c0_i32_4 : BitVec 32 := 0#32
  let v10 : BitVec 1 := Scalar.cmpi .ne v9 c0_i32_4
  v10

def cc0_transform_0 (i : grid0.Coords) : Fin 3 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  let c0_i32_1 : BitVec 32 := 0#32
  ![v0.toNat, c0_i32.toNat, c0_i32_0.toNat]

def cc0_transform_1 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c63_i32 : BitVec 32 := 63#32
  let v0 : BitVec 32 := Scalar.minsi arg0 c63_i32
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  ![v1.toNat, c0_i32_0.toNat]

def cc0_transform_8 (i : grid0.Coords) : Fin 3 → Nat :=
  let arg0 : BitVec 32 := BitVec.ofNat 32 (i 0).val
  let c1_i32 : BitVec 32 := 1#32
  let v0 : BitVec 32 := Scalar.subi arg0 c1_i32
  let c0_i32 : BitVec 32 := 0#32
  let v1 : BitVec 32 := Scalar.maxsi v0 c0_i32
  let c0_i32_0 : BitVec 32 := 0#32
  let c0_i32_1 : BitVec 32 := 0#32
  let c0_i32_2 : BitVec 32 := 0#32
  ![v1.toNat, c0_i32_0.toNat, c0_i32_1.toNat]

abbrev stage0_0 : Fin 2 → Memref sig .tc .vmem S1x1x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1664 .fp8e4m3 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1664x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4352 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1x4352 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x4352 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S256x4352 .fp8e4m3 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x1x256 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== KernelIdeal.lean ====
variable {F : FTy → Type} [FloatOps F] [Named F]
def κ : String → Option EReal := fun
  | "inv_n" => some ((1 / 4352 : ℝ) : EReal)
  | _ => none
-- ==== ReferenceIdeal.lean ====
variable {F : FTy → Type} [FloatOps F] [Named F]
def κ : String → Option EReal := fun
  | "ln2" => some ((Real.log 2 : ℝ) : EReal)
  | _ => none
-- ==== Reference.lean ====
abbrev S2x8192x1664 : Shape := ⟨3, ![2, 8192, 1664]⟩
abbrev S2x8192x1 : Shape := ⟨3, ![2, 8192, 1]⟩
abbrev S1664x4352 : Shape := ⟨2, ![1664, 4352]⟩
abbrev S4352 : Shape := ⟨1, ![4352]⟩
abbrev S2x8192x4352 : Shape := ⟨3, ![2, 8192, 4352]⟩
abbrev S1x1x4352 : Shape := ⟨3, ![1, 1, 4352]⟩
abbrev S2x8192 : Shape := ⟨2, ![2, 8192]⟩

abbrev nBuf : Space → Nat
  | .hbm => 9
  | .vmem => 9
  | .smem => 0
  | _ => 0

abbrev bufTy : (tb : Table) → Fin (tcTables nBuf tb) → BufTy
  | .hbm, ⟨0, _⟩ => ⟨S2x8192x1664, .fp8e4m3⟩
  | .hbm, ⟨1, _⟩ => ⟨S2x8192x1, .f32⟩
  | .hbm, ⟨2, _⟩ => ⟨S1664x4352, .fp8e4m3⟩
  | .hbm, ⟨3, _⟩ => ⟨S4352, .f32⟩
  | .hbm, ⟨4, _⟩ => ⟨S2x8192x4352, .bf16⟩
  | .hbm, ⟨5, _⟩ => ⟨S4352, .bf16⟩
  | .hbm, ⟨6, _⟩ => ⟨S2x8192x4352, .bf16⟩
  | .hbm, ⟨7, _⟩ => ⟨S2x8192x4352, .fp8e4m3⟩
  | .hbm, ⟨8, _⟩ => ⟨S2x8192x1, .f32⟩
  | .local _ .vmem, ⟨0, _⟩ => ⟨S2x8192x1664, .fp8e4m3⟩
  | .local _ .vmem, ⟨1, _⟩ => ⟨S2x8192x1, .f32⟩
  | .local _ .vmem, ⟨2, _⟩ => ⟨S1664x4352, .fp8e4m3⟩
  | .local _ .vmem, ⟨3, _⟩ => ⟨S4352, .f32⟩
  | .local _ .vmem, ⟨4, _⟩ => ⟨S2x8192x4352, .bf16⟩
  | .local _ .vmem, ⟨5, _⟩ => ⟨S4352, .bf16⟩
  | .local _ .vmem, ⟨6, _⟩ => ⟨S2x8192x4352, .bf16⟩
  | .local _ .vmem, ⟨7, _⟩ => ⟨S2x8192x4352, .fp8e4m3⟩
  | .local _ .vmem, ⟨8, _⟩ => ⟨S2x8192x1, .f32⟩
  | _, _ => ⟨S2x8192x1664, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0_0 : Ref sig .tc := ⟨.hbm, 6, rfl⟩
abbrev main_v0_1 : Ref sig .tc := ⟨.hbm, 7, rfl⟩
abbrev main_v0_2 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8

abbrev nD : Nat := 1
abbrev τ : Topo := Topo.v7x

variable {F : FTy → Type} [FloatOps F]

abbrev grid0 : Pipeline.Grid := .none

abbrev stage0_0 : Fin 1 → Memref sig .tc .vmem S2x8192x1664 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x8192x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1664x4352 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S4352 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x8192x4352 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S4352 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8192x4352 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x8192x4352 .fp8e4m3 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S2x8192x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
-- ==== Proof.KernelBody.lean ====
/- The body of the kernel as a program of blocks: one definition for each block of the kernel's text, at offsets that are variables. The
   printed body, which has every block written out at its own offsets, is proved equal to it. -/
module

public import proofs.«01_k».proof.Kernel
public import Idealize.ShloMosaic.Lib.Tactic.ProgEq

@[expose] public section

noncomputable section

namespace Cert.Kernel

open Idealize.ShloMosaic Idealize.SL.Sem
open Facts₀

/-- A strip of 32 rows and 128 lanes lies inside a tile of 256 rows and all columns. -/
theorem inb_t {r k : Nat} (hr : r + 32 ≤ 256) (hk : k + 128 ≤ 4352) :
    ∀ a, (![r, k] : Fin 2 → Nat) a + S32x128.size a ≤ S256x4352.size a := by
  intro a; fin_cases a <;> simp <;> omega

/-- A strip of 32 rows lies inside a scratch array of 256 rows and 128 lanes. -/
theorem inb_l {r : Nat} (hr : r + 32 ≤ 256) :
    ∀ a, (![r, 0] : Fin 2 → Nat) a + S32x128.size a ≤ S256x128.size a := by
  intro a; fin_cases a <;> simp <;> omega

/-- A block of 128 columns lies inside a row of 4352 columns. -/
theorem inb_r {k : Nat} (hk : k + 128 ≤ 4352) :
    ∀ a, (![0, k] : Fin 2 → Nat) a + S1x128.size a ≤ S1x4352.size a := by
  intro a; fin_cases a <;> simp <;> omega

/-- 512 columns of the weight. -/
theorem inb_w {c : Nat} (hc : c + 512 ≤ 4352) :
    ∀ a, (![0, c] : Fin 2 → Nat) a + S1664x512.size a ≤ S1664x4352.size a := by
  intro a; fin_cases a <;> simp <;> omega

/-- A block of 128 rows lies inside a scratch array of 256 rows. -/
theorem inb_h {r : Nat} (hr : r + 128 ≤ 256) :
    ∀ a, (![r, 0] : Fin 2 → Nat) a + S128x128.size a ≤ S256x128.size a := by
  intro a; fin_cases a <;> simp <;> omega

/-- A block of 128 lanes lies inside a row of 256. -/
theorem inb_x {r : Nat} (hr : r + 128 ≤ 256) :
    ∀ a, (![0, 0, r] : Fin 3 → Nat) a + S1x1x128.size a ≤ S1x1x256.size a := by
  intro a; fin_cases a <;> simp <;> omega

/-- A strip that starts at a multiple of 32 rows is whole words at two elements a word, -/
theorem packed_bf16 {r k : Nat} (h32 : 32 ∣ r) (h : ∀ a, (![r, k] : Fin 2 → Nat) a + S32x128.size a ≤ S256x4352.size a) :
    (Rect.unit (s := S256x4352) ![r, k] S32x128.size h).PackedRows (EltTy.packing .bf16) := by
  refine .inr ⟨le_refl 2, rfl, .inl ⟨?_, ?_⟩⟩
  · exact (show EltTy.packing .bf16 ∣ 32 by decide).trans h32
  · exact (show EltTy.packing .bf16 ∣ 32 by decide)

/-- and at four. -/
theorem packed_fp8 {r k : Nat} (h32 : 32 ∣ r) (h : ∀ a, (![r, k] : Fin 2 → Nat) a + S32x128.size a ≤ S256x4352.size a) :
    (Rect.unit (s := S256x4352) ![r, k] S32x128.size h).PackedRows (EltTy.packing .fp8e4m3) := by
  refine .inr ⟨le_refl 2, rfl, .inl ⟨?_, ?_⟩⟩
  · exact (show EltTy.packing .fp8e4m3 ∣ 32 by decide).trans h32
  · exact (show EltTy.packing .fp8e4m3 ∣ 32 by decide)

/-- A strip's block of 128 lanes of a chunk of 512 columns, -/
theorem sl5 {r j : Nat} (hr : r + 32 ≤ 256) (hj : j + 128 ≤ 512) : S256x512.Slices ![r, j] S32x128 :=
  ⟨rfl, fun a => by fin_cases a <;> simp <;> omega⟩

/-- and of 256. -/
theorem sl2 {r j : Nat} (hr : r + 32 ≤ 256) (hj : j + 128 ≤ 256) : S256x256.Slices ![r, j] S32x128 :=
  ⟨rfl, fun a => by fin_cases a <;> simp <;> omega⟩

variable {F : FTy → Type} [FloatOps F] [Facts]

/-- The scale of every row, spread over a lane block: rows `r` to `r + 127`. -/
def loadXs1 (arg1 : Memref sig .tc .vmem S1x1x256 .f32) (arg14 : Memref sig .tc .vmem S256x128 .f32) (r : Nat) (hr : r + 128 ≤ 256) : Prog (TpuEff nD τ sig (Elt F) Λ₀ .tc) PUnit := do
  let v11 : Vec F S1x1x128 .f32 ← Prog.lift (.load arg1 (Rect.unit (s := S1x1x256) ![0, 0, r] S1x1x128.size (inb_x hr)).toLoadRect (View.loadsAt_vmem h_S1x1x128))
  have v12 : FVec F S1x128 .f32 := shapeCast S1x128 v11 shapeCasts_S1x1x128_S1x128
  have v13 : FVec F S1x128 .f32 := shapeCast S1x128 v12 shapeCasts_S1x128_S1x128
  have v14 : FVec F S128x128 .f32 := broadcastTo S128x128 v13 broadcasts_S1x128_S128x128
  have v15 : FVec F S128x128 .f32 := transpose S128x128 [1, 0] v14 transposes_S128x128_p1_0_S128x128
  let v16 : Vec F S128x128 .f32 ← Prog.lift (.load arg14 (Rect.unit (s := S256x128) ![r, 0] S128x128.size (inb_h hr)).toLoadRect (View.loadsAt_vmem h_S128x128))
  have v18 : FVec F S128x128 .f32 := shapeCast S128x128 v15 shapeCasts_S128x128_S128x128
  Prog.lift (.store arg14 (Rect.unit (s := S256x128) ![r, 0] S128x128.size (inb_h hr)) v18 Finset.univ (View.stores_vmem_bits_univ h_S128x128 rfl) (.inl rfl))

/-- The scale of every row. -/
def loadXs (arg1 : Memref sig .tc .vmem S1x1x256 .f32) (arg14 : Memref sig .tc .vmem S256x128 .f32) : Prog (TpuEff nD τ sig (Elt F) Λ₀ .tc) PUnit := do
  loadXs1 arg1 arg14 0 (by decide)
  loadXs1 arg1 arg14 128 (by decide)

/-- One block of 32 rows and 128 columns of the projection: the residual output and its product with gamma are stored; the squares and the
    absolute values are returned. -/
def lane (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (v32 xs : FVec F S32x128 .f32) (r k : Nat)
    (h32 : 32 ∣ r) (hr : r + 32 ≤ 256) (hk : k + 128 ≤ 4352) : Prog (TpuEff nD τ sig (Elt F) Λ₀ .tc) (Σ' (_ : FVec F S32x128 .f32), FVec F S32x128 .f32) := do
  have v33 : FVec F S32x128 .f32 := mulf v32 xs
  let v34 : Vec F S1x128 .f32 ← Prog.lift (.load arg4 (Rect.unit (s := S1x4352) ![0, k] S1x128.size (inb_r hk)).toLoadRect (View.loadsAt_vmem h_S1x128))
  have v35 : FVec F S1x128 .f32 := shapeCast S1x128 v34 shapeCasts_S1x128_S1x128
  have v36 : FVec F S32x128 .f32 := broadcastTo S32x128 v35 broadcasts_S1x128_S32x128
  have v37 : FVec F S32x128 .f32 := mulf v33 v36
  let v38 : Vec F S32x128 .bf16 ← Prog.lift (.load arg5 (Rect.unit (s := S256x4352) ![r, k] S32x128.size (inb_t hr hk)).toLoadRect (View.loadsAt_vmem h_S32x128))
  have v39 : FVec F S32x128 .bf16 := shapeCast S32x128 v38 shapeCasts_S32x128_S32x128
  have v40 : FVec F S32x128 .f32 := extf .f32 v39 bitsLt_bf16_f32
  have v41 : FVec F S32x128 .f32 := addf v37 v40
  have v42 : FVec F S32x128 .bf16 := truncf .bf16 v41 bitsLt_bf16_f32
  let v43 : Vec F S32x128 .bf16 ← Prog.lift (.load arg7 (Rect.unit (s := S256x4352) ![r, k] S32x128.size (inb_t hr hk)).toLoadRect (View.loadsAt_vmem h_S32x128))
  Prog.lift (.store arg7 (Rect.unit (s := S256x4352) ![r, k] S32x128.size (inb_t hr hk)) v42 Finset.univ (View.stores_vmem h_S32x128 (harg7.storeExact_slice rfl _ (packed_bf16 h32 (inb_t hr hk))) (fun _ => rfl)) (.inl rfl))
  have v44 : FVec F S32x128 .f32 := extf .f32 v42 bitsLt_bf16_f32
  let v45 : Vec F S1x128 .f32 ← Prog.lift (.load arg6 (Rect.unit (s := S1x4352) ![0, k] S1x128.size (inb_r hk)).toLoadRect (View.loadsAt_vmem h_S1x128))
  have v46 : FVec F S1x128 .f32 := shapeCast S1x128 v45 shapeCasts_S1x128_S1x128
  have v47 : FVec F S32x128 .f32 := broadcastTo S32x128 v46 broadcasts_S1x128_S32x128
  have v48 : FVec F S32x128 .f32 := mulf v44 v47
  let v49 : Vec F S32x128 .f32 ← Prog.lift (.load arg10 (Rect.unit (s := S256x4352) ![r, k] S32x128.size (inb_t hr hk)).toLoadRect (View.loadsAt_vmem h_S32x128))
  have v51 : FVec F S32x128 .f32 := shapeCast S32x128 v48 shapeCasts_S32x128_S32x128
  Prog.lift (.store arg10 (Rect.unit (s := S256x4352) ![r, k] S32x128.size (inb_t hr hk)) v51 Finset.univ (View.stores_vmem_bits_univ h_S32x128 rfl) (.inl rfl))
  pure ⟨mulf v44 v44, absf v48⟩

/-- A strip of 32 rows of the first chunk. -/
def stripF (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl5 hr (by decide))) xs r k0 h32 hr hk0
  let ⟨q1, m1⟩ ← lane arg4 arg5 arg6 arg7 harg7 arg10 (extractStridedSlice S32x128 ![r, 128] acc (sl5 hr (by decide))) xs r k1 h32 hr hk1
  let ⟨q2, m2⟩ ← lane arg4 arg5 arg6 arg7 harg7 arg10 (extractStridedSlice S32x128 ![r, 256] acc (sl5 hr (by decide))) xs r k2 h32 hr hk2
  let ⟨q3, m3⟩ ← lane arg4 arg5 arg6 arg7 harg7 arg10 (extractStridedSlice S32x128 ![r, 384] acc (sl5 hr (by decide))) xs r k3 h32 hr hk3
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf (addf q0 q1) q2) q3) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf (maximumf m0 m1) m2) m3) shapeCasts_S32x128_S32x128) Finset.univ (View.stores_vmem_bits_univ h_S32x128 rfl) (.inl rfl))

/-- A strip of 32 rows of a chunk that is neither first nor last: the sums and maxima go on from what the scratch holds. -/
def stripM (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl5 hr (by decide))) xs r k0 h32 hr hk0
  let ⟨q1, m1⟩ ← lane arg4 arg5 arg6 arg7 harg7 arg10 (extractStridedSlice S32x128 ![r, 128] acc (sl5 hr (by decide))) xs r k1 h32 hr hk1
  let ⟨q2, m2⟩ ← lane arg4 arg5 arg6 arg7 harg7 arg10 (extractStridedSlice S32x128 ![r, 256] acc (sl5 hr (by decide))) xs r k2 h32 hr hk2
  let ⟨q3, m3⟩ ← lane arg4 arg5 arg6 arg7 harg7 arg10 (extractStridedSlice S32x128 ![r, 384] acc (sl5 hr (by decide))) xs r k3 h32 hr hk3
  let pq : Vec F S32x128 .f32 ← Prog.lift (.load arg11 (Rect.unit (s := S256x128) ![r, 0] S32x128.size (inb_l hr)).toLoadRect (View.loadsAt_vmem h_S32x128))
  let pm : Vec F S32x128 .f32 ← Prog.lift (.load arg12 (Rect.unit (s := S256x128) ![r, 0] S32x128.size (inb_l hr)).toLoadRect (View.loadsAt_vmem h_S32x128))
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf (addf (addf q0 q1) q2) q3) pq) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf (maximumf (maximumf m0 m1) m2) m3) pm) shapeCasts_S32x128_S32x128) Finset.univ (View.stores_vmem_bits_univ h_S32x128 rfl) (.inl rfl))

/-- A strip of 32 rows of the last chunk, of 256 columns. -/
def stripL (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x256 .f32) (r k0 k1 : Nat) (h32 : 32 ∣ r) (hr : r + 32 ≤ 256) (hk0 : k0 + 128 ≤ 4352) (hk1 : k1 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl2 hr (by decide))) xs r k0 h32 hr hk0
  let ⟨q1, m1⟩ ← lane arg4 arg5 arg6 arg7 harg7 arg10 (extractStridedSlice S32x128 ![r, 128] acc (sl2 hr (by decide))) xs r k1 h32 hr hk1
  let pq : Vec F S32x128 .f32 ← Prog.lift (.load arg11 (Rect.unit (s := S256x128) ![r, 0] S32x128.size (inb_l hr)).toLoadRect (View.loadsAt_vmem h_S32x128))
  let pm : Vec F S32x128 .f32 ← Prog.lift (.load arg12 (Rect.unit (s := S256x128) ![r, 0] S32x128.size (inb_l hr)).toLoadRect (View.loadsAt_vmem h_S32x128))
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf q0 q1) pq) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf m0 m1) pm) shapeCasts_S32x128_S32x128) Finset.univ (View.stores_vmem_bits_univ h_S32x128 rfl) (.inl rfl))

/-- The first chunk of the projection. -/
def projF (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x512 .fp8e4m3 ← Prog.lift (.load arg3 (Rect.unit (s := S1664x4352) ![0, 0] S1664x512.size (inb_w (by decide))).toLoadRect (View.loadsAt_vmem h_S1664x512))
  have cst : FVec F S256x512 .f32 := constant S256x512 .f32 0x00000000#32
  have acc : FVec F S256x512 .f32 := matmul dot_S256x1664_S1664x512_S256x512_1_0_0_1_n_n none v28 v29 cst
  stripF arg4 arg5 arg6 arg7 harg7 arg10 arg11 arg12 arg14 acc 0 0 128 256 384 (by decide) (by decide) (by decide) (by decide) (by decide) (by decide)
  stripF arg4 arg5 arg6 arg7 harg7 arg10 arg11 arg12 arg14 acc 32 0 128 256 384 (by decide) (by decide) (by decide) (by decide) (by decide) (by decide)
  stripF arg4 arg5 arg6 arg7 harg7 arg10 arg11 arg12 arg14 acc 64 0 128 256 384 (by decide) (by decide) (by decide) (by decide) (by decide) (by decide)
  stripF arg4 arg5 arg6 arg7 harg7 arg10 arg11 arg12 arg14 acc 96 0 128 256 384 (by decide) (by decide) (by decide) (by decide) (by decide) (by decide)
  stripF arg4 arg5 arg6 arg7 harg7 arg10 arg11 arg12 arg14 acc 128 0 128 256 384 (by decide) (by decide) (by decide) (by decide) (by decide) (by decide)
  stripF arg4 arg5 arg6 arg7 harg7 arg10 arg11 arg12 arg14 acc 160 0 128 256 384 (by decide) (by decide) (by decide) (by decide) (by decide) (by decide)
  stripF arg4 arg5 arg6 arg7 harg7 arg10 arg11 arg12 arg14 acc 192 0 128 256 384 (by decide) (by decide) (by decide) (by decide) (by decide) (by decide)
  stripF arg4 arg5 arg6 arg7 harg7 arg10 arg11 arg12 arg14 acc 224 0 128 256 384 (by decide) (by decide) (by decide) (by decide) (by decide) (by decide)

/-- The chunk of the projection at column `k0`, neither first nor last. -/
def projM (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (k0 k1 k2 k3 : Nat) (hc : k0 + 512 ≤ 4352) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x512 .fp8e4m3 ← Prog.lift (.load arg3 (Rect.unit (s := S1664x4352) ![0, k0] S1664x512.size (inb_w hc)).toLoadRect (View.loadsAt_vmem h_S1664x512))
  have cst : FVec F S256x512 .f32 := constant S256x512 .f32 0x00000000#32
  have acc : FVec F S256x512 .f32 := matmul dot_S256x1664_S1664x512_S256x512_1_0_0_1_n_n none v28 v29 cst
  stripM arg4 arg5 arg6 arg7 harg7 arg10 arg11 arg12 arg14 acc 0 k0 k1 k2 k3 (by decide) (by decide) hk0 hk1 hk2 hk3
  stripM arg4 arg5 arg6 arg7 harg7 arg10 arg11 arg12 arg14 acc 32 k0 k1 k2 k3 (by decide) (by decide) hk0 hk1 hk2 hk3
  stripM arg4 arg5 arg6 arg7 harg7 arg10 arg11 arg12 arg14 acc 64 k0 k1 k2 k3 (by decide) (by decide) hk0 hk1 hk2 hk3
  stripM arg4 arg5 arg6 arg7 harg7 arg10 arg11 arg12 arg14 acc 96 k0 k1 k2 k3 (by decide) (by decide) hk0 hk1 hk2 hk3
  stripM arg4 arg5 arg6 arg7 harg7 arg10 arg11 arg12 arg14 acc 128 k0 k1 k2 k3 (by decide) (by decide) hk0 hk1 hk2 hk3
  stripM arg4 arg5 arg6 arg7 harg7 arg10 arg11 arg12 arg14 acc 160 k0 k1 k2 k3 (by decide) (by decide) hk0 hk1 hk2 hk3
  stripM arg4 arg5 arg6 arg7 harg7 arg10 arg11 arg12 arg14 acc 192 k0 k1 k2 k3 (by decide) (by decide) hk0 hk1 hk2 hk3
  stripM arg4 arg5 arg6 arg7 harg7 arg10 arg11 arg12 arg14 acc 224 k0 k1 k2 k3 (by decide) (by decide) hk0 hk1 hk2 hk3

/-- The last chunk of the projection. -/
def projL (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x256 .fp8e4m3 ← Prog.lift (.load arg3 (Rect.unit (s := S1664x4352) ![0, 4096] S1664x256.size inb_S1664x4352_S1664x256_0_4096).toLoadRect (View.loadsAt_vmem h_S1664x256))
  have cst : FVec F S256x256 .f32 := constant S256x256 .f32 0x00000000#32
  have acc : FVec F S256x256 .f32 := matmul dot_S256x1664_S1664x256_S256x256_1_0_0_1_n_n none v28 v29 cst
  stripL arg4 arg5 arg6 arg7 harg7 arg10 arg11 arg12 arg14 acc 0 4096 4224 (by decide) (by decide) (by decide) (by decide)
  stripL arg4 arg5 arg6 arg7 harg7 arg10 arg11 arg12 arg14 acc 32 4096 4224 (by decide) (by decide) (by decide) (by decide)
  stripL arg4 arg5 arg6 arg7 harg7 arg10 arg11 arg12 arg14 acc 64 4096 4224 (by decide) (by decide) (by decide) (by decide)
  stripL arg4 arg5 arg6 arg7 harg7 arg10 arg11 arg12 arg14 acc 96 4096 4224 (by decide) (by decide) (by decide) (by decide)
  stripL arg4 arg5 arg6 arg7 harg7 arg10 arg11 arg12 arg14 acc 128 4096 4224 (by decide) (by decide) (by decide) (by decide)
  stripL arg4 arg5 arg6 arg7 harg7 arg10 arg11 arg12 arg14 acc 160 4096 4224 (by decide) (by decide) (by decide) (by decide)
  stripL arg4 arg5 arg6 arg7 harg7 arg10 arg11 arg12 arg14 acc 192 4096 4224 (by decide) (by decide) (by decide) (by decide)
  stripL arg4 arg5 arg6 arg7 harg7 arg10 arg11 arg12 arg14 acc 224 4096 4224 (by decide) (by decide) (by decide) (by decide)

/-- One block of 32 rows and 128 columns of the codes. -/
def qlane (arg8 : Memref sig .tc .vmem S256x4352 .fp8e4m3) (harg8 : arg8.IsWhole) (arg10 : Memref sig .tc .vmem S256x4352 .f32) (s : FVec F S32x128 .f32) (r k : Nat) (h32 : 32 ∣ r) (hr : r + 32 ≤ 256) (hk : k + 128 ≤ 4352) : Prog (TpuEff nD τ sig (Elt F) Λ₀ .tc) PUnit := do
  let v1 : Vec F S32x128 .f32 ← Prog.lift (.load arg10 (Rect.unit (s := S256x4352) ![r, k] S32x128.size (inb_t hr hk)).toLoadRect (View.loadsAt_vmem h_S32x128))
  have v2 : FVec F S32x128 .f32 := mulf v1 s
  have lo : F .f32 := Scalar.ofBits .f32 0xC3E00000#32
  have hi : F .f32 := Scalar.ofBits .f32 0x43E00000#32
  have v3 : FVec F S32x128 .f32 := broadcast S32x128 lo
  have v4 : FVec F S32x128 .f32 := maximumf v3 v2
  have v5 : FVec F S32x128 .f32 := broadcast S32x128 hi
  have v6 : FVec F S32x128 .f32 := minimumf v5 v4
  have v7 : FVec F S32x128 .fp8e4m3 := truncf .fp8e4m3 v6 bitsLt_fp8e4m3_f32
  let v8 : Vec F S32x128 .fp8e4m3 ← Prog.lift (.load arg8 (Rect.unit (s := S256x4352) ![r, k] S32x128.size (inb_t hr hk)).toLoadRect (View.loadsAt_vmem h_S32x128))
  Prog.lift (.store arg8 (Rect.unit (s := S256x4352) ![r, k] S32x128.size (inb_t hr hk)) v7 Finset.univ (View.stores_vmem h_S32x128 (harg8.storeExact_slice rfl _ (packed_fp8 h32 (inb_t hr hk))) (fun _ => rfl)) (.inl rfl))

/-- The codes of a strip of 32 rows of a chunk of 512 columns. -/
def qstrip (arg8 : Memref sig .tc .vmem S256x4352 .fp8e4m3) (harg8 : arg8.IsWhole) (arg10 : Memref sig .tc .vmem S256x4352 .f32) (arg13 : Memref sig .tc .vmem S256x128 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let s : Vec F S32x128 .f32 ← Prog.lift (.load arg13 (Rect.unit (s := S256x128) ![r, 0] S32x128.size (inb_l hr)).toLoadRect (View.loadsAt_vmem h_S32x128))
  qlane arg8 harg8 arg10 s r k0 h32 hr hk0
  qlane arg8 harg8 arg10 s r k1 h32 hr hk1
  qlane arg8 harg8 arg10 s r k2 h32 hr hk2
  qlane arg8 harg8 arg10 s r k3 h32 hr hk3

/-- The codes of a strip of 32 rows of the last chunk, of 256 columns. -/
def qstripL (arg8 : Memref sig .tc .vmem S256x4352 .fp8e4m3) (harg8 : arg8.IsWhole) (arg10 : Memref sig .tc .vmem S256x4352 .f32) (arg13 : Memref sig .tc .vmem S256x128 .f32) (r k0 k1 : Nat) (h32 : 32 ∣ r) (hr : r + 32 ≤ 256) (hk0 : k0 + 128 ≤ 4352) (hk1 : k1 + 128 ≤ 4352) : Prog (TpuEff nD τ sig (Elt F) Λ₀ .tc) PUnit := do
  let s : Vec F S32x128 .f32 ← Prog.lift (.load arg13 (Rect.unit (s := S256x128) ![r, 0] S32x128.size (inb_l hr)).toLoadRect (View.loadsAt_vmem h_S32x128))
  qlane arg8 harg8 arg10 s r k0 h32 hr hk0
  qlane arg8 harg8 arg10 s r k1 h32 hr hk1

/-- The codes of the chunk at column `k0`. -/
def quant (arg8 : Memref sig .tc .vmem S256x4352 .fp8e4m3) (harg8 : arg8.IsWhole) (arg10 : Memref sig .tc .vmem S256x4352 .f32) (arg13 : Memref sig .tc .vmem S256x128 .f32) (k0 k1 k2 k3 : Nat) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  qstrip arg8 harg8 arg10 arg13 0 k0 k1 k2 k3 (by decide) (by decide) hk0 hk1 hk2 hk3
  qstrip arg8 harg8 arg10 arg13 32 k0 k1 k2 k3 (by decide) (by decide) hk0 hk1 hk2 hk3
  qstrip arg8 harg8 arg10 arg13 64 k0 k1 k2 k3 (by decide) (by decide) hk0 hk1 hk2 hk3
  qstrip arg8 harg8 arg10 arg13 96 k0 k1 k2 k3 (by decide) (by decide) hk0 hk1 hk2 hk3
  qstrip arg8 harg8 arg10 arg13 128 k0 k1 k2 k3 (by decide) (by decide) hk0 hk1 hk2 hk3
  qstrip arg8 harg8 arg10 arg13 160 k0 k1 k2 k3 (by decide) (by decide) hk0 hk1 hk2 hk3
  qstrip arg8 harg8 arg10 arg13 192 k0 k1 k2 k3 (by decide) (by decide) hk0 hk1 hk2 hk3
  qstrip arg8 harg8 arg10 arg13 224 k0 k1 k2 k3 (by decide) (by decide) hk0 hk1 hk2 hk3

/-- The codes of the last chunk. -/
def quantL (arg8 : Memref sig .tc .vmem S256x4352 .fp8e4m3) (harg8 : arg8.IsWhole) (arg10 : Memref sig .tc .vmem S256x4352 .f32) (arg13 : Memref sig .tc .vmem S256x128 .f32) : Prog (TpuEff nD τ sig (Elt F) Λ₀ .tc) PUnit := do
  qstripL arg8 harg8 arg10 arg13 0 4096 4224 (by decide) (by decide) (by decide) (by decide)
  qstripL arg8 harg8 arg10 arg13 32 4096 4224 (by decide) (by decide) (by decide) (by decide)
  qstripL arg8 harg8 arg10 arg13 64 4096 4224 (by decide) (by decide) (by decide) (by decide)
  qstripL arg8 harg8 arg10 arg13 96 4096 4224 (by decide) (by decide) (by decide) (by decide)
  qstripL arg8 harg8 arg10 arg13 128 4096 4224 (by decide) (by decide) (by decide) (by decide)
  qstripL arg8 harg8 arg10 arg13 160 4096 4224 (by decide) (by decide) (by decide) (by decide)
  qstripL arg8 harg8 arg10 arg13 192 4096 4224 (by decide) (by decide) (by decide) (by decide)
  qstripL arg8 harg8 arg10 arg13 224 4096 4224 (by decide) (by decide) (by decide) (by decide)

/-- The statistics of 128 rows: the factor of the codes and the scale. -/
def fin1 (arg9 : Memref sig .tc .vmem S1x1x256 .f32) (arg11 : Memref sig .tc .vmem S256x128 .f32) (arg12 : Memref sig .tc .vmem S256x128 .f32) (arg13 : Memref sig .tc .vmem S256x128 .f32) (r : Nat) (hr : r + 128 ≤ 256) : Prog (TpuEff nD τ sig (Elt F) Λ₀ .tc) PUnit := do
  let v11 : Vec F S128x128 .f32 ← Prog.lift (.load arg11 (Rect.unit (s := S256x128) ![r, 0] S128x128.size (inb_h hr)).toLoadRect (View.loadsAt_vmem h_S128x128))
  have v12 : FVec F S128 .f32 := multiReduction .add [1] S128 v11 0x00000000#32 reduces_S128x128_S128 (.inl rfl) rfl
  have v13 : FVec F S128x1 .f32 := shapeCast S128x1 v12 shapeCasts_S128_S128x1
  let v14 : Vec F S128x128 .f32 ← Prog.lift (.load arg12 (Rect.unit (s := S256x128) ![r, 0] S128x128.size (inb_h hr)).toLoadRect (View.loadsAt_vmem h_S128x128))
  have v15 : FVec F S128 .f32 := multiReduction .maximumf [1] S128 v14 0xFF800000#32 reduces_S128x128_S128 (.inl rfl) rfl
  have v16 : FVec F S128x1 .f32 := shapeCast S128x1 v15 shapeCasts_S128_S128x1
  have v17 : FVec F S128x1 .f32 := shapeCast S128x1 v13 shapeCasts_S128x1_S128x1
  have v18 : FVec F S128x128 .f32 := broadcastTo S128x128 v17 broadcasts_S128x1_S128x128
  have v19 : FVec F S128x1 .f32 := shapeCast S128x1 v16 shapeCasts_S128x1_S128x1
  have v20 : FVec F S128x128 .f32 := broadcastTo S128x128 v19 broadcasts_S128x1_S128x128
  have cst_9 : F .f32 := Scalar.ofBits .f32 0x3970F0F1#32
  have v21 : FVec F S128x128 .f32 := broadcast S128x128 cst_9
  have v22 : FVec F S128x128 .f32 := mulf v18 v21
  have cst_10 : F .f32 := Scalar.ofBits .f32 0x358637BD#32
  have v23 : FVec F S128x128 .f32 := broadcast S128x128 cst_10
  have v24 : FVec F S128x128 .f32 := addf v22 v23
  have v25 : FVec F S128x128 .f32 := rsqrt v24
  have v26 : FVec F S128x128 .f32 := mulf v20 v25
  have cst_11 : F .f32 := Scalar.ofBits .f32 0x3B124925#32
  have v27 : FVec F S128x128 .f32 := broadcast S128x128 cst_11
  have v28 : FVec F S128x128 .f32 := mulf v26 v27
  have cst_12 : F .f32 := Scalar.ofBits .f32 0x00000000#32
  have v29 : FVec F S128x128 .f32 := broadcast S128x128 cst_12
  have v30 : IVec S128x128 1 := cmpf .oeq v28 v29
  have b0 : IVec S128x128 32 := broadcast S128x128 0#32
  have u0 : IVec S128x128 32 := addi b0 (broadcast S128x128 128#32)
  have b1 : IVec S128x128 32 := select (cmpf .olt v28 (bitcastToFloat .f32 (shli u0 (broadcast S128x128 23#32)))) b0 u0
  have u1 : IVec S128x128 32 := addi b1 (broadcast S128x128 64#32)
  have b2 : IVec S128x128 32 := select (cmpf .olt v28 (bitcastToFloat .f32 (shli u1 (broadcast S128x128 23#32)))) b1 u1
  have u2 : IVec S128x128 32 := addi b2 (broadcast S128x128 32#32)
  have b3 : IVec S128x128 32 := select (cmpf .olt v28 (bitcastToFloat .f32 (shli u2 (broadcast S128x128 23#32)))) b2 u2
  have u3 : IVec S128x128 32 := addi b3 (broadcast S128x128 16#32)
  have b4 : IVec S128x128 32 := select (cmpf .olt v28 (bitcastToFloat .f32 (shli u3 (broadcast S128x128 23#32)))) b3 u3
  have u4 : IVec S128x128 32 := addi b4 (broadcast S128x128 8#32)
  have b5 : IVec S128x128 32 := select (cmpf .olt v28 (bitcastToFloat .f32 (shli u4 (broadcast S128x128 23#32)))) b4 u4
  have u5 : IVec S128x128 32 := addi b5 (broadcast S128x128 4#32)
  have b6 : IVec S128x128 32 := select (cmpf .olt v28 (bitcastToFloat .f32 (shli u5 (broadcast S128x128 23#32)))) b5 u5
  have u6 : IVec S128x128 32 := addi b6 (broadcast S128x128 2#32)
  have b7 : IVec S128x128 32 := select (cmpf .olt v28 (bitcastToFloat .f32 (shli u6 (broadcast S128x128 23#32)))) b6 u6
  have u7 : IVec S128x128 32 := addi b7 (broadcast S128x128 1#32)
  have b8 : IVec S128x128 32 := select (cmpf .olt v28 (bitcastToFloat .f32 (shli u7 (broadcast S128x128 23#32)))) b7 u7
  have v105 : IVec S128x128 32 := subi b8 (broadcast S128x128 126#32)
  have v107 : IVec S128x128 32 := select v30 (broadcast S128x128 0#32) v105
  have v109 : IVec S128x128 32 := addi v107 (broadcast S128x128 127#32)
  have v112 : FVec F S128x128 .f32 := bitcastToFloat .f32 (shli v109 (broadcast S128x128 23#32))
  have v114 : IVec S128x128 32 := subi (broadcast S128x128 127#32) v107
  have v117 : FVec F S128x128 .f32 := bitcastToFloat .f32 (shli v114 (broadcast S128x128 23#32))
  have v118 : FVec F S128x128 .f32 := mulf v25 v117
  let v119 : Vec F S128x128 .f32 ← Prog.lift (.load arg13 (Rect.unit (s := S256x128) ![r, 0] S128x128.size (inb_h hr)).toLoadRect (View.loadsAt_vmem h_S128x128))
  Prog.lift (.store arg13 (Rect.unit (s := S256x128) ![r, 0] S128x128.size (inb_h hr)) (shapeCast S128x128 v118 shapeCasts_S128x128_S128x128) Finset.univ (View.stores_vmem_bits_univ h_S128x128 rfl) (.inl rfl))
  have v122 : FVec F S128x128 .f32 := transpose S128x128 [1, 0] v112 transposes_S128x128_p1_0_S128x128
  have v123 : FVec F S1x128 .f32 := extractStridedSlice S1x128 ![0, 0] v122 slices_S128x128_o0_0_S1x128
  let v124 : Vec F S1x1x128 .f32 ← Prog.lift (.load arg9 (Rect.unit (s := S1x1x256) ![0, 0, r] S1x1x128.size (inb_x hr)).toLoadRect (View.loadsAt_vmem h_S1x1x128))
  Prog.lift (.store arg9 (Rect.unit (s := S1x1x256) ![0, 0, r] S1x1x128.size (inb_x hr)) (shapeCast S1x1x128 v123 shapeCasts_S1x128_S1x1x128) Finset.univ (View.stores_vmem_bits_univ h_S1x1x128 rfl) (.inl rfl))

/-- The statistics of the tile. -/
def fin (arg9 : Memref sig .tc .vmem S1x1x256 .f32) (arg11 : Memref sig .tc .vmem S256x128 .f32) (arg12 : Memref sig .tc .vmem S256x128 .f32) (arg13 : Memref sig .tc .vmem S256x128 .f32) : Prog (TpuEff nD τ sig (Elt F) Λ₀ .tc) PUnit := do
  fin1 arg9 arg11 arg12 arg13 0 (by decide)
  fin1 arg9 arg11 arg12 arg13 128 (by decide)

/-- The first point: the first tile is projected. -/
def brA (arg1 : Memref sig .tc .vmem S1x1x256 .f32) (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  loadXs arg1 arg14
  projF arg2 arg3 arg4 arg5 arg6 arg7 harg7 arg10 arg11 arg12 arg14
  projM arg2 arg3 arg4 arg5 arg6 arg7 harg7 arg10 arg11 arg12 arg14 512 640 768 896 (by decide) (by decide) (by decide) (by decide) (by decide)
  projM arg2 arg3 arg4 arg5 arg6 arg7 harg7 arg10 arg11 arg12 arg14 1024 1152 1280 1408 (by decide) (by decide) (by decide) (by decide) (by decide)
  projM arg2 arg3 arg4 arg5 arg6 arg7 harg7 arg10 arg11 arg12 arg14 1536 1664 1792 1920 (by decide) (by decide) (by decide) (by decide) (by decide)
  projM arg2 arg3 arg4 arg5 arg6 arg7 harg7 arg10 arg11 arg12 arg14 2048 2176 2304 2432 (by decide) (by decide) (by decide) (by decide) (by decide)
  projM arg2 arg3 arg4 arg5 arg6 arg7 harg7 arg10 arg11 arg12 arg14 2560 2688 2816 2944 (by decide) (by decide) (by decide) (by decide) (by decide)
  projM arg2 arg3 arg4 arg5 arg6 arg7 harg7 arg10 arg11 arg12 arg14 3072 3200 3328 3456 (by decide) (by decide) (by decide) (by decide) (by decide)
  projM arg2 arg3 arg4 arg5 arg6 arg7 harg7 arg10 arg11 arg12 arg14 3584 3712 3840 3968 (by decide) (by decide) (by decide) (by decide) (by decide)
  projL arg2 arg3 arg4 arg5 arg6 arg7 harg7 arg10 arg11 arg12 arg14

/-- A point between the first and the last: the tile before is quantised, chunk by chunk, and the next is projected. -/
def brB (arg1 : Memref sig .tc .vmem S1x1x256 .f32) (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg8 : Memref sig .tc .vmem S256x4352 .fp8e4m3) (harg8 : arg8.IsWhole) (arg9 : Memref sig .tc .vmem S1x1x256 .f32) (arg10 : Memref sig .tc .vmem S256x4352 .f32) (arg11 : Memref sig .tc .vmem S256x128 .f32) (arg12 : Memref sig .tc .vmem S256x128 .f32) (arg13 : Memref sig .tc .vmem S256x128 .f32) (arg14 : Memref sig .tc .vmem S256x128 .f32) : Prog (TpuEff nD τ sig (Elt F) Λ₀ .tc) PUnit := do
  fin arg9 arg11 arg12 arg13
  loadXs arg1 arg14
  quant arg8 harg8 arg10 arg13 0 128 256 384 (by decide) (by decide) (by decide) (by decide)
  projF arg2 arg3 arg4 arg5 arg6 arg7 harg7 arg10 arg11 arg12 arg14
  quant arg8 harg8 arg10 arg13 512 640 768 896 (by decide) (by decide) (by decide) (by decide)
  projM arg2 arg3 arg4 arg5 arg6 arg7 harg7 arg10 arg11 arg12 arg14 512 640 768 896 (by decide) (by decide) (by decide) (by decide) (by decide)
  quant arg8 harg8 arg10 arg13 1024 1152 1280 1408 (by decide) (by decide) (by decide) (by decide)
  projM arg2 arg3 arg4 arg5 arg6 arg7 harg7 arg10 arg11 arg12 arg14 1024 1152 1280 1408 (by decide) (by decide) (by decide) (by decide) (by decide)
  quant arg8 harg8 arg10 arg13 1536 1664 1792 1920 (by decide) (by decide) (by decide) (by decide)
  projM arg2 arg3 arg4 arg5 arg6 arg7 harg7 arg10 arg11 arg12 arg14 1536 1664 1792 1920 (by decide) (by decide) (by decide) (by decide) (by decide)
  quant arg8 harg8 arg10 arg13 2048 2176 2304 2432 (by decide) (by decide) (by decide) (by decide)
  projM arg2 arg3 arg4 arg5 arg6 arg7 harg7 arg10 arg11 arg12 arg14 2048 2176 2304 2432 (by decide) (by decide) (by decide) (by decide) (by decide)
  quant arg8 harg8 arg10 arg13 2560 2688 2816 2944 (by decide) (by decide) (by decide) (by decide)
  projM arg2 arg3 arg4 arg5 arg6 arg7 harg7 arg10 arg11 arg12 arg14 2560 2688 2816 2944 (by decide) (by decide) (by decide) (by decide) (by decide)
  quant arg8 harg8 arg10 arg13 3072 3200 3328 3456 (by decide) (by decide) (by decide) (by decide)
  projM arg2 arg3 arg4 arg5 arg6 arg7 harg7 arg10 arg11 arg12 arg14 3072 3200 3328 3456 (by decide) (by decide) (by decide) (by decide) (by decide)
  quant arg8 harg8 arg10 arg13 3584 3712 3840 3968 (by decide) (by decide) (by decide) (by decide)
  projM arg2 arg3 arg4 arg5 arg6 arg7 harg7 arg10 arg11 arg12 arg14 3584 3712 3840 3968 (by decide) (by decide) (by decide) (by decide) (by decide)
  quantL arg8 harg8 arg10 arg13
  projL arg2 arg3 arg4 arg5 arg6 arg7 harg7 arg10 arg11 arg12 arg14

/-- The last point: the last tile is quantised. -/
def brC (arg8 : Memref sig .tc .vmem S256x4352 .fp8e4m3) (harg8 : arg8.IsWhole) (arg9 : Memref sig .tc .vmem S1x1x256 .f32) (arg10 : Memref sig .tc .vmem S256x4352 .f32) (arg11 : Memref sig .tc .vmem S256x128 .f32) (arg12 : Memref sig .tc .vmem S256x128 .f32) (arg13 : Memref sig .tc .vmem S256x128 .f32) : Prog (TpuEff nD τ sig (Elt F) Λ₀ .tc) PUnit := do
  fin arg9 arg11 arg12 arg13
  quant arg8 harg8 arg10 arg13 0 128 256 384 (by decide) (by decide) (by decide) (by decide)
  quant arg8 harg8 arg10 arg13 512 640 768 896 (by decide) (by decide) (by decide) (by decide)
  quant arg8 harg8 arg10 arg13 1024 1152 1280 1408 (by decide) (by decide) (by decide) (by decide)
  quant arg8 harg8 arg10 arg13 1536 1664 1792 1920 (by decide) (by decide) (by decide) (by decide)
  quant arg8 harg8 arg10 arg13 2048 2176 2304 2432 (by decide) (by decide) (by decide) (by decide)
  quant arg8 harg8 arg10 arg13 2560 2688 2816 2944 (by decide) (by decide) (by decide) (by decide)
  quant arg8 harg8 arg10 arg13 3072 3200 3328 3456 (by decide) (by decide) (by decide) (by decide)
  quant arg8 harg8 arg10 arg13 3584 3712 3840 3968 (by decide) (by decide) (by decide) (by decide)
  quantL arg8 harg8 arg10 arg13

/-- The kernel's body, block by block. -/
def body (i : grid0.Coords) (arg1 : Memref sig .tc .vmem S1x1x256 .f32) (harg1 : arg1.IsWhole) (arg2 : Memref sig .tc .vmem S256x1664 .fp8e4m3) (harg2 : arg2.IsWhole) (arg3 : Memref sig .tc .vmem S1664x4352 .fp8e4m3) (harg3 : arg3.IsWhole) (arg4 : Memref sig .tc .vmem S1x4352 .f32) (harg4 : arg4.IsWhole) (arg5 : Memref sig .tc .vmem S256x4352 .bf16) (harg5 : arg5.IsWhole) (arg6 : Memref sig .tc .vmem S1x4352 .f32) (harg6 : arg6.IsWhole) (arg7 : Memref sig .tc .vmem S256x4352 .bf16) (harg7 : arg7.IsWhole) (arg8 : Memref sig .tc .vmem S256x4352 .fp8e4m3) (harg8 : arg8.IsWhole) (arg9 : Memref sig .tc .vmem S1x1x256 .f32) (harg9 : arg9.IsWhole) (arg10 : Memref sig .tc .vmem S256x4352 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) : Prog (TpuEff nD τ sig (Elt F) Λ₀ .tc) PUnit := do
  if k0_h1 : k0_cond1 i = 1#1 then do
    brA arg1 arg2 arg3 arg4 arg5 arg6 arg7 harg7 arg10 arg11 arg12 arg14
  else do
    pure ⟨⟩
  if k0_h2 : k0_cond2 i = 1#1 then do
    brB arg1 arg2 arg3 arg4 arg5 arg6 arg7 harg7 arg8 harg8 arg9 arg10 arg11 arg12 arg13 arg14
  else do
    pure ⟨⟩
  if k0_h3 : k0_cond3 i = 1#1 then do
    brC arg8 harg8 arg9 arg10 arg11 arg12 arg13
  else do
    pure ⟨⟩
  pure ⟨⟩

end Cert.Kernel
-- ==== Proof.KernelRuns.lean ====
/- Running a block of the kernel: what the fourteen arrays hold before and after, as a relation between states, with one rule for each
   load and store. -/
module

public import proofs.«01_k».proof.Proof.KernelBody
public import proofs.«01_k».proof.Proof.Gen.Kernel.Frame

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ (UR sig nD τ) ℕ

/-- The kernel's fourteen arrays. -/
structure Bufs where
  a1 : Memref sig .tc .vmem S1x1x256 .f32
  a2 : Memref sig .tc .vmem S256x1664 .fp8e4m3
  a3 : Memref sig .tc .vmem S1664x4352 .fp8e4m3
  a4 : Memref sig .tc .vmem S1x4352 .f32
  a5 : Memref sig .tc .vmem S256x4352 .bf16
  a6 : Memref sig .tc .vmem S1x4352 .f32
  a7 : Memref sig .tc .vmem S256x4352 .bf16
  a8 : Memref sig .tc .vmem S256x4352 .fp8e4m3
  a9 : Memref sig .tc .vmem S1x1x256 .f32
  a10 : Memref sig .tc .vmem S256x4352 .f32
  a11 : Memref sig .tc .vmem S256x128 .f32
  a12 : Memref sig .tc .vmem S256x128 .f32
  a13 : Memref sig .tc .vmem S256x128 .f32
  a14 : Memref sig .tc .vmem S256x128 .f32
  h7 : a7.IsWhole
  h8 : a8.IsWhole

variable (F) in
/-- What the arrays hold. -/
structure St where
  x1 : Vec F S1x1x256 .f32
  x2 : Vec F S256x1664 .fp8e4m3
  x3 : Vec F S1664x4352 .fp8e4m3
  x4 : Vec F S1x4352 .f32
  x5 : Vec F S256x4352 .bf16
  x6 : Vec F S1x4352 .f32
  x7 : Vec F S256x4352 .bf16
  x8 : Vec F S256x4352 .fp8e4m3
  x9 : Vec F S1x1x256 .f32
  x10 : Vec F S256x4352 .f32
  x11 : Vec F S256x128 .f32
  x12 : Vec F S256x128 .f32
  x13 : Vec F S256x128 .f32
  x14 : Vec F S256x128 .f32

/-- The arrays owned at a state. -/
def Own (c : Dev nD) (B : Bufs) (st : St F) : sProp 𝕄 :=
  iprop(owns (c : Thread nD τ) B.a1 fullShare st.x1 ∗ owns (c : Thread nD τ) B.a2 fullShare st.x2 ∗ owns (c : Thread nD τ) B.a3 fullShare st.x3 ∗ owns (c : Thread nD τ) B.a4 fullShare st.x4 ∗ owns (c : Thread nD τ) B.a5 fullShare st.x5 ∗ owns (c : Thread nD τ) B.a6 fullShare st.x6 ∗ owns (c : Thread nD τ) B.a7 fullShare st.x7 ∗ owns (c : Thread nD τ) B.a8 fullShare st.x8 ∗ owns (c : Thread nD τ) B.a9 fullShare st.x9 ∗ owns (c : Thread nD τ) B.a10 fullShare st.x10 ∗ owns (c : Thread nD τ) B.a11 fullShare st.x11 ∗ owns (c : Thread nD τ) B.a12 fullShare st.x12 ∗ owns (c : Thread nD τ) B.a13 fullShare st.x13 ∗ owns (c : Thread nD τ) B.a14 fullShare st.x14)

/-- The program runs from the state `st` to the state `st'` with result `a`. -/
def Runs {α : Type} (B : Bufs) (p : Prog (TpuEff nD τ sig (Elt F) Λ₀ .tc) α) (st : St F) (a : α) (st' : St F) : Prop :=
  ∀ (c : Dev nD) (K : α → sProp 𝕄), iprop(Own c B st ∗ (Own c B st' -∗ K a)) ⊢ wp frame (wpE (defs₀ (F := F)) Variants.none (c : Thread nD τ) none) Set.univ p K

theorem Runs.pure {α : Type} (B : Bufs) (st : St F) (a : α) : Runs B (pure a : Prog (TpuEff nD τ sig (Elt F) Λ₀ .tc) α) st a st := by
  intro c K
  iintro ⟨H, Hk⟩
  iapply (show iprop(Own c B st ∗ (Own c B st -∗ K a)) ⊢ wp frame (wpE (defs₀ (F := F)) Variants.none (c : Thread nD τ) none) Set.univ (Pure.pure a : Prog (TpuEff nD τ sig (Elt F) Λ₀ .tc) α) K from wand_elim_right.trans (le_wp_ret _ _ _ a K))
  isplitl [H]
  · iexact H
  · iexact Hk

theorem Runs.bind {α β : Type} {B : Bufs} {p : Prog (TpuEff nD τ sig (Elt F) Λ₀ .tc) α} {f : α → Prog (TpuEff nD τ sig (Elt F) Λ₀ .tc) β} {st st' st'' : St F} {a : α} {b : β}
    (h : Runs B p st a st') (h' : Runs B (f a) st' b st'') : Runs B (p >>= f) st b st'' := by
  intro c K
  rw [wp_bind]
  iintro ⟨H, Hk⟩
  iapply (h c _)
  isplitl [H]
  · iexact H
  iintro H
  iapply (h' c K)
  isplitl [H]
  · iexact H
  · iexact Hk

/-- A load through an owned memref reads the rectangle of what it holds. -/
theorem load_owns (c : Dev nD) {s : Shape} {e : EltTy} (m : Memref sig .tc .vmem s e) (r : Rect s) (hl : m.view.LoadsAt r.toLoadRect) (X : Vec F s e)
    (K : (r.shape.Idx → Elt F e) → sProp 𝕄) :
    iprop(owns (c : Thread nD τ) m fullShare X ∗ (owns (c : Thread nD τ) m fullShare X -∗ K (fun i => X (r.emb i))))
      ⊢ wp frame (wpE (defs₀ (F := F)) Variants.none (c : Thread nD τ) none) Set.univ (Prog.lift (.load m r.toLoadRect hl) : Prog (TpuEff nD τ sig (Elt F) Λ₀ .tc) _) K := by
  unfold owns
  iintro ⟨⟨%f, %hf, H⟩, Hk⟩
  subst hf
  iapply (wp_load_rect (defs := defs₀ (F := F)) Variants.none (c : Thread nD τ) none Set.univ (m := m) (r := r) (hl := hl) (m.view.set_slice_subset r)) $$ [H]
  · iexact H
  iintro H
  iapply (le_wp_ret _ _ _ _ _)
  rw [show (m.access r).read (Elt F) f = fun i => m.view.read (Elt F) f (r.emb i) from rfl]
  iapply Hk
  iexists f
  isplitr
  · ipureintro; rfl
  · iexact H

/-- A store through an owned memref replaces the rectangle of what it holds. -/
theorem store_owns (c : Dev nD) {s : Shape} {e : EltTy} (m : Memref sig .tc .vmem s e) (r : Rect s) (w : r.shape.Idx → Elt F e)
    (hx : (m.access r).Stores Finset.univ) (hm : Finset.univ = Finset.univ ∨ ∀ a, r.stride a = 1) (X : Vec F s e) (K : PUnit → sProp 𝕄) :
    iprop(owns (c : Thread nD τ) m fullShare X ∗ (owns (c : Thread nD τ) m fullShare (r.overlay X w) -∗ K ⟨⟩))
      ⊢ wp frame (wpE (defs₀ (F := F)) Variants.none (c : Thread nD τ) none) Set.univ (Prog.lift (.store m r w Finset.univ hx hm) : Prog (TpuEff nD τ sig (Elt F) Λ₀ .tc) _) K := by
  unfold owns
  iintro ⟨⟨%f, %hf, H⟩, Hk⟩
  subst hf
  iapply (wp_store (defs := defs₀ (F := F)) Variants.none (c : Thread nD τ) none Set.univ (m := m) (r := r) (w := w) (hx := hx) (hm := hm)
    (show (m.access r).setOn Finset.univ ⊆ m.view.set from m.view.set_slice_subset r)) $$ [H]
  · iexact H
  iintro H
  iapply (le_wp_ret _ _ _ _ _)
  iapply Hk
  iexists ((m.access r).write (Elt F) f w Finset.univ)
  isplitr
  · ipureintro
    funext j
    by_cases hj : j ∈ r.set
    · obtain ⟨i, rfl⟩ : ∃ i, r.emb i = j := by
        rw [← Rect.map_emb_univ] at hj; simpa using hj
      rw [Rect.overlay_emb]
      exact congrFun ((m.access r).read_write_univ f w) i
    · rw [Rect.overlay_of_not_mem _ _ _ hj]
      exact m.view.read_slice_write_of_not_mem r f w Finset.univ (by rw [Rect.map_emb_univ]; exact hj)
  · iexact H

theorem Runs.load1 (B : Bufs) (st : St F) (r : Rect S1x1x256) (hl : B.a1.view.LoadsAt r.toLoadRect) :
    Runs B (Prog.lift (.load B.a1 r.toLoadRect hl) : Prog (TpuEff nD τ sig (Elt F) Λ₀ .tc) _) st (fun i => st.x1 (r.emb i)) st := by
  intro c K
  unfold Own
  iintro ⟨⟨H1, H2, H3, H4, H5, H6, H7, H8, H9, H10, H11, H12, H13, H14⟩, Hk⟩
  iapply (load_owns c B.a1 r hl st.x1 K)
  isplitl [H1]
  · iexact H1
  iintro H1
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load2 (B : Bufs) (st : St F) (r : Rect S256x1664) (hl : B.a2.view.LoadsAt r.toLoadRect) :
    Runs B (Prog.lift (.load B.a2 r.toLoadRect hl) : Prog (TpuEff nD τ sig (Elt F) Λ₀ .tc) _) st (fun i => st.x2 (r.emb i)) st := by
  intro c K
  unfold Own
  iintro ⟨⟨H1, H2, H3, H4, H5, H6, H7, H8, H9, H10, H11, H12, H13, H14⟩, Hk⟩
  iapply (load_owns c B.a2 r hl st.x2 K)
  isplitl [H2]
  · iexact H2
  iintro H2
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load3 (B : Bufs) (st : St F) (r : Rect S1664x4352) (hl : B.a3.view.LoadsAt r.toLoadRect) :
    Runs B (Prog.lift (.load B.a3 r.toLoadRect hl) : Prog (TpuEff nD τ sig (Elt F) Λ₀ .tc) _) st (fun i => st.x3 (r.emb i)) st := by
  intro c K
  unfold Own
  iintro ⟨⟨H1, H2, H3, H4, H5, H6, H7, H8, H9, H10, H11, H12, H13, H14⟩, Hk⟩
  iapply (load_owns c B.a3 r hl st.x3 K)
  isplitl [H3]
  · iexact H3
  iintro H3
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load4 (B : Bufs) (st : St F) (r : Rect S1x4352) (hl : B.a4.view.LoadsAt r.toLoadRect) :
    Runs B (Prog.lift (.load B.a4 r.toLoadRect hl) : Prog (TpuEff nD τ sig (Elt F) Λ₀ .tc) _) st (fun i => st.x4 (r.emb i)) st := by
  intro c K
  unfold Own
  iintro ⟨⟨H1, H2, H3, H4, H5, H6, H7, H8, H9, H10, H11, H12, H13, H14⟩, Hk⟩
  iapply (load_owns c B.a4 r hl st.x4 K)
  isplitl [H4]
  · iexact H4
  iintro H4
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load5 (B : Bufs) (st : St F) (r : Rect S256x4352) (hl : B.a5.view.LoadsAt r.toLoadRect) :
    Runs B (Prog.lift (.load B.a5 r.toLoadRect hl) : Prog (TpuEff nD τ sig (Elt F) Λ₀ .tc) _) st (fun i => st.x5 (r.emb i)) st := by
  intro c K
  unfold Own
  iintro ⟨⟨H1, H2, H3, H4, H5, H6, H7, H8, H9, H10, H11, H12, H13, H14⟩, Hk⟩
  iapply (load_owns c B.a5 r hl st.x5 K)
  isplitl [H5]
  · iexact H5
  iintro H5
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load6 (B : Bufs) (st : St F) (r : Rect S1x4352) (hl : B.a6.view.LoadsAt r.toLoadRect) :
    Runs B (Prog.lift (.load B.a6 r.toLoadRect hl) : Prog (TpuEff nD τ sig (Elt F) Λ₀ .tc) _) st (fun i => st.x6 (r.emb i)) st := by
  intro c K
  unfold Own
  iintro ⟨⟨H1, H2, H3, H4, H5, H6, H7, H8, H9, H10, H11, H12, H13, H14⟩, Hk⟩
  iapply (load_owns c B.a6 r hl st.x6 K)
  isplitl [H6]
  · iexact H6
  iintro H6
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load7 (B : Bufs) (st : St F) (r : Rect S256x4352) (hl : B.a7.view.LoadsAt r.toLoadRect) :
    Runs B (Prog.lift (.load B.a7 r.toLoadRect hl) : Prog (TpuEff nD τ sig (Elt F) Λ₀ .tc) _) st (fun i => st.x7 (r.emb i)) st := by
  intro c K
  unfold Own
  iintro ⟨⟨H1, H2, H3, H4, H5, H6, H7, H8, H9, H10, H11, H12, H13, H14⟩, Hk⟩
  iapply (load_owns c B.a7 r hl st.x7 K)
  isplitl [H7]
  · iexact H7
  iintro H7
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store7 (B : Bufs) (st : St F) (r : Rect S256x4352) (w : r.shape.Idx → Elt F .bf16) (hx : (B.a7.access r).Stores Finset.univ)
    (hm : Finset.univ = Finset.univ ∨ ∀ a, r.stride a = 1) :
    Runs B (Prog.lift (.store B.a7 r w Finset.univ hx hm) : Prog (TpuEff nD τ sig (Elt F) Λ₀ .tc) _) st ⟨⟩ { st with x7 := r.overlay st.x7 w } := by
  intro c K
  unfold Own
  iintro ⟨⟨H1, H2, H3, H4, H5, H6, H7, H8, H9, H10, H11, H12, H13, H14⟩, Hk⟩
  iapply (store_owns c B.a7 r w hx hm st.x7 K)
  isplitl [H7]
  · iexact H7
  iintro H7
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load8 (B : Bufs) (st : St F) (r : Rect S256x4352) (hl : B.a8.view.LoadsAt r.toLoadRect) :
    Runs B (Prog.lift (.load B.a8 r.toLoadRect hl) : Prog (TpuEff nD τ sig (Elt F) Λ₀ .tc) _) st (fun i => st.x8 (r.emb i)) st := by
  intro c K
  unfold Own
  iintro ⟨⟨H1, H2, H3, H4, H5, H6, H7, H8, H9, H10, H11, H12, H13, H14⟩, Hk⟩
  iapply (load_owns c B.a8 r hl st.x8 K)
  isplitl [H8]
  · iexact H8
  iintro H8
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store8 (B : Bufs) (st : St F) (r : Rect S256x4352) (w : r.shape.Idx → Elt F .fp8e4m3) (hx : (B.a8.access r).Stores Finset.univ)
    (hm : Finset.univ = Finset.univ ∨ ∀ a, r.stride a = 1) :
    Runs B (Prog.lift (.store B.a8 r w Finset.univ hx hm) : Prog (TpuEff nD τ sig (Elt F) Λ₀ .tc) _) st ⟨⟩ { st with x8 := r.overlay st.x8 w } := by
  intro c K
  unfold Own
  iintro ⟨⟨H1, H2, H3, H4, H5, H6, H7, H8, H9, H10, H11, H12, H13, H14⟩, Hk⟩
  iapply (store_owns c B.a8 r w hx hm st.x8 K)
  isplitl [H8]
  · iexact H8
  iintro H8
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load9 (B : Bufs) (st : St F) (r : Rect S1x1x256) (hl : B.a9.view.LoadsAt r.toLoadRect) :
    Runs B (Prog.lift (.load B.a9 r.toLoadRect hl) : Prog (TpuEff nD τ sig (Elt F) Λ₀ .tc) _) st (fun i => st.x9 (r.emb i)) st := by
  intro c K
  unfold Own
  iintro ⟨⟨H1, H2, H3, H4, H5, H6, H7, H8, H9, H10, H11, H12, H13, H14⟩, Hk⟩
  iapply (load_owns c B.a9 r hl st.x9 K)
  isplitl [H9]
  · iexact H9
  iintro H9
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store9 (B : Bufs) (st : St F) (r : Rect S1x1x256) (w : r.shape.Idx → Elt F .f32) (hx : (B.a9.access r).Stores Finset.univ)
    (hm : Finset.univ = Finset.univ ∨ ∀ a, r.stride a = 1) :
    Runs B (Prog.lift (.store B.a9 r w Finset.univ hx hm) : Prog (TpuEff nD τ sig (Elt F) Λ₀ .tc) _) st ⟨⟩ { st with x9 := r.overlay st.x9 w } := by
  intro c K
  unfold Own
  iintro ⟨⟨H1, H2, H3, H4, H5, H6, H7, H8, H9, H10, H11, H12, H13, H14⟩, Hk⟩
  iapply (store_owns c B.a9 r w hx hm st.x9 K)
  isplitl [H9]
  · iexact H9
  iintro H9
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load10 (B : Bufs) (st : St F) (r : Rect S256x4352) (hl : B.a10.view.LoadsAt r.toLoadRect) :
    Runs B (Prog.lift (.load B.a10 r.toLoadRect hl) : Prog (TpuEff nD τ sig (Elt F) Λ₀ .tc) _) st (fun i => st.x10 (r.emb i)) st := by
  intro c K
  unfold Own
  iintro ⟨⟨H1, H2, H3, H4, H5, H6, H7, H8, H9, H10, H11, H12, H13, H14⟩, Hk⟩
  iapply (load_owns c B.a10 r hl st.x10 K)
  isplitl [H10]
  · iexact H10
  iintro H10
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store10 (B : Bufs) (st : St F) (r : Rect S256x4352) (w : r.shape.Idx → Elt F .f32) (hx : (B.a10.access r).Stores Finset.univ)
    (hm : Finset.univ = Finset.univ ∨ ∀ a, r.stride a = 1) :
    Runs B (Prog.lift (.store B.a10 r w Finset.univ hx hm) : Prog (TpuEff nD τ sig (Elt F) Λ₀ .tc) _) st ⟨⟩ { st with x10 := r.overlay st.x10 w } := by
  intro c K
  unfold Own
  iintro ⟨⟨H1, H2, H3, H4, H5, H6, H7, H8, H9, H10, H11, H12, H13, H14⟩, Hk⟩
  iapply (store_owns c B.a10 r w hx hm st.x10 K)
  isplitl [H10]
  · iexact H10
  iintro H10
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load11 (B : Bufs) (st : St F) (r : Rect S256x128) (hl : B.a11.view.LoadsAt r.toLoadRect) :
    Runs B (Prog.lift (.load B.a11 r.toLoadRect hl) : Prog (TpuEff nD τ sig (Elt F) Λ₀ .tc) _) st (fun i => st.x11 (r.emb i)) st := by
  intro c K
  unfold Own
  iintro ⟨⟨H1, H2, H3, H4, H5, H6, H7, H8, H9, H10, H11, H12, H13, H14⟩, Hk⟩
  iapply (load_owns c B.a11 r hl st.x11 K)
  isplitl [H11]
  · iexact H11
  iintro H11
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store11 (B : Bufs) (st : St F) (r : Rect S256x128) (w : r.shape.Idx → Elt F .f32) (hx : (B.a11.access r).Stores Finset.univ)
    (hm : Finset.univ = Finset.univ ∨ ∀ a, r.stride a = 1) :
    Runs B (Prog.lift (.store B.a11 r w Finset.univ hx hm) : Prog (TpuEff nD τ sig (Elt F) Λ₀ .tc) _) st ⟨⟩ { st with x11 := r.overlay st.x11 w } := by
  intro c K
  unfold Own
  iintro ⟨⟨H1, H2, H3, H4, H5, H6, H7, H8, H9, H10, H11, H12, H13, H14⟩, Hk⟩
  iapply (store_owns c B.a11 r w hx hm st.x11 K)
  isplitl [H11]
  · iexact H11
  iintro H11
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load12 (B : Bufs) (st : St F) (r : Rect S256x128) (hl : B.a12.view.LoadsAt r.toLoadRect) :
    Runs B (Prog.lift (.load B.a12 r.toLoadRect hl) : Prog (TpuEff nD τ sig (Elt F) Λ₀ .tc) _) st (fun i => st.x12 (r.emb i)) st := by
  intro c K
  unfold Own
  iintro ⟨⟨H1, H2, H3, H4, H5, H6, H7, H8, H9, H10, H11, H12, H13, H14⟩, Hk⟩
  iapply (load_owns c B.a12 r hl st.x12 K)
  isplitl [H12]
  · iexact H12
  iintro H12
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store12 (B : Bufs) (st : St F) (r : Rect S256x128) (w : r.shape.Idx → Elt F .f32) (hx : (B.a12.access r).Stores Finset.univ)
    (hm : Finset.univ = Finset.univ ∨ ∀ a, r.stride a = 1) :
    Runs B (Prog.lift (.store B.a12 r w Finset.univ hx hm) : Prog (TpuEff nD τ sig (Elt F) Λ₀ .tc) _) st ⟨⟩ { st with x12 := r.overlay st.x12 w } := by
  intro c K
  unfold Own
  iintro ⟨⟨H1, H2, H3, H4, H5, H6, H7, H8, H9, H10, H11, H12, H13, H14⟩, Hk⟩
  iapply (store_owns c B.a12 r w hx hm st.x12 K)
  isplitl [H12]
  · iexact H12
  iintro H12
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load13 (B : Bufs) (st : St F) (r : Rect S256x128) (hl : B.a13.view.LoadsAt r.toLoadRect) :
    Runs B (Prog.lift (.load B.a13 r.toLoadRect hl) : Prog (TpuEff nD τ sig (Elt F) Λ₀ .tc) _) st (fun i => st.x13 (r.emb i)) st := by
  intro c K
  unfold Own
  iintro ⟨⟨H1, H2, H3, H4, H5, H6, H7, H8, H9, H10, H11, H12, H13, H14⟩, Hk⟩
  iapply (load_owns c B.a13 r hl st.x13 K)
  isplitl [H13]
  · iexact H13
  iintro H13
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store13 (B : Bufs) (st : St F) (r : Rect S256x128) (w : r.shape.Idx → Elt F .f32) (hx : (B.a13.access r).Stores Finset.univ)
    (hm : Finset.univ = Finset.univ ∨ ∀ a, r.stride a = 1) :
    Runs B (Prog.lift (.store B.a13 r w Finset.univ hx hm) : Prog (TpuEff nD τ sig (Elt F) Λ₀ .tc) _) st ⟨⟩ { st with x13 := r.overlay st.x13 w } := by
  intro c K
  unfold Own
  iintro ⟨⟨H1, H2, H3, H4, H5, H6, H7, H8, H9, H10, H11, H12, H13, H14⟩, Hk⟩
  iapply (store_owns c B.a13 r w hx hm st.x13 K)
  isplitl [H13]
  · iexact H13
  iintro H13
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load14 (B : Bufs) (st : St F) (r : Rect S256x128) (hl : B.a14.view.LoadsAt r.toLoadRect) :
    Runs B (Prog.lift (.load B.a14 r.toLoadRect hl) : Prog (TpuEff nD τ sig (Elt F) Λ₀ .tc) _) st (fun i => st.x14 (r.emb i)) st := by
  intro c K
  unfold Own
  iintro ⟨⟨H1, H2, H3, H4, H5, H6, H7, H8, H9, H10, H11, H12, H13, H14⟩, Hk⟩
  iapply (load_owns c B.a14 r hl st.x14 K)
  isplitl [H14]
  · iexact H14
  iintro H14
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store14 (B : Bufs) (st : St F) (r : Rect S256x128) (w : r.shape.Idx → Elt F .f32) (hx : (B.a14.access r).Stores Finset.univ)
    (hm : Finset.univ = Finset.univ ∨ ∀ a, r.stride a = 1) :
    Runs B (Prog.lift (.store B.a14 r w Finset.univ hx hm) : Prog (TpuEff nD τ sig (Elt F) Λ₀ .tc) _) st ⟨⟩ { st with x14 := r.overlay st.x14 w } := by
  intro c K
  unfold Own
  iintro ⟨⟨H1, H2, H3, H4, H5, H6, H7, H8, H9, H10, H11, H12, H13, H14⟩, Hk⟩
  iapply (store_owns c B.a14 r w hx hm st.x14 K)
  isplitl [H14]
  · iexact H14
  iintro H14
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

end Cert.Kernel.Gen
-- ==== Proof.KernelBlocks.lean ====
/- What every block of the kernel leaves in the arrays: a function from states to states for each block, and the proof that the block runs so. -/
module

public import proofs.«01_k».proof.Proof.KernelRuns

@[expose] public section

noncomputable section

namespace Cert.Kernel.Gen

open Idealize.ShloMosaic Idealize.ShloMosaic.TcCoe
open Idealize.SL Idealize.SL.Sem
open Facts₀

variable {F : FTy → Type} [FloatOps F]

/-- A strip's rectangle in a tile. -/
abbrev rt (r k : Nat) (hr : r + 32 ≤ 256) (hk : k + 128 ≤ 4352) : Rect S256x4352 := Rect.unit (s := S256x4352) ![r, k] S32x128.size (inb_t hr hk)
/-- A strip's rectangle in a scratch array of 128 lanes. -/
abbrev rl (r : Nat) (hr : r + 32 ≤ 256) : Rect S256x128 := Rect.unit (s := S256x128) ![r, 0] S32x128.size (inb_l hr)
/-- A block of 128 rows of it. -/
abbrev rh (r : Nat) (hr : r + 128 ≤ 256) : Rect S256x128 := Rect.unit (s := S256x128) ![r, 0] S128x128.size (inb_h hr)
/-- A block of 128 columns of a row. -/
abbrev rr (k : Nat) (hk : k + 128 ≤ 4352) : Rect S1x4352 := Rect.unit (s := S1x4352) ![0, k] S1x128.size (inb_r hk)
/-- A block of 128 of a row of 256. -/
abbrev rx (r : Nat) (hr : r + 128 ≤ 256) : Rect S1x1x256 := Rect.unit (s := S1x1x256) ![0, 0, r] S1x1x128.size (inb_x hr)

/-! ## The scales of the rows -/

def xsV (v11 : FVec F S1x1x128 .f32) : FVec F S128x128 .f32 :=
  shapeCast S128x128 (transpose S128x128 [1, 0] (broadcastTo S128x128 (shapeCast S1x128 (shapeCast S1x128 v11 shapeCasts_S1x1x128_S1x128) shapeCasts_S1x128_S1x128) broadcasts_S1x128_S128x128) transposes_S128x128_p1_0_S128x128) shapeCasts_S128x128_S128x128

def loadXs1S (st : St F) (r : Nat) (hr : r + 128 ≤ 256) : St F :=
  { st with x14 := (rh r hr).overlay st.x14 (xsV fun i => st.x1 ((rx r hr).emb i)) }

theorem runs_loadXs1 (B : Bufs) (st : St F) (r : Nat) (hr : r + 128 ≤ 256) : Runs B (loadXs1 B.a1 B.a14 r hr) st ⟨⟩ (loadXs1S st r hr) :=
  .bind (.load1 B _ _ _) (.bind (.load14 B _ _ _) (.store14 B _ _ _ _ _))

def loadXsS (st : St F) : St F := loadXs1S (loadXs1S st 0 (by decide)) 128 (by decide)

theorem runs_loadXs (B : Bufs) (st : St F) : Runs B (loadXs B.a1 B.a14) st ⟨⟩ (loadXsS st) :=
  .bind (runs_loadXs1 B _ _ _) (runs_loadXs1 B _ _ _)

/-! ## The projection -/

/-- The residual output of a block of lanes. -/
def laneO (v32 xs : FVec F S32x128 .f32) (ws : FVec F S1x128 .f32) (res : FVec F S32x128 .bf16) : FVec F S32x128 .bf16 :=
  truncf .bf16 (addf (mulf (mulf v32 xs) (broadcastTo S32x128 (shapeCast S1x128 ws shapeCasts_S1x128_S1x128) broadcasts_S1x128_S32x128)) (extf .f32 (shapeCast S32x128 res shapeCasts_S32x128_S32x128) bitsLt_bf16_f32)) bitsLt_bf16_f32

/-- Its product with gamma. -/
def laneT (o : FVec F S32x128 .bf16) (gam : FVec F S1x128 .f32) : FVec F S32x128 .f32 :=
  mulf (extf .f32 o bitsLt_bf16_f32) (broadcastTo S32x128 (shapeCast S1x128 gam shapeCasts_S1x128_S1x128) broadcasts_S1x128_S32x128)

def laneQ (o : FVec F S32x128 .bf16) : FVec F S32x128 .f32 := mulf (extf .f32 o bitsLt_bf16_f32) (extf .f32 o bitsLt_bf16_f32)

def stO (st : St F) (v32 xs : FVec F S32x128 .f32) (r k : Nat) (hr : r + 32 ≤ 256) (hk : k + 128 ≤ 4352) : FVec F S32x128 .bf16 :=
  laneO v32 xs (fun i => st.x4 ((rr k hk).emb i)) (fun i => st.x5 ((rt r k hr hk).emb i))

def stT (st : St F) (v32 xs : FVec F S32x128 .f32) (r k : Nat) (hr : r + 32 ≤ 256) (hk : k + 128 ≤ 4352) : FVec F S32x128 .f32 :=
  laneT (stO st v32 xs r k hr hk) (fun i => st.x6 ((rr k hk).emb i))

def laneS (st : St F) (v32 xs : FVec F S32x128 .f32) (r k : Nat) (hr : r + 32 ≤ 256) (hk : k + 128 ≤ 4352) : St F :=
  { st with x7 := (rt r k hr hk).overlay st.x7 (stO st v32 xs r k hr hk),
            x10 := (rt r k hr hk).overlay st.x10 (shapeCast S32x128 (stT st v32 xs r k hr hk) shapeCasts_S32x128_S32x128) }

theorem runs_lane (B : Bufs) (st : St F) (v32 xs : FVec F S32x128 .f32) (r k : Nat) (h32 : 32 ∣ r) (hr : r + 32 ≤ 256) (hk : k + 128 ≤ 4352) :
    Runs B (lane B.a4 B.a5 B.a6 B.a7 B.h7 B.a10 v32 xs r k h32 hr hk) st ⟨laneQ (stO st v32 xs r k hr hk), absf (stT st v32 xs r k hr hk)⟩ (laneS st v32 xs r k hr hk) :=
  .bind (.load4 B _ _ _) (.bind (.load5 B _ _ _) (.bind (.load7 B _ _ _) (.bind (.store7 B _ _ _ _ _) (.bind (.load6 B _ _ _)
    (.bind (.load10 B _ _ _) (.bind (.store10 B _ _ _ _ _) (.pure B _ _)))))))

section
attribute [local irreducible] laneS stO stT laneQ

/-- A strip of 32 rows of the first chunk. -/
def stripFS (st : St F) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  let s1 := laneS st (extractStridedSlice S32x128 ![r, 0] acc (sl5 hr (by decide))) (fun i => st.x14 ((rl r hr).emb i)) r k0 hr hk0
  let s2 := laneS s1 (extractStridedSlice S32x128 ![r, 128] acc (sl5 hr (by decide))) (fun i => st.x14 ((rl r hr).emb i)) r k1 hr hk1
  let s3 := laneS s2 (extractStridedSlice S32x128 ![r, 256] acc (sl5 hr (by decide))) (fun i => st.x14 ((rl r hr).emb i)) r k2 hr hk2
  let s4 := laneS s3 (extractStridedSlice S32x128 ![r, 384] acc (sl5 hr (by decide))) (fun i => st.x14 ((rl r hr).emb i)) r k3 hr hk3
  { s4 with
    x11 := (rl r hr).overlay s4.x11 (shapeCast S32x128 (addf (addf (addf (laneQ (stO st (extractStridedSlice S32x128 ![r, 0] acc (sl5 hr (by decide))) (fun i => st.x14 ((rl r hr).emb i)) r k0 hr hk0)) (laneQ (stO s1 (extractStridedSlice S32x128 ![r, 128] acc (sl5 hr (by decide))) (fun i => st.x14 ((rl r hr).emb i)) r k1 hr hk1))) (laneQ (stO s2 (extractStridedSlice S32x128 ![r, 256] acc (sl5 hr (by decide))) (fun i => st.x14 ((rl r hr).emb i)) r k2 hr hk2))) (laneQ (stO s3 (extractStridedSlice S32x128 ![r, 384] acc (sl5 hr (by decide))) (fun i => st.x14 ((rl r hr).emb i)) r k3 hr hk3))) shapeCasts_S32x128_S32x128)
    x12 := (rl r hr).overlay s4.x12 (shapeCast S32x128 (maximumf (maximumf (maximumf (absf (stT st (extractStridedSlice S32x128 ![r, 0] acc (sl5 hr (by decide))) (fun i => st.x14 ((rl r hr).emb i)) r k0 hr hk0)) (absf (stT s1 (extractStridedSlice S32x128 ![r, 128] acc (sl5 hr (by decide))) (fun i => st.x14 ((rl r hr).emb i)) r k1 hr hk1))) (absf (stT s2 (extractStridedSlice S32x128 ![r, 256] acc (sl5 hr (by decide))) (fun i => st.x14 ((rl r hr).emb i)) r k2 hr hk2))) (absf (stT s3 (extractStridedSlice S32x128 ![r, 384] acc (sl5 hr (by decide))) (fun i => st.x14 ((rl r hr).emb i)) r k3 hr hk3))) shapeCasts_S32x128_S32x128) }

theorem runs_stripF (B : Bufs) (st : St F) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (stripF B.a4 B.a5 B.a6 B.a7 B.h7 B.a10 B.a11 B.a12 B.a14 acc r k0 k1 k2 k3 h32 hr hk0 hk1 hk2 hk3) st ⟨⟩ (stripFS st acc r k0 k1 k2 k3 hr hk0 hk1 hk2 hk3) :=
  by
  unfold stripF stripFS
  refine .bind (.load14 B _ _ _) ?_
  refine .bind (runs_lane B _ _ _ _ _ _ _ _) ?_
  dsimp only
  refine .bind (runs_lane B _ _ _ _ _ _ _ _) ?_
  dsimp only
  refine .bind (runs_lane B _ _ _ _ _ _ _ _) ?_
  dsimp only
  refine .bind (runs_lane B _ _ _ _ _ _ _ _) ?_
  dsimp only
  exact (.bind (.load11 B _ _ _) (.bind (.store11 B _ _ _ _ _) (.bind (.load12 B _ _ _) (.store12 B _ _ _ _ _))))

/-- A strip of 32 rows of a later chunk. -/
def stripMS (st : St F) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  let s1 := laneS st (extractStridedSlice S32x128 ![r, 0] acc (sl5 hr (by decide))) (fun i => st.x14 ((rl r hr).emb i)) r k0 hr hk0
  let s2 := laneS s1 (extractStridedSlice S32x128 ![r, 128] acc (sl5 hr (by decide))) (fun i => st.x14 ((rl r hr).emb i)) r k1 hr hk1
  let s3 := laneS s2 (extractStridedSlice S32x128 ![r, 256] acc (sl5 hr (by decide))) (fun i => st.x14 ((rl r hr).emb i)) r k2 hr hk2
  let s4 := laneS s3 (extractStridedSlice S32x128 ![r, 384] acc (sl5 hr (by decide))) (fun i => st.x14 ((rl r hr).emb i)) r k3 hr hk3
  { s4 with
    x11 := (rl r hr).overlay s4.x11 (shapeCast S32x128 (addf (addf (addf (addf (laneQ (stO st (extractStridedSlice S32x128 ![r, 0] acc (sl5 hr (by decide))) (fun i => st.x14 ((rl r hr).emb i)) r k0 hr hk0)) (laneQ (stO s1 (extractStridedSlice S32x128 ![r, 128] acc (sl5 hr (by decide))) (fun i => st.x14 ((rl r hr).emb i)) r k1 hr hk1))) (laneQ (stO s2 (extractStridedSlice S32x128 ![r, 256] acc (sl5 hr (by decide))) (fun i => st.x14 ((rl r hr).emb i)) r k2 hr hk2))) (laneQ (stO s3 (extractStridedSlice S32x128 ![r, 384] acc (sl5 hr (by decide))) (fun i => st.x14 ((rl r hr).emb i)) r k3 hr hk3))) (fun i => s4.x11 ((rl r hr).emb i))) shapeCasts_S32x128_S32x128)
    x12 := (rl r hr).overlay s4.x12 (shapeCast S32x128 (maximumf (maximumf (maximumf (maximumf (absf (stT st (extractStridedSlice S32x128 ![r, 0] acc (sl5 hr (by decide))) (fun i => st.x14 ((rl r hr).emb i)) r k0 hr hk0)) (absf (stT s1 (extractStridedSlice S32x128 ![r, 128] acc (sl5 hr (by decide))) (fun i => st.x14 ((rl r hr).emb i)) r k1 hr hk1))) (absf (stT s2 (extractStridedSlice S32x128 ![r, 256] acc (sl5 hr (by decide))) (fun i => st.x14 ((rl r hr).emb i)) r k2 hr hk2))) (absf (stT s3 (extractStridedSlice S32x128 ![r, 384] acc (sl5 hr (by decide))) (fun i => st.x14 ((rl r hr).emb i)) r k3 hr hk3))) (fun i => s4.x12 ((rl r hr).emb i))) shapeCasts_S32x128_S32x128) }

theorem runs_stripM (B : Bufs) (st : St F) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (stripM B.a4 B.a5 B.a6 B.a7 B.h7 B.a10 B.a11 B.a12 B.a14 acc r k0 k1 k2 k3 h32 hr hk0 hk1 hk2 hk3) st ⟨⟩ (stripMS st acc r k0 k1 k2 k3 hr hk0 hk1 hk2 hk3) :=
  by
  unfold stripM stripMS
  refine .bind (.load14 B _ _ _) ?_
  refine .bind (runs_lane B _ _ _ _ _ _ _ _) ?_
  dsimp only
  refine .bind (runs_lane B _ _ _ _ _ _ _ _) ?_
  dsimp only
  refine .bind (runs_lane B _ _ _ _ _ _ _ _) ?_
  dsimp only
  refine .bind (runs_lane B _ _ _ _ _ _ _ _) ?_
  dsimp only
  exact (.bind (.load11 B _ _ _) (.bind (.load12 B _ _ _) (.bind (.load11 B _ _ _) (.bind (.store11 B _ _ _ _ _) (.bind (.load12 B _ _ _) (.store12 B _ _ _ _ _))))))

/-- A strip of 32 rows of the last chunk. -/
def stripLS (st : St F) (acc : FVec F S256x256 .f32) (r k0 k1 : Nat) (hr : r + 32 ≤ 256) (hk0 : k0 + 128 ≤ 4352) (hk1 : k1 + 128 ≤ 4352) : St F :=
  let s1 := laneS st (extractStridedSlice S32x128 ![r, 0] acc (sl2 hr (by decide))) (fun i => st.x14 ((rl r hr).emb i)) r k0 hr hk0
  let s2 := laneS s1 (extractStridedSlice S32x128 ![r, 128] acc (sl2 hr (by decide))) (fun i => st.x14 ((rl r hr).emb i)) r k1 hr hk1
  { s2 with
    x11 := (rl r hr).overlay s2.x11 (shapeCast S32x128 (addf (addf (laneQ (stO st (extractStridedSlice S32x128 ![r, 0] acc (sl2 hr (by decide))) (fun i => st.x14 ((rl r hr).emb i)) r k0 hr hk0)) (laneQ (stO s1 (extractStridedSlice S32x128 ![r, 128] acc (sl2 hr (by decide))) (fun i => st.x14 ((rl r hr).emb i)) r k1 hr hk1))) (fun i => s2.x11 ((rl r hr).emb i))) shapeCasts_S32x128_S32x128)
    x12 := (rl r hr).overlay s2.x12 (shapeCast S32x128 (maximumf (maximumf (absf (stT st (extractStridedSlice S32x128 ![r, 0] acc (sl2 hr (by decide))) (fun i => st.x14 ((rl r hr).emb i)) r k0 hr hk0)) (absf (stT s1 (extractStridedSlice S32x128 ![r, 128] acc (sl2 hr (by decide))) (fun i => st.x14 ((rl r hr).emb i)) r k1 hr hk1))) (fun i => s2.x12 ((rl r hr).emb i))) shapeCasts_S32x128_S32x128) }

theorem runs_stripL (B : Bufs) (st : St F) (acc : FVec F S256x256 .f32) (r k0 k1 : Nat) (h32 : 32 ∣ r) (hr : r + 32 ≤ 256) (hk0 : k0 + 128 ≤ 4352) (hk1 : k1 + 128 ≤ 4352) :
    Runs B (stripL B.a4 B.a5 B.a6 B.a7 B.h7 B.a10 B.a11 B.a12 B.a14 acc r k0 k1 h32 hr hk0 hk1) st ⟨⟩ (stripLS st acc r k0 k1 hr hk0 hk1) :=
  by
  unfold stripL stripLS
  refine .bind (.load14 B _ _ _) ?_
  refine .bind (runs_lane B _ _ _ _ _ _ _ _) ?_
  dsimp only
  refine .bind (runs_lane B _ _ _ _ _ _ _ _) ?_
  dsimp only
  exact (.bind (.load11 B _ _ _) (.bind (.load12 B _ _ _) (.bind (.load11 B _ _ _) (.bind (.store11 B _ _ _ _ _) (.bind (.load12 B _ _ _) (.store12 B _ _ _ _ _))))))

end

/-- The product of the first chunk. -/
def projFA (st : St F) : FVec F S256x512 .f32 :=
  matmul dot_S256x1664_S1664x512_S256x512_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, 0] S1664x512.size (inb_w (by decide))).emb i)) (constant S256x512 .f32 0x00000000#32)

def projFS (st : St F) : St F :=
  (stripFS (stripFS (stripFS (stripFS (stripFS (stripFS (stripFS (stripFS st (projFA st) 0 0 128 256 384 (by decide) (by decide) (by decide) (by decide) (by decide)) (projFA st) 32 0 128 256 384 (by decide) (by decide) (by decide) (by decide) (by decide)) (projFA st) 64 0 128 256 384 (by decide) (by decide) (by decide) (by decide) (by decide)) (projFA st) 96 0 128 256 384 (by decide) (by decide) (by decide) (by decide) (by decide)) (projFA st) 128 0 128 256 384 (by decide) (by decide) (by decide) (by decide) (by decide)) (projFA st) 160 0 128 256 384 (by decide) (by decide) (by decide) (by decide) (by decide)) (projFA st) 192 0 128 256 384 (by decide) (by decide) (by decide) (by decide) (by decide)) (projFA st) 224 0 128 256 384 (by decide) (by decide) (by decide) (by decide) (by decide))

theorem runs_projF (B : Bufs) (st : St F) :
    Runs B (projF B.a2 B.a3 B.a4 B.a5 B.a6 B.a7 B.h7 B.a10 B.a11 B.a12 B.a14) st ⟨⟩ (projFS st) :=
  .bind (.load2 B _ _ _) (.bind (.load3 B _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (runs_stripF B _ _ _ _ _ _ _ _ _ _ _ _ _)))))))))

/-- The product of a later chunk. -/
def projMA (st : St F) (k0 : Nat) (hc : k0 + 512 ≤ 4352) : FVec F S256x512 .f32 :=
  matmul dot_S256x1664_S1664x512_S256x512_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, k0] S1664x512.size (inb_w hc)).emb i)) (constant S256x512 .f32 0x00000000#32)

def projMS (st : St F) (k0 k1 k2 k3 : Nat) (hc : k0 + 512 ≤ 4352) (hk0 : k0 + 128 ≤ 4352) (hk1 : k1 + 128 ≤ 4352) (hk2 : k2 + 128 ≤ 4352) (hk3 : k3 + 128 ≤ 4352) : St F :=
  (stripMS (stripMS (stripMS (stripMS (stripMS (stripMS (stripMS (stripMS st (projMA st k0 hc) 0 k0 k1 k2 k3 (by decide) hk0 hk1 hk2 hk3) (projMA st k0 hc) 32 k0 k1 k2 k3 (by decide) hk0 hk1 hk2 hk3) (projMA st k0 hc) 64 k0 k1 k2 k3 (by decide) hk0 hk1 hk2 hk3) (projMA st k0 hc) 96 k0 k1 k2 k3 (by decide) hk0 hk1 hk2 hk3) (projMA st k0 hc) 128 k0 k1 k2 k3 (by decide) hk0 hk1 hk2 hk3) (projMA st k0 hc) 160 k0 k1 k2 k3 (by decide) hk0 hk1 hk2 hk3) (projMA st k0 hc) 192 k0 k1 k2 k3 (by decide) hk0 hk1 hk2 hk3) (projMA st k0 hc) 224 k0 k1 k2 k3 (by decide) hk0 hk1 hk2 hk3)

theorem runs_projM (B : Bufs) (st : St F) (k0 k1 k2 k3 : Nat) (hc : k0 + 512 ≤ 4352) (hk0 : k0 + 128 ≤ 4352) (hk1 : k1 + 128 ≤ 4352) (hk2 : k2 + 128 ≤ 4352) (hk3 : k3 + 128 ≤ 4352) :
    Runs B (projM B.a2 B.a3 B.a4 B.a5 B.a6 B.a7 B.h7 B.a10 B.a11 B.a12 B.a14 k0 k1 k2 k3 hc hk0 hk1 hk2 hk3) st ⟨⟩ (projMS st k0 k1 k2 k3 hc hk0 hk1 hk2 hk3) :=
  .bind (.load2 B _ _ _) (.bind (.load3 B _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (runs_stripM B _ _ _ _ _ _ _ _ _ _ _ _ _)))))))))

/-- The product of the last chunk. -/
def projLA (st : St F) : FVec F S256x256 .f32 :=
  matmul dot_S256x1664_S1664x256_S256x256_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, 4096] S1664x256.size inb_S1664x4352_S1664x256_0_4096).emb i)) (constant S256x256 .f32 0x00000000#32)

def projLS (st : St F) : St F :=
  (stripLS (stripLS (stripLS (stripLS (stripLS (stripLS (stripLS (stripLS st (projLA st) 0 4096 4224 (by decide) (by decide) (by decide)) (projLA st) 32 4096 4224 (by decide) (by decide) (by decide)) (projLA st) 64 4096 4224 (by decide) (by decide) (by decide)) (projLA st) 96 4096 4224 (by decide) (by decide) (by decide)) (projLA st) 128 4096 4224 (by decide) (by decide) (by decide)) (projLA st) 160 4096 4224 (by decide) (by decide) (by decide)) (projLA st) 192 4096 4224 (by decide) (by decide) (by decide)) (projLA st) 224 4096 4224 (by decide) (by decide) (by decide))

theorem runs_projL (B : Bufs) (st : St F) :
    Runs B (projL B.a2 B.a3 B.a4 B.a5 B.a6 B.a7 B.h7 B.a10 B.a11 B.a12 B.a14) st ⟨⟩ (projLS st) :=
  .bind (.load2 B _ _ _) (.bind (.load3 B _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (runs_stripL B _ _ _ _ _ _ _ _ _)))))))))

/-! ## The codes -/

def qV (t s : FVec F S32x128 .f32) : FVec F S32x128 .fp8e4m3 :=
  truncf .fp8e4m3 (minimumf (broadcast S32x128 (Scalar.ofBits .f32 0x43E00000#32 : F .f32)) (maximumf (broadcast S32x128 (Scalar.ofBits .f32 0xC3E00000#32 : F .f32)) (mulf t s))) bitsLt_fp8e4m3_f32

def qlaneS (st : St F) (s : FVec F S32x128 .f32) (r k : Nat) (hr : r + 32 ≤ 256) (hk : k + 128 ≤ 4352) : St F :=
  { st with x8 := (rt r k hr hk).overlay st.x8 (qV (fun i => st.x10 ((rt r k hr hk).emb i)) s) }

theorem runs_qlane (B : Bufs) (st : St F) (s : FVec F S32x128 .f32) (r k : Nat) (h32 : 32 ∣ r) (hr : r + 32 ≤ 256) (hk : k + 128 ≤ 4352) :
    Runs B (qlane B.a8 B.h8 B.a10 s r k h32 hr hk) st ⟨⟩ (qlaneS st s r k hr hk) :=
  .bind (.load10 B _ _ _) (.bind (.load8 B _ _ _) (.store8 B _ _ _ _ _))

def qstripS (st : St F) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  (qlaneS (qlaneS (qlaneS (qlaneS st (fun i => st.x13 ((rl r hr).emb i)) r k0 hr hk0) (fun i => st.x13 ((rl r hr).emb i)) r k1 hr hk1) (fun i => st.x13 ((rl r hr).emb i)) r k2 hr hk2) (fun i => st.x13 ((rl r hr).emb i)) r k3 hr hk3)

theorem runs_qstrip (B : Bufs) (st : St F) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (qstrip B.a8 B.h8 B.a10 B.a13 r k0 k1 k2 k3 h32 hr hk0 hk1 hk2 hk3) st ⟨⟩ (qstripS st r k0 k1 k2 k3 hr hk0 hk1 hk2 hk3) :=
  .bind (.load13 B _ _ _) (.bind (runs_qlane B _ _ _ _ _ _ _) (.bind (runs_qlane B _ _ _ _ _ _ _) (.bind (runs_qlane B _ _ _ _ _ _ _) (runs_qlane B _ _ _ _ _ _ _))))

def qstripLS (st : St F) (r k0 k1 : Nat) (hr : r + 32 ≤ 256) (hk0 : k0 + 128 ≤ 4352) (hk1 : k1 + 128 ≤ 4352) : St F :=
  (qlaneS (qlaneS st (fun i => st.x13 ((rl r hr).emb i)) r k0 hr hk0) (fun i => st.x13 ((rl r hr).emb i)) r k1 hr hk1)

theorem runs_qstripL (B : Bufs) (st : St F) (r k0 k1 : Nat) (h32 : 32 ∣ r) (hr : r + 32 ≤ 256) (hk0 : k0 + 128 ≤ 4352) (hk1 : k1 + 128 ≤ 4352) :
    Runs B (qstripL B.a8 B.h8 B.a10 B.a13 r k0 k1 h32 hr hk0 hk1) st ⟨⟩ (qstripLS st r k0 k1 hr hk0 hk1) :=
  .bind (.load13 B _ _ _) (.bind (runs_qlane B _ _ _ _ _ _ _) (runs_qlane B _ _ _ _ _ _ _))

def quantS (st : St F) (k0 k1 k2 k3 : Nat) (hk0 : k0 + 128 ≤ 4352) (hk1 : k1 + 128 ≤ 4352) (hk2 : k2 + 128 ≤ 4352) (hk3 : k3 + 128 ≤ 4352) : St F :=
  (qstripS (qstripS (qstripS (qstripS (qstripS (qstripS (qstripS (qstripS st 0 k0 k1 k2 k3 (by decide) hk0 hk1 hk2 hk3) 32 k0 k1 k2 k3 (by decide) hk0 hk1 hk2 hk3) 64 k0 k1 k2 k3 (by decide) hk0 hk1 hk2 hk3) 96 k0 k1 k2 k3 (by decide) hk0 hk1 hk2 hk3) 128 k0 k1 k2 k3 (by decide) hk0 hk1 hk2 hk3) 160 k0 k1 k2 k3 (by decide) hk0 hk1 hk2 hk3) 192 k0 k1 k2 k3 (by decide) hk0 hk1 hk2 hk3) 224 k0 k1 k2 k3 (by decide) hk0 hk1 hk2 hk3)

theorem runs_quant (B : Bufs) (st : St F) (k0 k1 k2 k3 : Nat) (hk0 : k0 + 128 ≤ 4352) (hk1 : k1 + 128 ≤ 4352) (hk2 : k2 + 128 ≤ 4352) (hk3 : k3 + 128 ≤ 4352) : Runs B (quant B.a8 B.h8 B.a10 B.a13 k0 k1 k2 k3 hk0 hk1 hk2 hk3) st ⟨⟩ (quantS st k0 k1 k2 k3 hk0 hk1 hk2 hk3) :=
  (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (runs_qstrip B _ _ _ _ _ _ _ _ _ _ _ _))))))))

def quantLS (st : St F) : St F :=
  (qstripLS (qstripLS (qstripLS (qstripLS (qstripLS (qstripLS (qstripLS (qstripLS st 0 4096 4224 (by decide) (by decide) (by decide)) 32 4096 4224 (by decide) (by decide) (by decide)) 64 4096 4224 (by decide) (by decide) (by decide)) 96 4096 4224 (by decide) (by decide) (by decide)) 128 4096 4224 (by decide) (by decide) (by decide)) 160 4096 4224 (by decide) (by decide) (by decide)) 192 4096 4224 (by decide) (by decide) (by decide)) 224 4096 4224 (by decide) (by decide) (by decide))

theorem runs_quantL (B : Bufs) (st : St F) : Runs B (quantL B.a8 B.h8 B.a10 B.a13) st ⟨⟩ (quantLS st) :=
  (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (runs_qstripL B _ _ _ _ _ _ _ _))))))))

/-! ## The statistics -/

def finSq (v11 : FVec F S128x128 .f32) : FVec F S128x128 .f32 :=
  broadcastTo S128x128 (shapeCast S128x1 (shapeCast S128x1 (multiReduction .add [1] S128 v11 0x00000000#32 reduces_S128x128_S128 (.inl rfl) rfl) shapeCasts_S128_S128x1) shapeCasts_S128x1_S128x1) broadcasts_S128x1_S128x128

def finMx (v14 : FVec F S128x128 .f32) : FVec F S128x128 .f32 :=
  broadcastTo S128x128 (shapeCast S128x1 (shapeCast S128x1 (multiReduction .maximumf [1] S128 v14 0xFF800000#32 reduces_S128x128_S128 (.inl rfl) rfl) shapeCasts_S128_S128x1) shapeCasts_S128x1_S128x1) broadcasts_S128x1_S128x128

def finInv (v11 : FVec F S128x128 .f32) : FVec F S128x128 .f32 :=
  rsqrt (addf (mulf (finSq v11) (broadcast S128x128 (Scalar.ofBits .f32 0x3970F0F1#32 : F .f32))) (broadcast S128x128 (Scalar.ofBits .f32 0x358637BD#32 : F .f32)))

def finA (v11 v14 : FVec F S128x128 .f32) : FVec F S128x128 .f32 :=
  mulf (mulf (finMx v14) (finInv v11)) (broadcast S128x128 (Scalar.ofBits .f32 0x3B124925#32 : F .f32))

/-- One step of the search for the exponent of `a`: the power of two `2 ^ u` in the pattern's exponent field is put in when `a` is not below it. -/
def bis (a : FVec F S128x128 .f32) (b : IVec S128x128 32) (s : BitVec 32) : IVec S128x128 32 :=
  select (cmpf .olt a (bitcastToFloat .f32 (shli (addi b (broadcast S128x128 s)) (broadcast S128x128 23#32)))) b (addi b (broadcast S128x128 s))

def finB (a : FVec F S128x128 .f32) : IVec S128x128 32 :=
  bis a (bis a (bis a (bis a (bis a (bis a (bis a (bis a (broadcast S128x128 0#32) 128#32) 64#32) 32#32) 16#32) 8#32) 4#32) 2#32) 1#32

def finE (a : FVec F S128x128 .f32) : IVec S128x128 32 :=
  select (cmpf .oeq a (broadcast S128x128 (Scalar.ofBits .f32 0x00000000#32 : F .f32))) (broadcast S128x128 0#32) (subi (finB a) (broadcast S128x128 126#32))

def finUp (a : FVec F S128x128 .f32) : FVec F S128x128 .f32 :=
  bitcastToFloat .f32 (shli (addi (finE a) (broadcast S128x128 127#32)) (broadcast S128x128 23#32))

def finDown (a : FVec F S128x128 .f32) : FVec F S128x128 .f32 :=
  bitcastToFloat .f32 (shli (subi (broadcast S128x128 127#32) (finE a)) (broadcast S128x128 23#32))

def finS (v11 v14 : FVec F S128x128 .f32) : FVec F S128x128 .f32 := mulf (finInv v11) (finDown (finA v11 v14))

def finY (v11 v14 : FVec F S128x128 .f32) : FVec F S1x1x128 .f32 :=
  shapeCast S1x1x128 (extractStridedSlice S1x128 ![0, 0] (transpose S128x128 [1, 0] (finUp (finA v11 v14)) transposes_S128x128_p1_0_S128x128) slices_S128x128_o0_0_S1x128) shapeCasts_S1x128_S1x1x128

def fin1S (st : St F) (r : Nat) (hr : r + 128 ≤ 256) : St F :=
  { st with
    x13 := (rh r hr).overlay st.x13 (shapeCast S128x128 (finS (fun i => st.x11 ((rh r hr).emb i)) (fun i => st.x12 ((rh r hr).emb i))) shapeCasts_S128x128_S128x128)
    x9 := (rx r hr).overlay st.x9 (finY (fun i => st.x11 ((rh r hr).emb i)) (fun i => st.x12 ((rh r hr).emb i))) }

set_option maxHeartbeats 1000000 in
theorem runs_fin1 (B : Bufs) (st : St F) (r : Nat) (hr : r + 128 ≤ 256) : Runs B (fin1 B.a9 B.a11 B.a12 B.a13 r hr) st ⟨⟩ (fin1S st r hr) :=
  .bind (.load11 B _ _ _) (.bind (.load12 B _ _ _) (.bind (.load13 B _ _ _) (.bind (.store13 B _ _ _ _ _) (.bind (.load9 B _ _ _) (.store9 B _ _ _ _ _)))))

def finAllS (st : St F) : St F := fin1S (fin1S st 0 (by decide)) 128 (by decide)

theorem runs_fin (B : Bufs) (st : St F) : Runs B (fin B.a9 B.a11 B.a12 B.a13) st ⟨⟩ (finAllS st) :=
  .bind (runs_fin1 B _ _ _) (runs_fin1 B _ _ _)

/-! ## The branches -/

/-- The first point. -/
def brAS (st : St F) : St F :=
  (projLS (projMS (projMS (projMS (projMS (projMS (projMS (projMS (projFS (loadXsS st)) 512 640 768 896 (by decide) (by decide) (by decide) (by decide) (by decide)) 1024 1152 1280 1408 (by decide) (by decide) (by decide) (by decide) (by decide)) 1536 1664 1792 1920 (by decide) (by decide) (by decide) (by decide) (by decide)) 2048 2176 2304 2432 (by decide) (by decide) (by decide) (by decide) (by decide)) 2560 2688 2816 2944 (by decide) (by decide) (by decide) (by decide) (by decide)) 3072 3200 3328 3456 (by decide) (by decide) (by decide) (by decide) (by decide)) 3584 3712 3840 3968 (by decide) (by decide) (by decide) (by decide) (by decide)))

theorem runs_brA (B : Bufs) (st : St F) : Runs B (brA B.a1 B.a2 B.a3 B.a4 B.a5 B.a6 B.a7 B.h7 B.a10 B.a11 B.a12 B.a14) st ⟨⟩ (brAS st) :=
  (.bind (runs_loadXs B _) (.bind (runs_projF B _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (runs_projL B _))))))))))

/-- A point between. -/
def brBS (st : St F) : St F :=
  (projLS (quantLS (projMS (quantS (projMS (quantS (projMS (quantS (projMS (quantS (projMS (quantS (projMS (quantS (projMS (quantS (projFS (quantS (loadXsS (finAllS st)) 0 128 256 384 (by decide) (by decide) (by decide) (by decide))) 512 640 768 896 (by decide) (by decide) (by decide) (by decide)) 512 640 768 896 (by decide) (by decide) (by decide) (by decide) (by decide)) 1024 1152 1280 1408 (by decide) (by decide) (by decide) (by decide)) 1024 1152 1280 1408 (by decide) (by decide) (by decide) (by decide) (by decide)) 1536 1664 1792 1920 (by decide) (by decide) (by decide) (by decide)) 1536 1664 1792 1920 (by decide) (by decide) (by decide) (by decide) (by decide)) 2048 2176 2304 2432 (by decide) (by decide) (by decide) (by decide)) 2048 2176 2304 2432 (by decide) (by decide) (by decide) (by decide) (by decide)) 2560 2688 2816 2944 (by decide) (by decide) (by decide) (by decide)) 2560 2688 2816 2944 (by decide) (by decide) (by decide) (by decide) (by decide)) 3072 3200 3328 3456 (by decide) (by decide) (by decide) (by decide)) 3072 3200 3328 3456 (by decide) (by decide) (by decide) (by decide) (by decide)) 3584 3712 3840 3968 (by decide) (by decide) (by decide) (by decide)) 3584 3712 3840 3968 (by decide) (by decide) (by decide) (by decide) (by decide))))

theorem runs_brB (B : Bufs) (st : St F) : Runs B (brB B.a1 B.a2 B.a3 B.a4 B.a5 B.a6 B.a7 B.h7 B.a8 B.h8 B.a9 B.a10 B.a11 B.a12 B.a13 B.a14) st ⟨⟩ (brBS st) :=
  (.bind (runs_fin B _) (.bind (runs_loadXs B _) (.bind (runs_quant B _ _ _ _ _ _ _ _ _) (.bind (runs_projF B _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quantL B _) (runs_projL B _))))))))))))))))))))

/-- The last point. -/
def brCS (st : St F) : St F :=
  (quantLS (quantS (quantS (quantS (quantS (quantS (quantS (quantS (quantS (finAllS st) 0 128 256 384 (by decide) (by decide) (by decide) (by decide)) 512 640 768 896 (by decide) (by decide) (by decide) (by decide)) 1024 1152 1280 1408 (by decide) (by decide) (by decide) (by decide)) 1536 1664 1792 1920 (by decide) (by decide) (by decide) (by decide)) 2048 2176 2304 2432 (by decide) (by decide) (by decide) (by decide)) 2560 2688 2816 2944 (by decide) (by decide) (by decide) (by decide)) 3072 3200 3328 3456 (by decide) (by decide) (by decide) (by decide)) 3584 3712 3840 3968 (by decide) (by decide) (by decide) (by decide)))

theorem runs_brC (B : Bufs) (st : St F) : Runs B (brC B.a8 B.h8 B.a9 B.a10 B.a11 B.a12 B.a13) st ⟨⟩ (brCS st) :=
  (.bind (runs_fin B _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (runs_quantL B _))))))))))

end Cert.Kernel.Gen
-- ==== Proof.KernelKeep.lean ====
/- A block of the kernel leaves the six inputs as they are. -/
module

public import proofs.«01_k».proof.Proof.KernelBlocks

@[expose] public section

noncomputable section

namespace Cert.Kernel.Gen

open Idealize.ShloMosaic Idealize.ShloMosaic.TcCoe
open Facts₀

variable {F : FTy → Type} [FloatOps F]

/-- The inputs of `b` are those of `a`. -/
structure Keep (a b : St F) : Prop where
  k1 : b.x1 = a.x1
  k2 : b.x2 = a.x2
  k3 : b.x3 = a.x3
  k4 : b.x4 = a.x4
  k5 : b.x5 = a.x5
  k6 : b.x6 = a.x6

theorem Keep.refl (a : St F) : Keep a a := ⟨rfl, rfl, rfl, rfl, rfl, rfl⟩

theorem Keep.stats {a s : St F} (h : Keep a s) (u v : Vec F S256x128 .f32) : Keep a { s with x11 := u, x12 := v } :=
  ⟨h.k1, h.k2, h.k3, h.k4, h.k5, h.k6⟩

theorem Keep.loadXs1 {a s : St F} (h : Keep a s) (r : Nat) (hr : r + 128 ≤ 256) : Keep a (loadXs1S s r hr) := by
  unfold loadXs1S
  exact ⟨h.k1, h.k2, h.k3, h.k4, h.k5, h.k6⟩

theorem Keep.lane {a s : St F} (h : Keep a s) (v32 xs : FVec F S32x128 .f32) (r k : Nat) (hr : r + 32 ≤ 256) (hk : k + 128 ≤ 4352) : Keep a (laneS s v32 xs r k hr hk) := by
  unfold laneS
  exact ⟨h.k1, h.k2, h.k3, h.k4, h.k5, h.k6⟩

theorem Keep.qlane {a s : St F} (h : Keep a s) (t : FVec F S32x128 .f32) (r k : Nat) (hr : r + 32 ≤ 256) (hk : k + 128 ≤ 4352) : Keep a (qlaneS s t r k hr hk) := by
  unfold qlaneS
  exact ⟨h.k1, h.k2, h.k3, h.k4, h.k5, h.k6⟩

theorem Keep.fin1 {a s : St F} (h : Keep a s) (r : Nat) (hr : r + 128 ≤ 256) : Keep a (fin1S s r hr) := by
  unfold fin1S
  exact ⟨h.k1, h.k2, h.k3, h.k4, h.k5, h.k6⟩

attribute [local irreducible] loadXs1S laneS qlaneS fin1S

theorem Keep.loadXs {a s : St F} (h : Keep a s)  : Keep a (loadXsS s ) := by
  unfold loadXsS
  repeat first | apply Keep.loadXs1
  exact h

theorem Keep.stripF {a s : St F} (h : Keep a s) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (stripFS s acc r k0 k1 k2 k3 hr hk0 hk1 hk2 hk3) := by
  unfold stripFS
  refine Keep.stats ?_ _ _
  repeat apply Keep.lane
  exact h

theorem Keep.stripM {a s : St F} (h : Keep a s) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (stripMS s acc r k0 k1 k2 k3 hr hk0 hk1 hk2 hk3) := by
  unfold stripMS
  refine Keep.stats ?_ _ _
  repeat apply Keep.lane
  exact h

theorem Keep.stripL {a s : St F} (h : Keep a s) (acc : FVec F S256x256 .f32) (r k0 k1 : Nat) (hr : r + 32 ≤ 256) (hk0 : k0 + 128 ≤ 4352) (hk1 : k1 + 128 ≤ 4352) : Keep a (stripLS s acc r k0 k1 hr hk0 hk1) := by
  unfold stripLS
  refine Keep.stats ?_ _ _
  repeat apply Keep.lane
  exact h

theorem Keep.qstrip {a s : St F} (h : Keep a s) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (qstripS s r k0 k1 k2 k3 hr hk0 hk1 hk2 hk3) := by
  unfold qstripS
  skip
  repeat apply Keep.qlane
  exact h

theorem Keep.qstripL {a s : St F} (h : Keep a s) (r k0 k1 : Nat) (hr : r + 32 ≤ 256) (hk0 : k0 + 128 ≤ 4352) (hk1 : k1 + 128 ≤ 4352) : Keep a (qstripLS s r k0 k1 hr hk0 hk1) := by
  unfold qstripLS
  skip
  repeat apply Keep.qlane
  exact h

attribute [local irreducible] stripFS stripMS stripLS qstripS qstripLS loadXsS

theorem Keep.projF {a s : St F} (h : Keep a s)  : Keep a (projFS s ) := by
  unfold projFS
  repeat first | apply Keep.stripF
  exact h

theorem Keep.projM {a s : St F} (h : Keep a s) (k0 k1 k2 k3 : Nat) (hc : k0 + 512 ≤ 4352) (hk0 : k0 + 128 ≤ 4352) (hk1 : k1 + 128 ≤ 4352) (hk2 : k2 + 128 ≤ 4352) (hk3 : k3 + 128 ≤ 4352) : Keep a (projMS s k0 k1 k2 k3 hc hk0 hk1 hk2 hk3) := by
  unfold projMS
  repeat first | apply Keep.stripM
  exact h

theorem Keep.projL {a s : St F} (h : Keep a s)  : Keep a (projLS s ) := by
  unfold projLS
  repeat first | apply Keep.stripL
  exact h

theorem Keep.quant {a s : St F} (h : Keep a s) (k0 k1 k2 k3 : Nat) (hk0 : k0 + 128 ≤ 4352) (hk1 : k1 + 128 ≤ 4352) (hk2 : k2 + 128 ≤ 4352) (hk3 : k3 + 128 ≤ 4352) : Keep a (quantS s k0 k1 k2 k3 hk0 hk1 hk2 hk3) := by
  unfold quantS
  repeat first | apply Keep.qstrip
  exact h

theorem Keep.quantL {a s : St F} (h : Keep a s)  : Keep a (quantLS s ) := by
  unfold quantLS
  repeat first | apply Keep.qstripL
  exact h

theorem Keep.finAll {a s : St F} (h : Keep a s)  : Keep a (finAllS s ) := by
  unfold finAllS
  repeat first | apply Keep.fin1
  exact h

attribute [local irreducible] projFS projMS projLS quantS quantLS finAllS

theorem Keep.brA {a s : St F} (h : Keep a s)  : Keep a (brAS s ) := by
  unfold brAS
  repeat first | apply Keep.projL | apply Keep.projM | apply Keep.projF | apply Keep.quantL | apply Keep.quant | apply Keep.loadXs | apply Keep.finAll
  exact h

theorem Keep.brB {a s : St F} (h : Keep a s)  : Keep a (brBS s ) := by
  unfold brBS
  repeat first | apply Keep.projL | apply Keep.projM | apply Keep.projF | apply Keep.quantL | apply Keep.quant | apply Keep.loadXs | apply Keep.finAll
  exact h

theorem Keep.brC {a s : St F} (h : Keep a s)  : Keep a (brCS s ) := by
  unfold brCS
  repeat first | apply Keep.projL | apply Keep.projM | apply Keep.projF | apply Keep.quantL | apply Keep.quant | apply Keep.loadXs | apply Keep.finAll
  exact h

end Cert.Kernel.Gen
-- ==== Proof.KernelBodyEq.lean ====
/- The printed body of the kernel is the program of blocks. -/
module

public import proofs.«01_k».proof.Proof.KernelBody
public import Idealize.ShloMosaic.Lib.Tactic.ProgEq

@[expose] public section

noncomputable section

namespace Cert.Kernel

open Idealize.ShloMosaic Idealize.SL.Sem
open scoped Idealize.ShloMosaic.ProgEq

/-- The printed body, with two arguments more. -/
def pa (_ _ : Unit) {F : FTy → Type} [FloatOps F] [Facts] := @cc0_oproj_rmsnorm_quant F _ _

/-- The body of blocks, with two arguments more. -/
def pb (_ _ : Unit) {F : FTy → Type} [FloatOps F] [Facts] := @body F _ _

set_option maxHeartbeats 4000000 in
prog_eq Cert.Kernel.body_eq : Cert.Kernel.pa Cert.Kernel.pb from Cert.Kernel to Cert.Kernel at () () by intros; rfl

end Cert.Kernel
-- ==== Proof.KernelPoint.lean ====
/- The kernel at a point of its grid: the memrefs it is called with, its three conditions, and what it leaves in them. -/
module

public import proofs.«01_k».proof.Proof.KernelBlocks
public import proofs.«01_k».proof.Proof.KernelBodyEq

@[expose] public section

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 63 — decided over the grid. -/
theorem hcond0_1 : ∀ t : Fin cfg0.N, cond0_1 (grid0.coords t) ↔ (1 ≤ t.val % 65 ∧ t.val % 65 ≤ 63) :=
  (by decide +kernel : ∀ t : Fin grid0.N, cond0_1 (grid0.coords t) ↔ (1 ≤ t.val % 65 ∧ t.val % 65 ≤ 63))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 64)

/-! ## Where the windows are idle (the printed configuration's table `Cfg.idle`) -/

/-- The window 0 is never idle (an input). -/
theorem liveAt0_0 : ∀ t : Fin cfg0.N, cfg0.idle 0 (grid0.coords t) = false := fun _ => rfl
/-- The window 1 is never idle (an input). -/
theorem liveAt0_1 : ∀ t : Fin cfg0.N, cfg0.idle 1 (grid0.coords t) = false := fun _ => rfl
/-- The window 2 is never idle (an input). -/
theorem liveAt0_2 : ∀ t : Fin cfg0.N, cfg0.idle 2 (grid0.coords t) = false := fun _ => rfl
/-- The window 3 is never idle (an input). -/
theorem liveAt0_3 : ∀ t : Fin cfg0.N, cfg0.idle 3 (grid0.coords t) = false := fun _ => rfl
/-- The window 4 is never idle (an input). -/
theorem liveAt0_4 : ∀ t : Fin cfg0.N, cfg0.idle 4 (grid0.coords t) = false := fun _ => rfl
/-- The window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S1x1x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1664 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1664x4352 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4352 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4352 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4352 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4352 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4352 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x4352 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The arrays of the point. -/
abbrev bufs (t : Fin cfg0.N) : Bufs := ⟨ms0_0 t, ms0_1 t, ms0_2 t, ms0_3 t, ms0_4 t, ms0_5 t, ms0_6 t, ms0_7 t, ms0_8 t, scM0_0, scM0_1, scM0_2, scM0_3, scM0_4, hs0_6 t, hs0_7 t⟩

/-- What the point does to them. -/
def stepS (t : Fin cfg0.N) (st : St F) : St F := if t.val = 0 then brAS st else if t.val = 64 then brCS st else brBS st

theorem bodyAt0_eq (t : Fin cfg0.N) : bodyAt0 (F := F) t = body (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) :=
  body_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) _

theorem runs_at (t : Fin cfg0.N) (st : St F) : Runs (bufs t) (bodyAt0 t) st ⟨⟩ (stepS t st) := by
  rw [bodyAt0_eq]
  unfold body
  have hN : t.val < 65 := lt_of_lt_of_eq t.isLt (show cfg0.N = 65 from N_0)
  have c0 := hcond0_0 t
  have c1 := hcond0_1 t
  have c2 := hcond0_2 t
  unfold stepS
  by_cases h0 : t.val = 0
  · rw [dif_pos (c0.2 (by omega)), dif_neg (fun h => by have := c1.1 h; omega), dif_neg (fun h => by have := c2.1 h; omega), if_pos h0]
    exact .bind (runs_brA (bufs t) st) (.bind (.pure _ _ _) (.bind (.pure _ _ _) (.pure _ _ _)))
  · by_cases h2 : t.val = 64
    · rw [dif_neg (fun h => by have := c0.1 h; omega), dif_neg (fun h => by have := c1.1 h; omega), dif_pos (c2.2 (by omega)), if_neg h0, if_pos h2]
      exact Runs.bind (runs_brC (bufs t) st) (Runs.pure (bufs t) (brCS st) PUnit.unit)
    · rw [dif_neg (fun h => by have := c0.1 h; omega), dif_pos (c1.2 (by omega)), dif_neg (fun h => by have := c2.1 h; omega), if_neg h0, if_neg h2]
      exact Runs.bind (runs_brB (bufs t) st) (Runs.pure (bufs t) (brBS st) PUnit.unit)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

end Cert.Kernel.Gen
-- ==== Proof.KernelFrame.lean ====
/- The run of the kernel with nothing stated of its results: it ends, the arguments are as launched, and every semaphore is at zero. -/
module

public import proofs.«01_k».proof.Proof.Gen.Kernel.Frame
public import proofs.«01_k».proof.Proof.KernelKeep
public import proofs.«01_k».proof.Proof.KernelPoint
public import Idealize.ShloMosaic.Lib.Claim

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

theorem Keep.step (t : Fin cfg0.N) (st : St F) : Keep st (stepS t st) := by
  unfold stepS
  by_cases h0 : t.val = 0
  · rw [if_pos h0]; exact .brA (.refl _)
  · rw [if_neg h0]
    by_cases h2 : t.val = 64
    · rw [if_pos h2]; exact .brC (.refl _)
    · rw [if_neg h2]; exact .brB (.refl _)

/-- The three result windows: nothing is stated of what they hold. -/
def forgets0 : Fin 9 → Bool := fun w => w.val == 6 || w.val == 7 || w.val == 8

/-- The proof data: an input's buffer holds its block, a result's buffer and the scratch arrays hold anything. -/
def datsR (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eqR (c : Dev nD) (w : Fin cfg0.W) : (datsR m 0 c).A w = V m c (Pipeline.arrRef spec0 w) := by
  dsimp only [datsR]

theorem afterR_0 (c : Dev nD) (t : Fin cfg0.N) : (datsR m 0 c).after 0 t = iblk m c 0 t := by dsimp only [datsR]
theorem afterR_1 (c : Dev nD) (t : Fin cfg0.N) : (datsR m 0 c).after 1 t = iblk m c 1 t := by dsimp only [datsR]
theorem afterR_2 (c : Dev nD) (t : Fin cfg0.N) : (datsR m 0 c).after 2 t = iblk m c 2 t := by dsimp only [datsR]
theorem afterR_3 (c : Dev nD) (t : Fin cfg0.N) : (datsR m 0 c).after 3 t = iblk m c 3 t := by dsimp only [datsR]
theorem afterR_4 (c : Dev nD) (t : Fin cfg0.N) : (datsR m 0 c).after 4 t = iblk m c 4 t := by dsimp only [datsR]
theorem afterR_5 (c : Dev nD) (t : Fin cfg0.N) : (datsR m 0 c).after 5 t = iblk m c 5 t := by dsimp only [datsR]
theorem beforeR_0 (c : Dev nD) (t : Fin cfg0.N) (d) : (datsR m 0 c).before 0 t d = iblk m c 0 t :=
  before0_0_of m (datsR m 0 c) (A_eqR m c 0) (afterR_0 m c) t d
theorem beforeR_1 (c : Dev nD) (t : Fin cfg0.N) (d) : (datsR m 0 c).before 1 t d = iblk m c 1 t :=
  before0_1_of m (datsR m 0 c) (A_eqR m c 1) (afterR_1 m c) t d
theorem beforeR_2 (c : Dev nD) (t : Fin cfg0.N) (d) : (datsR m 0 c).before 2 t d = iblk m c 2 t :=
  before0_2_of m (datsR m 0 c) (A_eqR m c 2) (afterR_2 m c) t d
theorem beforeR_3 (c : Dev nD) (t : Fin cfg0.N) (d) : (datsR m 0 c).before 3 t d = iblk m c 3 t :=
  before0_3_of m (datsR m 0 c) (A_eqR m c 3) (afterR_3 m c) t d
theorem beforeR_4 (c : Dev nD) (t : Fin cfg0.N) (d) : (datsR m 0 c).before 4 t d = iblk m c 4 t :=
  before0_4_of m (datsR m 0 c) (A_eqR m c 4) (afterR_4 m c) t d
theorem beforeR_5 (c : Dev nD) (t : Fin cfg0.N) (d) : (datsR m 0 c).before 5 t d = iblk m c 5 t :=
  before0_5_of m (datsR m 0 c) (A_eqR m c 5) (afterR_5 m c) t d

def bodyPreR (c : Dev nD) (t : Fin cfg0.N) : sProp 𝕄 :=
  iprop((datsR m 0 c).Φ t.castSucc ∗ (datsR m 0 c).owesAt () t.castSucc
    ∗ (∃ d, owns (c : Thread nD τ) (ms0_0 t) fullShare ((datsR m 0 c).before 0 t d))
    ∗ (∃ d, owns (c : Thread nD τ) (ms0_1 t) fullShare ((datsR m 0 c).before 1 t d))
    ∗ (∃ d, owns (c : Thread nD τ) (ms0_2 t) fullShare ((datsR m 0 c).before 2 t d))
    ∗ (∃ d, owns (c : Thread nD τ) (ms0_3 t) fullShare ((datsR m 0 c).before 3 t d))
    ∗ (∃ d, owns (c : Thread nD τ) (ms0_4 t) fullShare ((datsR m 0 c).before 4 t d))
    ∗ (∃ d, owns (c : Thread nD τ) (ms0_5 t) fullShare ((datsR m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

def bodyPostR (c : Dev nD) (t : Fin cfg0.N) : sProp 𝕄 :=
  iprop((datsR m 0 c).Φ t.succ ∗ (datsR m 0 c).owesAt () t.succ
    ∗ (datsR m 0 c).leavesExact 0 t
    ∗ (datsR m 0 c).leavesExact 1 t
    ∗ (datsR m 0 c).leavesExact 2 t
    ∗ (datsR m 0 c).leavesExact 3 t
    ∗ (datsR m 0 c).leavesExact 4 t
    ∗ (datsR m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1000000 in
/-- The body at any point. -/
theorem sound_bodyR (c : Dev nD) (t : Fin cfg0.N) :
    bodyPreR m c t ⊢ wp frame (wpE (defs₀ (F := F)) Variants.none c none) Set.univ (bodyAt0 t) (fun _ => bodyPostR m c t) := by
  unfold bodyPreR bodyPostR
  simp only [beforeR_0, beforeR_1, beforeR_2, beforeR_3, beforeR_4, beforeR_5]
  rw [show (datsR m 0 c).owesAt () t.succ = (datsR m 0 c).owesAt () t.castSucc from rfl]
  rw [show (datsR m 0 c).Φ t.succ = Pipeline.ΦA spec0 c from rfl, show (datsR m 0 c).Φ t.castSucc = Pipeline.ΦA spec0 c from rfl, PhiA0_eq]
  rw [show (datsR m 0 c).leavesExact 0 t = owns (c : Thread nD τ) (ms0_0 t) fullShare ((datsR m 0 c).after 0 t) from by
    unfold Dat.leavesExact; rw [liveAt0_0 t], afterR_0]
  rw [show (datsR m 0 c).leavesExact 1 t = owns (c : Thread nD τ) (ms0_1 t) fullShare ((datsR m 0 c).after 1 t) from by
    unfold Dat.leavesExact; rw [liveAt0_1 t], afterR_1]
  rw [show (datsR m 0 c).leavesExact 2 t = owns (c : Thread nD τ) (ms0_2 t) fullShare ((datsR m 0 c).after 2 t) from by
    unfold Dat.leavesExact; rw [liveAt0_2 t], afterR_2]
  rw [show (datsR m 0 c).leavesExact 3 t = owns (c : Thread nD τ) (ms0_3 t) fullShare ((datsR m 0 c).after 3 t) from by
    unfold Dat.leavesExact; rw [liveAt0_3 t], afterR_3]
  rw [show (datsR m 0 c).leavesExact 4 t = owns (c : Thread nD τ) (ms0_4 t) fullShare ((datsR m 0 c).after 4 t) from by
    unfold Dat.leavesExact; rw [liveAt0_4 t], afterR_4]
  rw [show (datsR m 0 c).leavesExact 5 t = owns (c : Thread nD τ) (ms0_5 t) fullShare ((datsR m 0 c).after 5 t) from by
    unfold Dat.leavesExact; rw [liveAt0_5 t], afterR_5]
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := Keep.step t (⟨iblk m c 0 t, iblk m c 1 t, iblk m c 2 t, iblk m c 3 t, iblk m c 4 t, iblk m c 5 t, d6, d7, d8, e0, e1, e2, e3, e4⟩ : St F)
  iapply (runs_at t (⟨iblk m c 0 t, iblk m c 1 t, iblk m c 2 t, iblk m c 3 t, iblk m c 4 t, iblk m c 5 t, d6, d7, d8, e0, e1, e2, e3, e4⟩ : St F) c _)
  generalize stepS t (⟨iblk m c 0 t, iblk m c 1 t, iblk m c 2 t, iblk m c 3 t, iblk m c 4 t, iblk m c 5 t, d6, d7, d8, e0, e1, e2, e3, e4⟩ : St F) = st at hk
  obtain ⟨k1, k2, k3, k4, k5, k6⟩ := hk
  unfold Own
  rw [k1, k2, k3, k4, k5, k6]
  dsimp only
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

theorem body_obligationR (c : Dev nD) : BodyObligation (datsR (F := F) m 0 c) (defs₀ (F := F)) Variants.none () Set.univ forgets0 := fun t => by
  rw [bigSep_W0, bigSep_W0, defs₀_row]
  exact triple_restated (sound_bodyR m c t) rfl .rfl fun _ => .rfl

theorem hinR (c : Dev nD) : Pipeline.ΦA spec0 c ⊢ (datsR m 0 c).Φ 0 := Idealize.SL.BI.Entails.refl _

theorem houtR (c : Dev nD) : (datsR m 0 c).Φ (Fin.last cfg0.N) ⊢ Pipeline.ΦA spec0 c := Idealize.SL.BI.Entails.refl _

set_option backward.isDefEq.respectTransparency.types false in
set_option maxHeartbeats 800000 in
theorem run_mainR : θ_run defs (onTc (τ := τ) (main (F := F))) (s₀ m ρ) (fun r => (Pipeline.RDat.FramePostR (cfgs 0) (fun c => (datsR m 0 c).toRForget forgets0) T0 (V m)) r ∧ r.2.sem = fun _ => 0) :=
  Pipeline.θ_run_frame_around_T_track_forget (Q' := _) cfgs (datsR m) (0 : Fin 1) launch0 defs₀ Variants.none forgets0 T0 m ρ main
    (hbody := fun c => (body_obligationR m c).loose) (hshare := fun c => (datsR m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eqR m) (hin := hinR m) (hout := houtR m)

/-- The run of the kernel: it ends, with the arguments as launched and every semaphore at zero. -/
theorem frameR : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frameR_of m ρ (fun c => (datsR m 0 c).toRForget forgets0) (A_eqR m) ((θ_run defs _ _).mono (fun _ h => h.1) (run_mainR m ρ)))
    ((θ_run defs _ _).mono (fun _ h => h.2) (run_mainR m ρ))

end Cert.Kernel.Gen
-- ==== Proof.IdealBody.lean ====
/- The body of the kernel as a program of blocks: one definition for each block of the kernel's text, at offsets that are variables. The
   printed body, which has every block written out at its own offsets, is proved equal to it. -/
module

public import proofs.«01_k».proof.KernelIdeal
public import Idealize.ShloMosaic.Lib.Tactic.ProgEq

@[expose] public section

noncomputable section

namespace Cert.KernelIdeal

open Idealize.ShloMosaic Idealize.SL.Sem
open Facts₀

/-- A strip of 32 rows and 128 lanes lies inside a tile of 256 rows and all columns. -/
theorem inb_t {r k : Nat} (hr : r + 32 ≤ 256) (hk : k + 128 ≤ 4352) :
    ∀ a, (![r, k] : Fin 2 → Nat) a + S32x128.size a ≤ S256x4352.size a := by
  intro a; fin_cases a <;> simp <;> omega

/-- A strip of 32 rows lies inside a scratch array of 256 rows and 128 lanes. -/
theorem inb_l {r : Nat} (hr : r + 32 ≤ 256) :
    ∀ a, (![r, 0] : Fin 2 → Nat) a + S32x128.size a ≤ S256x128.size a := by
  intro a; fin_cases a <;> simp <;> omega

/-- A block of 128 columns lies inside a row of 4352 columns. -/
theorem inb_r {k : Nat} (hk : k + 128 ≤ 4352) :
    ∀ a, (![0, k] : Fin 2 → Nat) a + S1x128.size a ≤ S1x4352.size a := by
  intro a; fin_cases a <;> simp <;> omega

/-- 512 columns of the weight. -/
theorem inb_w {c : Nat} (hc : c + 512 ≤ 4352) :
    ∀ a, (![0, c] : Fin 2 → Nat) a + S1664x512.size a ≤ S1664x4352.size a := by
  intro a; fin_cases a <;> simp <;> omega

/-- A block of 128 rows lies inside a scratch array of 256 rows. -/
theorem inb_h {r : Nat} (hr : r + 128 ≤ 256) :
    ∀ a, (![r, 0] : Fin 2 → Nat) a + S128x128.size a ≤ S256x128.size a := by
  intro a; fin_cases a <;> simp <;> omega

/-- A block of 128 lanes lies inside a row of 256. -/
theorem inb_x {r : Nat} (hr : r + 128 ≤ 256) :
    ∀ a, (![0, 0, r] : Fin 3 → Nat) a + S1x1x128.size a ≤ S1x1x256.size a := by
  intro a; fin_cases a <;> simp <;> omega

/-- A strip that starts at a multiple of 32 rows is whole words at two elements a word, -/
theorem packed_bf16 {r k : Nat} (h32 : 32 ∣ r) (h : ∀ a, (![r, k] : Fin 2 → Nat) a + S32x128.size a ≤ S256x4352.size a) :
    (Rect.unit (s := S256x4352) ![r, k] S32x128.size h).PackedRows (EltTy.packing .bf16) := by
  refine .inr ⟨le_refl 2, rfl, .inl ⟨?_, ?_⟩⟩
  · exact (show EltTy.packing .bf16 ∣ 32 by decide).trans h32
  · exact (show EltTy.packing .bf16 ∣ 32 by decide)

/-- and at four. -/
theorem packed_fp8 {r k : Nat} (h32 : 32 ∣ r) (h : ∀ a, (![r, k] : Fin 2 → Nat) a + S32x128.size a ≤ S256x4352.size a) :
    (Rect.unit (s := S256x4352) ![r, k] S32x128.size h).PackedRows (EltTy.packing .fp8e4m3) := by
  refine .inr ⟨le_refl 2, rfl, .inl ⟨?_, ?_⟩⟩
  · exact (show EltTy.packing .fp8e4m3 ∣ 32 by decide).trans h32
  · exact (show EltTy.packing .fp8e4m3 ∣ 32 by decide)

/-- A strip's block of 128 lanes of a chunk of 512 columns, -/
theorem sl5 {r j : Nat} (hr : r + 32 ≤ 256) (hj : j + 128 ≤ 512) : S256x512.Slices ![r, j] S32x128 :=
  ⟨rfl, fun a => by fin_cases a <;> simp <;> omega⟩

/-- and of 256. -/
theorem sl2 {r j : Nat} (hr : r + 32 ≤ 256) (hj : j + 128 ≤ 256) : S256x256.Slices ![r, j] S32x128 :=
  ⟨rfl, fun a => by fin_cases a <;> simp <;> omega⟩

variable {F : FTy → Type} [FloatOps F] [Named F] [Facts]

/-- The scale of every row, spread over a lane block: rows `r` to `r + 127`. -/
def loadXs1 (arg1 : Memref sig .tc .vmem S1x1x256 .f32) (arg14 : Memref sig .tc .vmem S256x128 .f32) (r : Nat) (hr : r + 128 ≤ 256) : Prog (TpuEff nD τ sig (Elt F) Λ₀ .tc) PUnit := do
  let v11 : Vec F S1x1x128 .f32 ← Prog.lift (.load arg1 (Rect.unit (s := S1x1x256) ![0, 0, r] S1x1x128.size (inb_x hr)).toLoadRect (View.loadsAt_vmem h_S1x1x128))
  have v12 : FVec F S1x128 .f32 := shapeCast S1x128 v11 shapeCasts_S1x1x128_S1x128
  have v13 : FVec F S1x128 .f32 := shapeCast S1x128 v12 shapeCasts_S1x128_S1x128
  have v14 : FVec F S128x128 .f32 := broadcastTo S128x128 v13 broadcasts_S1x128_S128x128
  have v15 : FVec F S128x128 .f32 := transpose S128x128 [1, 0] v14 transposes_S128x128_p1_0_S128x128
  let v16 : Vec F S128x128 .f32 ← Prog.lift (.load arg14 (Rect.unit (s := S256x128) ![r, 0] S128x128.size (inb_h hr)).toLoadRect (View.loadsAt_vmem h_S128x128))
  have v18 : FVec F S128x128 .f32 := shapeCast S128x128 v15 shapeCasts_S128x128_S128x128
  Prog.lift (.store arg14 (Rect.unit (s := S256x128) ![r, 0] S128x128.size (inb_h hr)) v18 Finset.univ (View.stores_vmem_bits_univ h_S128x128 rfl) (.inl rfl))

/-- The scale of every row. -/
def loadXs (arg1 : Memref sig .tc .vmem S1x1x256 .f32) (arg14 : Memref sig .tc .vmem S256x128 .f32) : Prog (TpuEff nD τ sig (Elt F) Λ₀ .tc) PUnit := do
  loadXs1 arg1 arg14 0 (by decide)
  loadXs1 arg1 arg14 128 (by decide)

/-- One block of 32 rows and 128 columns of the projection: the residual output and its product with gamma are stored; the squares and the
    absolute values are returned. -/
def lane (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (v32 xs : FVec F S32x128 .f32) (r k : Nat)
    (h32 : 32 ∣ r) (hr : r + 32 ≤ 256) (hk : k + 128 ≤ 4352) : Prog (TpuEff nD τ sig (Elt F) Λ₀ .tc) (Σ' (_ : FVec F S32x128 .f32), FVec F S32x128 .f32) := do
  have v33 : FVec F S32x128 .f32 := mulf v32 xs
  let v34 : Vec F S1x128 .f32 ← Prog.lift (.load arg4 (Rect.unit (s := S1x4352) ![0, k] S1x128.size (inb_r hk)).toLoadRect (View.loadsAt_vmem h_S1x128))
  have v35 : FVec F S1x128 .f32 := shapeCast S1x128 v34 shapeCasts_S1x128_S1x128
  have v36 : FVec F S32x128 .f32 := broadcastTo S32x128 v35 broadcasts_S1x128_S32x128
  have v37 : FVec F S32x128 .f32 := mulf v33 v36
  let v38 : Vec F S32x128 .bf16 ← Prog.lift (.load arg5 (Rect.unit (s := S256x4352) ![r, k] S32x128.size (inb_t hr hk)).toLoadRect (View.loadsAt_vmem h_S32x128))
  have v39 : FVec F S32x128 .bf16 := shapeCast S32x128 v38 shapeCasts_S32x128_S32x128
  have v40 : FVec F S32x128 .f32 := extf .f32 v39 bitsLt_bf16_f32
  have v41 : FVec F S32x128 .f32 := addf v37 v40
  have v42 : FVec F S32x128 .bf16 := truncf .bf16 v41 bitsLt_bf16_f32
  let v43 : Vec F S32x128 .bf16 ← Prog.lift (.load arg7 (Rect.unit (s := S256x4352) ![r, k] S32x128.size (inb_t hr hk)).toLoadRect (View.loadsAt_vmem h_S32x128))
  Prog.lift (.store arg7 (Rect.unit (s := S256x4352) ![r, k] S32x128.size (inb_t hr hk)) v42 Finset.univ (View.stores_vmem h_S32x128 (harg7.storeExact_slice rfl _ (packed_bf16 h32 (inb_t hr hk))) (fun _ => rfl)) (.inl rfl))
  have v44 : FVec F S32x128 .f32 := extf .f32 v42 bitsLt_bf16_f32
  let v45 : Vec F S1x128 .f32 ← Prog.lift (.load arg6 (Rect.unit (s := S1x4352) ![0, k] S1x128.size (inb_r hk)).toLoadRect (View.loadsAt_vmem h_S1x128))
  have v46 : FVec F S1x128 .f32 := shapeCast S1x128 v45 shapeCasts_S1x128_S1x128
  have v47 : FVec F S32x128 .f32 := broadcastTo S32x128 v46 broadcasts_S1x128_S32x128
  have v48 : FVec F S32x128 .f32 := mulf v44 v47
  let v49 : Vec F S32x128 .f32 ← Prog.lift (.load arg10 (Rect.unit (s := S256x4352) ![r, k] S32x128.size (inb_t hr hk)).toLoadRect (View.loadsAt_vmem h_S32x128))
  have v51 : FVec F S32x128 .f32 := shapeCast S32x128 v48 shapeCasts_S32x128_S32x128
  Prog.lift (.store arg10 (Rect.unit (s := S256x4352) ![r, k] S32x128.size (inb_t hr hk)) v51 Finset.univ (View.stores_vmem_bits_univ h_S32x128 rfl) (.inl rfl))
  pure ⟨mulf v44 v44, absf v48⟩

/-- A strip of 32 rows of the first chunk. -/
def stripF (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl5 hr (by decide))) xs r k0 h32 hr hk0
  let ⟨q1, m1⟩ ← lane arg4 arg5 arg6 arg7 harg7 arg10 (extractStridedSlice S32x128 ![r, 128] acc (sl5 hr (by decide))) xs r k1 h32 hr hk1
  let ⟨q2, m2⟩ ← lane arg4 arg5 arg6 arg7 harg7 arg10 (extractStridedSlice S32x128 ![r, 256] acc (sl5 hr (by decide))) xs r k2 h32 hr hk2
  let ⟨q3, m3⟩ ← lane arg4 arg5 arg6 arg7 harg7 arg10 (extractStridedSlice S32x128 ![r, 384] acc (sl5 hr (by decide))) xs r k3 h32 hr hk3
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf (addf q0 q1) q2) q3) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf (maximumf m0 m1) m2) m3) shapeCasts_S32x128_S32x128) Finset.univ (View.stores_vmem_bits_univ h_S32x128 rfl) (.inl rfl))

/-- A strip of 32 rows of a chunk that is neither first nor last: the sums and maxima go on from what the scratch holds. -/
def stripM (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl5 hr (by decide))) xs r k0 h32 hr hk0
  let ⟨q1, m1⟩ ← lane arg4 arg5 arg6 arg7 harg7 arg10 (extractStridedSlice S32x128 ![r, 128] acc (sl5 hr (by decide))) xs r k1 h32 hr hk1
  let ⟨q2, m2⟩ ← lane arg4 arg5 arg6 arg7 harg7 arg10 (extractStridedSlice S32x128 ![r, 256] acc (sl5 hr (by decide))) xs r k2 h32 hr hk2
  let ⟨q3, m3⟩ ← lane arg4 arg5 arg6 arg7 harg7 arg10 (extractStridedSlice S32x128 ![r, 384] acc (sl5 hr (by decide))) xs r k3 h32 hr hk3
  let pq : Vec F S32x128 .f32 ← Prog.lift (.load arg11 (Rect.unit (s := S256x128) ![r, 0] S32x128.size (inb_l hr)).toLoadRect (View.loadsAt_vmem h_S32x128))
  let pm : Vec F S32x128 .f32 ← Prog.lift (.load arg12 (Rect.unit (s := S256x128) ![r, 0] S32x128.size (inb_l hr)).toLoadRect (View.loadsAt_vmem h_S32x128))
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf (addf (addf q0 q1) q2) q3) pq) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf (maximumf (maximumf m0 m1) m2) m3) pm) shapeCasts_S32x128_S32x128) Finset.univ (View.stores_vmem_bits_univ h_S32x128 rfl) (.inl rfl))

/-- A strip of 32 rows of the last chunk, of 256 columns. -/
def stripL (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (acc : FVec F S256x256 .f32) (r k0 k1 : Nat) (h32 : 32 ∣ r) (hr : r + 32 ≤ 256) (hk0 : k0 + 128 ≤ 4352) (hk1 : k1 + 128 ≤ 4352) : Prog (TpuEff nD τ sig (Elt F) Λ₀ .tc) PUnit := do
  let xs : Vec F S32x128 .f32 ← Prog.lift (.load arg14 (Rect.unit (s := S256x128) ![r, 0] S32x128.size (inb_l hr)).toLoadRect (View.loadsAt_vmem h_S32x128))
  let ⟨q0, m0⟩ ← lane arg4 arg5 arg6 arg7 harg7 arg10 (extractStridedSlice S32x128 ![r, 0] acc (sl2 hr (by decide))) xs r k0 h32 hr hk0
  let ⟨q1, m1⟩ ← lane arg4 arg5 arg6 arg7 harg7 arg10 (extractStridedSlice S32x128 ![r, 128] acc (sl2 hr (by decide))) xs r k1 h32 hr hk1
  let pq : Vec F S32x128 .f32 ← Prog.lift (.load arg11 (Rect.unit (s := S256x128) ![r, 0] S32x128.size (inb_l hr)).toLoadRect (View.loadsAt_vmem h_S32x128))
  let pm : Vec F S32x128 .f32 ← Prog.lift (.load arg12 (Rect.unit (s := S256x128) ![r, 0] S32x128.size (inb_l hr)).toLoadRect (View.loadsAt_vmem h_S32x128))
  let d1 : Vec F S32x128 .f32 ← Prog.lift (.load arg11 (Rect.unit (s := S256x128) ![r, 0] S32x128.size (inb_l hr)).toLoadRect (View.loadsAt_vmem h_S32x128))
  Prog.lift (.store arg11 (Rect.unit (s := S256x128) ![r, 0] S32x128.size (inb_l hr)) (shapeCast S32x128 (addf (addf q0 q1) pq) shapeCasts_S32x128_S32x128) Finset.univ (View.stores_vmem_bits_univ h_S32x128 rfl) (.inl rfl))
  let d2 : Vec F S32x128 .f32 ← Prog.lift (.load arg12 (Rect.unit (s := S256x128) ![r, 0] S32x128.size (inb_l hr)).toLoadRect (View.loadsAt_vmem h_S32x128))
  Prog.lift (.store arg12 (Rect.unit (s := S256x128) ![r, 0] S32x128.size (inb_l hr)) (shapeCast S32x128 (maximumf (maximumf m0 m1) pm) shapeCasts_S32x128_S32x128) Finset.univ (View.stores_vmem_bits_univ h_S32x128 rfl) (.inl rfl))

/-- The first chunk of the projection. -/
def projF (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x512 .fp8e4m3 ← Prog.lift (.load arg3 (Rect.unit (s := S1664x4352) ![0, 0] S1664x512.size (inb_w (by decide))).toLoadRect (View.loadsAt_vmem h_S1664x512))
  have cst : FVec F S256x512 .f32 := constant S256x512 .f32 0x00000000#32
  have acc : FVec F S256x512 .f32 := matmul dot_S256x1664_S1664x512_S256x512_1_0_0_1_n_n none v28 v29 cst
  stripF arg4 arg5 arg6 arg7 harg7 arg10 arg11 arg12 arg14 acc 0 0 128 256 384 (by decide) (by decide) (by decide) (by decide) (by decide) (by decide)
  stripF arg4 arg5 arg6 arg7 harg7 arg10 arg11 arg12 arg14 acc 32 0 128 256 384 (by decide) (by decide) (by decide) (by decide) (by decide) (by decide)
  stripF arg4 arg5 arg6 arg7 harg7 arg10 arg11 arg12 arg14 acc 64 0 128 256 384 (by decide) (by decide) (by decide) (by decide) (by decide) (by decide)
  stripF arg4 arg5 arg6 arg7 harg7 arg10 arg11 arg12 arg14 acc 96 0 128 256 384 (by decide) (by decide) (by decide) (by decide) (by decide) (by decide)
  stripF arg4 arg5 arg6 arg7 harg7 arg10 arg11 arg12 arg14 acc 128 0 128 256 384 (by decide) (by decide) (by decide) (by decide) (by decide) (by decide)
  stripF arg4 arg5 arg6 arg7 harg7 arg10 arg11 arg12 arg14 acc 160 0 128 256 384 (by decide) (by decide) (by decide) (by decide) (by decide) (by decide)
  stripF arg4 arg5 arg6 arg7 harg7 arg10 arg11 arg12 arg14 acc 192 0 128 256 384 (by decide) (by decide) (by decide) (by decide) (by decide) (by decide)
  stripF arg4 arg5 arg6 arg7 harg7 arg10 arg11 arg12 arg14 acc 224 0 128 256 384 (by decide) (by decide) (by decide) (by decide) (by decide) (by decide)

/-- The chunk of the projection at column `k0`, neither first nor last. -/
def projM (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) (k0 k1 k2 k3 : Nat) (hc : k0 + 512 ≤ 4352) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x512 .fp8e4m3 ← Prog.lift (.load arg3 (Rect.unit (s := S1664x4352) ![0, k0] S1664x512.size (inb_w hc)).toLoadRect (View.loadsAt_vmem h_S1664x512))
  have cst : FVec F S256x512 .f32 := constant S256x512 .f32 0x00000000#32
  have acc : FVec F S256x512 .f32 := matmul dot_S256x1664_S1664x512_S256x512_1_0_0_1_n_n none v28 v29 cst
  stripM arg4 arg5 arg6 arg7 harg7 arg10 arg11 arg12 arg14 acc 0 k0 k1 k2 k3 (by decide) (by decide) hk0 hk1 hk2 hk3
  stripM arg4 arg5 arg6 arg7 harg7 arg10 arg11 arg12 arg14 acc 32 k0 k1 k2 k3 (by decide) (by decide) hk0 hk1 hk2 hk3
  stripM arg4 arg5 arg6 arg7 harg7 arg10 arg11 arg12 arg14 acc 64 k0 k1 k2 k3 (by decide) (by decide) hk0 hk1 hk2 hk3
  stripM arg4 arg5 arg6 arg7 harg7 arg10 arg11 arg12 arg14 acc 96 k0 k1 k2 k3 (by decide) (by decide) hk0 hk1 hk2 hk3
  stripM arg4 arg5 arg6 arg7 harg7 arg10 arg11 arg12 arg14 acc 128 k0 k1 k2 k3 (by decide) (by decide) hk0 hk1 hk2 hk3
  stripM arg4 arg5 arg6 arg7 harg7 arg10 arg11 arg12 arg14 acc 160 k0 k1 k2 k3 (by decide) (by decide) hk0 hk1 hk2 hk3
  stripM arg4 arg5 arg6 arg7 harg7 arg10 arg11 arg12 arg14 acc 192 k0 k1 k2 k3 (by decide) (by decide) hk0 hk1 hk2 hk3
  stripM arg4 arg5 arg6 arg7 harg7 arg10 arg11 arg12 arg14 acc 224 k0 k1 k2 k3 (by decide) (by decide) hk0 hk1 hk2 hk3

/-- The last chunk of the projection. -/
def projL (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  let v27 : Vec F S256x1664 .fp8e4m3 ← Prog.lift (.load arg2 (Rect.unit (s := S256x1664) ![0, 0] S256x1664.size inb_S256x1664_S256x1664_0_0).toLoadRect (View.loadsAt_vmem h_S256x1664))
  have v28 : FVec F S256x1664 .fp8e4m3 := shapeCast S256x1664 v27 shapeCasts_S256x1664_S256x1664
  let v29 : Vec F S1664x256 .fp8e4m3 ← Prog.lift (.load arg3 (Rect.unit (s := S1664x4352) ![0, 4096] S1664x256.size inb_S1664x4352_S1664x256_0_4096).toLoadRect (View.loadsAt_vmem h_S1664x256))
  have cst : FVec F S256x256 .f32 := constant S256x256 .f32 0x00000000#32
  have acc : FVec F S256x256 .f32 := matmul dot_S256x1664_S1664x256_S256x256_1_0_0_1_n_n none v28 v29 cst
  stripL arg4 arg5 arg6 arg7 harg7 arg10 arg11 arg12 arg14 acc 0 4096 4224 (by decide) (by decide) (by decide) (by decide)
  stripL arg4 arg5 arg6 arg7 harg7 arg10 arg11 arg12 arg14 acc 32 4096 4224 (by decide) (by decide) (by decide) (by decide)
  stripL arg4 arg5 arg6 arg7 harg7 arg10 arg11 arg12 arg14 acc 64 4096 4224 (by decide) (by decide) (by decide) (by decide)
  stripL arg4 arg5 arg6 arg7 harg7 arg10 arg11 arg12 arg14 acc 96 4096 4224 (by decide) (by decide) (by decide) (by decide)
  stripL arg4 arg5 arg6 arg7 harg7 arg10 arg11 arg12 arg14 acc 128 4096 4224 (by decide) (by decide) (by decide) (by decide)
  stripL arg4 arg5 arg6 arg7 harg7 arg10 arg11 arg12 arg14 acc 160 4096 4224 (by decide) (by decide) (by decide) (by decide)
  stripL arg4 arg5 arg6 arg7 harg7 arg10 arg11 arg12 arg14 acc 192 4096 4224 (by decide) (by decide) (by decide) (by decide)
  stripL arg4 arg5 arg6 arg7 harg7 arg10 arg11 arg12 arg14 acc 224 4096 4224 (by decide) (by decide) (by decide) (by decide)

/-- One block of 32 rows and 128 columns of the codes. -/
def qlane (arg8 : Memref sig .tc .vmem S256x4352 .fp8e4m3) (harg8 : arg8.IsWhole) (arg10 : Memref sig .tc .vmem S256x4352 .f32) (s : FVec F S32x128 .f32) (r k : Nat) (h32 : 32 ∣ r) (hr : r + 32 ≤ 256) (hk : k + 128 ≤ 4352) : Prog (TpuEff nD τ sig (Elt F) Λ₀ .tc) PUnit := do
  let v1 : Vec F S32x128 .f32 ← Prog.lift (.load arg10 (Rect.unit (s := S256x4352) ![r, k] S32x128.size (inb_t hr hk)).toLoadRect (View.loadsAt_vmem h_S32x128))
  have v2 : FVec F S32x128 .f32 := mulf v1 s
  have lo : F .f32 := Scalar.ofBits .f32 0xC3E00000#32
  have hi : F .f32 := Scalar.ofBits .f32 0x43E00000#32
  have v3 : FVec F S32x128 .f32 := broadcast S32x128 lo
  have v4 : FVec F S32x128 .f32 := maximumf v3 v2
  have v5 : FVec F S32x128 .f32 := broadcast S32x128 hi
  have v6 : FVec F S32x128 .f32 := minimumf v5 v4
  have v7 : FVec F S32x128 .fp8e4m3 := truncf .fp8e4m3 v6 bitsLt_fp8e4m3_f32
  let v8 : Vec F S32x128 .fp8e4m3 ← Prog.lift (.load arg8 (Rect.unit (s := S256x4352) ![r, k] S32x128.size (inb_t hr hk)).toLoadRect (View.loadsAt_vmem h_S32x128))
  Prog.lift (.store arg8 (Rect.unit (s := S256x4352) ![r, k] S32x128.size (inb_t hr hk)) v7 Finset.univ (View.stores_vmem h_S32x128 (harg8.storeExact_slice rfl _ (packed_fp8 h32 (inb_t hr hk))) (fun _ => rfl)) (.inl rfl))

/-- The codes of a strip of 32 rows of a chunk of 512 columns. -/
def qstrip (arg8 : Memref sig .tc .vmem S256x4352 .fp8e4m3) (harg8 : arg8.IsWhole) (arg10 : Memref sig .tc .vmem S256x4352 .f32) (arg13 : Memref sig .tc .vmem S256x128 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  let s : Vec F S32x128 .f32 ← Prog.lift (.load arg13 (Rect.unit (s := S256x128) ![r, 0] S32x128.size (inb_l hr)).toLoadRect (View.loadsAt_vmem h_S32x128))
  qlane arg8 harg8 arg10 s r k0 h32 hr hk0
  qlane arg8 harg8 arg10 s r k1 h32 hr hk1
  qlane arg8 harg8 arg10 s r k2 h32 hr hk2
  qlane arg8 harg8 arg10 s r k3 h32 hr hk3

/-- The codes of a strip of 32 rows of the last chunk, of 256 columns. -/
def qstripL (arg8 : Memref sig .tc .vmem S256x4352 .fp8e4m3) (harg8 : arg8.IsWhole) (arg10 : Memref sig .tc .vmem S256x4352 .f32) (arg13 : Memref sig .tc .vmem S256x128 .f32) (r k0 k1 : Nat) (h32 : 32 ∣ r) (hr : r + 32 ≤ 256) (hk0 : k0 + 128 ≤ 4352) (hk1 : k1 + 128 ≤ 4352) : Prog (TpuEff nD τ sig (Elt F) Λ₀ .tc) PUnit := do
  let s : Vec F S32x128 .f32 ← Prog.lift (.load arg13 (Rect.unit (s := S256x128) ![r, 0] S32x128.size (inb_l hr)).toLoadRect (View.loadsAt_vmem h_S32x128))
  qlane arg8 harg8 arg10 s r k0 h32 hr hk0
  qlane arg8 harg8 arg10 s r k1 h32 hr hk1

/-- The codes of the chunk at column `k0`. -/
def quant (arg8 : Memref sig .tc .vmem S256x4352 .fp8e4m3) (harg8 : arg8.IsWhole) (arg10 : Memref sig .tc .vmem S256x4352 .f32) (arg13 : Memref sig .tc .vmem S256x128 .f32) (k0 k1 k2 k3 : Nat) (hk0 : k0 + 128 ≤ 4352) (hk1 : k1 + 128 ≤ 4352) (hk2 : k2 + 128 ≤ 4352) (hk3 : k3 + 128 ≤ 4352) : Prog (TpuEff nD τ sig (Elt F) Λ₀ .tc) PUnit := do
  qstrip arg8 harg8 arg10 arg13 0 k0 k1 k2 k3 (by decide) (by decide) hk0 hk1 hk2 hk3
  qstrip arg8 harg8 arg10 arg13 32 k0 k1 k2 k3 (by decide) (by decide) hk0 hk1 hk2 hk3
  qstrip arg8 harg8 arg10 arg13 64 k0 k1 k2 k3 (by decide) (by decide) hk0 hk1 hk2 hk3
  qstrip arg8 harg8 arg10 arg13 96 k0 k1 k2 k3 (by decide) (by decide) hk0 hk1 hk2 hk3
  qstrip arg8 harg8 arg10 arg13 128 k0 k1 k2 k3 (by decide) (by decide) hk0 hk1 hk2 hk3
  qstrip arg8 harg8 arg10 arg13 160 k0 k1 k2 k3 (by decide) (by decide) hk0 hk1 hk2 hk3
  qstrip arg8 harg8 arg10 arg13 192 k0 k1 k2 k3 (by decide) (by decide) hk0 hk1 hk2 hk3
  qstrip arg8 harg8 arg10 arg13 224 k0 k1 k2 k3 (by decide) (by decide) hk0 hk1 hk2 hk3

/-- The codes of the last chunk. -/
def quantL (arg8 : Memref sig .tc .vmem S256x4352 .fp8e4m3) (harg8 : arg8.IsWhole) (arg10 : Memref sig .tc .vmem S256x4352 .f32) (arg13 : Memref sig .tc .vmem S256x128 .f32) : Prog (TpuEff nD τ sig (Elt F) Λ₀ .tc) PUnit := do
  qstripL arg8 harg8 arg10 arg13 0 4096 4224 (by decide) (by decide) (by decide) (by decide)
  qstripL arg8 harg8 arg10 arg13 32 4096 4224 (by decide) (by decide) (by decide) (by decide)
  qstripL arg8 harg8 arg10 arg13 64 4096 4224 (by decide) (by decide) (by decide) (by decide)
  qstripL arg8 harg8 arg10 arg13 96 4096 4224 (by decide) (by decide) (by decide) (by decide)
  qstripL arg8 harg8 arg10 arg13 128 4096 4224 (by decide) (by decide) (by decide) (by decide)
  qstripL arg8 harg8 arg10 arg13 160 4096 4224 (by decide) (by decide) (by decide) (by decide)
  qstripL arg8 harg8 arg10 arg13 192 4096 4224 (by decide) (by decide) (by decide) (by decide)
  qstripL arg8 harg8 arg10 arg13 224 4096 4224 (by decide) (by decide) (by decide) (by decide)

/-- The statistics of 128 rows: the factor of the codes and the scale. -/
def fin1 (arg9 : Memref sig .tc .vmem S1x1x256 .f32) (arg11 : Memref sig .tc .vmem S256x128 .f32) (arg12 : Memref sig .tc .vmem S256x128 .f32) (arg13 : Memref sig .tc .vmem S256x128 .f32) (r : Nat) (hr : r + 128 ≤ 256) : Prog (TpuEff nD τ sig (Elt F) Λ₀ .tc) PUnit := do
  let v11 : Vec F S128x128 .f32 ← Prog.lift (.load arg11 (Rect.unit (s := S256x128) ![r, 0] S128x128.size (inb_h hr)).toLoadRect (View.loadsAt_vmem h_S128x128))
  have v12 : FVec F S128 .f32 := multiReduction .add [1] S128 v11 0x00000000#32 reduces_S128x128_S128 (.inl rfl) rfl
  have v13 : FVec F S128x1 .f32 := shapeCast S128x1 v12 shapeCasts_S128_S128x1
  let v14 : Vec F S128x128 .f32 ← Prog.lift (.load arg12 (Rect.unit (s := S256x128) ![r, 0] S128x128.size (inb_h hr)).toLoadRect (View.loadsAt_vmem h_S128x128))
  have v15 : FVec F S128 .f32 := multiReduction .maximumf [1] S128 v14 0xFF800000#32 reduces_S128x128_S128 (.inl rfl) rfl
  have v16 : FVec F S128x1 .f32 := shapeCast S128x1 v15 shapeCasts_S128_S128x1
  have v17 : FVec F S128x1 .f32 := shapeCast S128x1 v13 shapeCasts_S128x1_S128x1
  have v18 : FVec F S128x128 .f32 := broadcastTo S128x128 v17 broadcasts_S128x1_S128x128
  have v19 : FVec F S128x1 .f32 := shapeCast S128x1 v16 shapeCasts_S128x1_S128x1
  have v20 : FVec F S128x128 .f32 := broadcastTo S128x128 v19 broadcasts_S128x1_S128x128
  have cst_9 : F .f32 := Named.named κ "inv_n" 0x3970F0F1#32
  have v21 : FVec F S128x128 .f32 := broadcast S128x128 cst_9
  have v22 : FVec F S128x128 .f32 := mulf v18 v21
  have cst_10 : F .f32 := Scalar.ofBits .f32 0x358637BD#32
  have v23 : FVec F S128x128 .f32 := broadcast S128x128 cst_10
  have v24 : FVec F S128x128 .f32 := addf v22 v23
  have v25 : FVec F S128x128 .f32 := rsqrt v24
  have v26 : FVec F S128x128 .f32 := mulf v20 v25
  have cst_11 : F .f32 := Scalar.ofBits .f32 0x3B124925#32
  have v27 : FVec F S128x128 .f32 := broadcast S128x128 cst_11
  have v28 : FVec F S128x128 .f32 := mulf v26 v27
  have cst_12 : F .f32 := Scalar.ofBits .f32 0x00000000#32
  have v29 : FVec F S128x128 .f32 := broadcast S128x128 cst_12
  have v30 : IVec S128x128 1 := cmpf .oeq v28 v29
  have b0 : IVec S128x128 32 := broadcast S128x128 0#32
  have u0 : IVec S128x128 32 := addi b0 (broadcast S128x128 128#32)
  have b1 : IVec S128x128 32 := select (cmpf .olt v28 (bitcastToFloat .f32 (shli u0 (broadcast S128x128 23#32)))) b0 u0
  have u1 : IVec S128x128 32 := addi b1 (broadcast S128x128 64#32)
  have b2 : IVec S128x128 32 := select (cmpf .olt v28 (bitcastToFloat .f32 (shli u1 (broadcast S128x128 23#32)))) b1 u1
  have u2 : IVec S128x128 32 := addi b2 (broadcast S128x128 32#32)
  have b3 : IVec S128x128 32 := select (cmpf .olt v28 (bitcastToFloat .f32 (shli u2 (broadcast S128x128 23#32)))) b2 u2
  have u3 : IVec S128x128 32 := addi b3 (broadcast S128x128 16#32)
  have b4 : IVec S128x128 32 := select (cmpf .olt v28 (bitcastToFloat .f32 (shli u3 (broadcast S128x128 23#32)))) b3 u3
  have u4 : IVec S128x128 32 := addi b4 (broadcast S128x128 8#32)
  have b5 : IVec S128x128 32 := select (cmpf .olt v28 (bitcastToFloat .f32 (shli u4 (broadcast S128x128 23#32)))) b4 u4
  have u5 : IVec S128x128 32 := addi b5 (broadcast S128x128 4#32)
  have b6 : IVec S128x128 32 := select (cmpf .olt v28 (bitcastToFloat .f32 (shli u5 (broadcast S128x128 23#32)))) b5 u5
  have u6 : IVec S128x128 32 := addi b6 (broadcast S128x128 2#32)
  have b7 : IVec S128x128 32 := select (cmpf .olt v28 (bitcastToFloat .f32 (shli u6 (broadcast S128x128 23#32)))) b6 u6
  have u7 : IVec S128x128 32 := addi b7 (broadcast S128x128 1#32)
  have b8 : IVec S128x128 32 := select (cmpf .olt v28 (bitcastToFloat .f32 (shli u7 (broadcast S128x128 23#32)))) b7 u7
  have v105 : IVec S128x128 32 := subi b8 (broadcast S128x128 126#32)
  have v107 : IVec S128x128 32 := select v30 (broadcast S128x128 0#32) v105
  have v109 : IVec S128x128 32 := addi v107 (broadcast S128x128 127#32)
  have v112 : FVec F S128x128 .f32 := bitcastToFloat .f32 (shli v109 (broadcast S128x128 23#32))
  have v114 : IVec S128x128 32 := subi (broadcast S128x128 127#32) v107
  have v117 : FVec F S128x128 .f32 := bitcastToFloat .f32 (shli v114 (broadcast S128x128 23#32))
  have v118 : FVec F S128x128 .f32 := mulf v25 v117
  let v119 : Vec F S128x128 .f32 ← Prog.lift (.load arg13 (Rect.unit (s := S256x128) ![r, 0] S128x128.size (inb_h hr)).toLoadRect (View.loadsAt_vmem h_S128x128))
  Prog.lift (.store arg13 (Rect.unit (s := S256x128) ![r, 0] S128x128.size (inb_h hr)) (shapeCast S128x128 v118 shapeCasts_S128x128_S128x128) Finset.univ (View.stores_vmem_bits_univ h_S128x128 rfl) (.inl rfl))
  have v122 : FVec F S128x128 .f32 := transpose S128x128 [1, 0] v112 transposes_S128x128_p1_0_S128x128
  have v123 : FVec F S1x128 .f32 := extractStridedSlice S1x128 ![0, 0] v122 slices_S128x128_o0_0_S1x128
  let v124 : Vec F S1x1x128 .f32 ← Prog.lift (.load arg9 (Rect.unit (s := S1x1x256) ![0, 0, r] S1x1x128.size (inb_x hr)).toLoadRect (View.loadsAt_vmem h_S1x1x128))
  Prog.lift (.store arg9 (Rect.unit (s := S1x1x256) ![0, 0, r] S1x1x128.size (inb_x hr)) (shapeCast S1x1x128 v123 shapeCasts_S1x128_S1x1x128) Finset.univ (View.stores_vmem_bits_univ h_S1x1x128 rfl) (.inl rfl))

/-- The statistics of the tile. -/
def fin (arg9 : Memref sig .tc .vmem S1x1x256 .f32) (arg11 : Memref sig .tc .vmem S256x128 .f32) (arg12 : Memref sig .tc .vmem S256x128 .f32) (arg13 : Memref sig .tc .vmem S256x128 .f32) : Prog (TpuEff nD τ sig (Elt F) Λ₀ .tc) PUnit := do
  fin1 arg9 arg11 arg12 arg13 0 (by decide)
  fin1 arg9 arg11 arg12 arg13 128 (by decide)

/-- The first point: the first tile is projected. -/
def brA (arg1 : Memref sig .tc .vmem S1x1x256 .f32) (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg10 : Memref sig .tc .vmem S256x4352 .f32) (arg11 : Memref sig .tc .vmem S256x128 .f32) (arg12 : Memref sig .tc .vmem S256x128 .f32) (arg14 : Memref sig .tc .vmem S256x128 .f32) : Prog (TpuEff nD τ sig (Elt F) Λ₀ .tc) PUnit := do
  loadXs arg1 arg14
  projF arg2 arg3 arg4 arg5 arg6 arg7 harg7 arg10 arg11 arg12 arg14
  projM arg2 arg3 arg4 arg5 arg6 arg7 harg7 arg10 arg11 arg12 arg14 512 640 768 896 (by decide) (by decide) (by decide) (by decide) (by decide)
  projM arg2 arg3 arg4 arg5 arg6 arg7 harg7 arg10 arg11 arg12 arg14 1024 1152 1280 1408 (by decide) (by decide) (by decide) (by decide) (by decide)
  projM arg2 arg3 arg4 arg5 arg6 arg7 harg7 arg10 arg11 arg12 arg14 1536 1664 1792 1920 (by decide) (by decide) (by decide) (by decide) (by decide)
  projM arg2 arg3 arg4 arg5 arg6 arg7 harg7 arg10 arg11 arg12 arg14 2048 2176 2304 2432 (by decide) (by decide) (by decide) (by decide) (by decide)
  projM arg2 arg3 arg4 arg5 arg6 arg7 harg7 arg10 arg11 arg12 arg14 2560 2688 2816 2944 (by decide) (by decide) (by decide) (by decide) (by decide)
  projM arg2 arg3 arg4 arg5 arg6 arg7 harg7 arg10 arg11 arg12 arg14 3072 3200 3328 3456 (by decide) (by decide) (by decide) (by decide) (by decide)
  projM arg2 arg3 arg4 arg5 arg6 arg7 harg7 arg10 arg11 arg12 arg14 3584 3712 3840 3968 (by decide) (by decide) (by decide) (by decide) (by decide)
  projL arg2 arg3 arg4 arg5 arg6 arg7 harg7 arg10 arg11 arg12 arg14

/-- A point between the first and the last: the tile before is quantised, chunk by chunk, and the next is projected. -/
def brB (arg1 : Memref sig .tc .vmem S1x1x256 .f32) (arg2 : Memref sig .tc .vmem S256x1664 .fp8e4m3) (arg3 : Memref sig .tc .vmem S1664x4352 .fp8e4m3) (arg4 : Memref sig .tc .vmem S1x4352 .f32) (arg5 : Memref sig .tc .vmem S256x4352 .bf16) (arg6 : Memref sig .tc .vmem S1x4352 .f32) (arg7 : Memref sig .tc .vmem S256x4352 .bf16) (harg7 : arg7.IsWhole) (arg8 : Memref sig .tc .vmem S256x4352 .fp8e4m3) (harg8 : arg8.IsWhole) (arg9 : Memref sig .tc .vmem S1x1x256 .f32) (arg10 : Memref sig .tc .vmem S256x4352 .f32) (arg11 : Memref sig .tc .vmem S256x128 .f32) (arg12 : Memref sig .tc .vmem S256x128 .f32) (arg13 : Memref sig .tc .vmem S256x128 .f32) (arg14 : Memref sig .tc .vmem S256x128 .f32) : Prog (TpuEff nD τ sig (Elt F) Λ₀ .tc) PUnit := do
  fin arg9 arg11 arg12 arg13
  loadXs arg1 arg14
  quant arg8 harg8 arg10 arg13 0 128 256 384 (by decide) (by decide) (by decide) (by decide)
  projF arg2 arg3 arg4 arg5 arg6 arg7 harg7 arg10 arg11 arg12 arg14
  quant arg8 harg8 arg10 arg13 512 640 768 896 (by decide) (by decide) (by decide) (by decide)
  projM arg2 arg3 arg4 arg5 arg6 arg7 harg7 arg10 arg11 arg12 arg14 512 640 768 896 (by decide) (by decide) (by decide) (by decide) (by decide)
  quant arg8 harg8 arg10 arg13 1024 1152 1280 1408 (by decide) (by decide) (by decide) (by decide)
  projM arg2 arg3 arg4 arg5 arg6 arg7 harg7 arg10 arg11 arg12 arg14 1024 1152 1280 1408 (by decide) (by decide) (by decide) (by decide) (by decide)
  quant arg8 harg8 arg10 arg13 1536 1664 1792 1920 (by decide) (by decide) (by decide) (by decide)
  projM arg2 arg3 arg4 arg5 arg6 arg7 harg7 arg10 arg11 arg12 arg14 1536 1664 1792 1920 (by decide) (by decide) (by decide) (by decide) (by decide)
  quant arg8 harg8 arg10 arg13 2048 2176 2304 2432 (by decide) (by decide) (by decide) (by decide)
  projM arg2 arg3 arg4 arg5 arg6 arg7 harg7 arg10 arg11 arg12 arg14 2048 2176 2304 2432 (by decide) (by decide) (by decide) (by decide) (by decide)
  quant arg8 harg8 arg10 arg13 2560 2688 2816 2944 (by decide) (by decide) (by decide) (by decide)
  projM arg2 arg3 arg4 arg5 arg6 arg7 harg7 arg10 arg11 arg12 arg14 2560 2688 2816 2944 (by decide) (by decide) (by decide) (by decide) (by decide)
  quant arg8 harg8 arg10 arg13 3072 3200 3328 3456 (by decide) (by decide) (by decide) (by decide)
  projM arg2 arg3 arg4 arg5 arg6 arg7 harg7 arg10 arg11 arg12 arg14 3072 3200 3328 3456 (by decide) (by decide) (by decide) (by decide) (by decide)
  quant arg8 harg8 arg10 arg13 3584 3712 3840 3968 (by decide) (by decide) (by decide) (by decide)
  projM arg2 arg3 arg4 arg5 arg6 arg7 harg7 arg10 arg11 arg12 arg14 3584 3712 3840 3968 (by decide) (by decide) (by decide) (by decide) (by decide)
  quantL arg8 harg8 arg10 arg13
  projL arg2 arg3 arg4 arg5 arg6 arg7 harg7 arg10 arg11 arg12 arg14

/-- The last point: the last tile is quantised. -/
def brC (arg8 : Memref sig .tc .vmem S256x4352 .fp8e4m3) (harg8 : arg8.IsWhole) (arg9 : Memref sig .tc .vmem S1x1x256 .f32) (arg10 : Memref sig .tc .vmem S256x4352 .f32) (arg11 : Memref sig .tc .vmem S256x128 .f32) (arg12 : Memref sig .tc .vmem S256x128 .f32) (arg13 : Memref sig .tc .vmem S256x128 .f32) : Prog (TpuEff nD τ sig (Elt F) Λ₀ .tc) PUnit := do
  fin arg9 arg11 arg12 arg13
  quant arg8 harg8 arg10 arg13 0 128 256 384 (by decide) (by decide) (by decide) (by decide)
  quant arg8 harg8 arg10 arg13 512 640 768 896 (by decide) (by decide) (by decide) (by decide)
  quant arg8 harg8 arg10 arg13 1024 1152 1280 1408 (by decide) (by decide) (by decide) (by decide)
  quant arg8 harg8 arg10 arg13 1536 1664 1792 1920 (by decide) (by decide) (by decide) (by decide)
  quant arg8 harg8 arg10 arg13 2048 2176 2304 2432 (by decide) (by decide) (by decide) (by decide)
  quant arg8 harg8 arg10 arg13 2560 2688 2816 2944 (by decide) (by decide) (by decide) (by decide)
  quant arg8 harg8 arg10 arg13 3072 3200 3328 3456 (by decide) (by decide) (by decide) (by decide)
  quant arg8 harg8 arg10 arg13 3584 3712 3840 3968 (by decide) (by decide) (by decide) (by decide)
  quantL arg8 harg8 arg10 arg13

/-- The kernel's body, block by block. -/
def body (i : grid0.Coords) (arg1 : Memref sig .tc .vmem S1x1x256 .f32) (harg1 : arg1.IsWhole) (arg2 : Memref sig .tc .vmem S256x1664 .fp8e4m3) (harg2 : arg2.IsWhole) (arg3 : Memref sig .tc .vmem S1664x4352 .fp8e4m3) (harg3 : arg3.IsWhole) (arg4 : Memref sig .tc .vmem S1x4352 .f32) (harg4 : arg4.IsWhole) (arg5 : Memref sig .tc .vmem S256x4352 .bf16) (harg5 : arg5.IsWhole) (arg6 : Memref sig .tc .vmem S1x4352 .f32) (harg6 : arg6.IsWhole) (arg7 : Memref sig .tc .vmem S256x4352 .bf16) (harg7 : arg7.IsWhole) (arg8 : Memref sig .tc .vmem S256x4352 .fp8e4m3) (harg8 : arg8.IsWhole) (arg9 : Memref sig .tc .vmem S1x1x256 .f32) (harg9 : arg9.IsWhole) (arg10 : Memref sig .tc .vmem S256x4352 .f32) (harg10 : arg10.IsWhole) (arg11 : Memref sig .tc .vmem S256x128 .f32) (harg11 : arg11.IsWhole) (arg12 : Memref sig .tc .vmem S256x128 .f32) (harg12 : arg12.IsWhole) (arg13 : Memref sig .tc .vmem S256x128 .f32) (harg13 : arg13.IsWhole) (arg14 : Memref sig .tc .vmem S256x128 .f32) (harg14 : arg14.IsWhole) : Prog (TpuEff nD τ sig (Elt F) Λ₀ .tc) PUnit := do
  if k0_h1 : k0_cond1 i = 1#1 then do
    brA arg1 arg2 arg3 arg4 arg5 arg6 arg7 harg7 arg10 arg11 arg12 arg14
  else do
    pure ⟨⟩
  if k0_h2 : k0_cond2 i = 1#1 then do
    brB arg1 arg2 arg3 arg4 arg5 arg6 arg7 harg7 arg8 harg8 arg9 arg10 arg11 arg12 arg13 arg14
  else do
    pure ⟨⟩
  if k0_h3 : k0_cond3 i = 1#1 then do
    brC arg8 harg8 arg9 arg10 arg11 arg12 arg13
  else do
    pure ⟨⟩
  pure ⟨⟩

end Cert.KernelIdeal
-- ==== Proof.IdealRuns.lean ====
/- Running a block of the kernel: what the fourteen arrays hold before and after, as a relation between states, with one rule for each
   load and store. -/
module

public import proofs.«01_k».proof.Proof.IdealBody
public import proofs.«01_k».proof.Proof.Gen.KernelIdeal.Frame

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F] [Named F]

local notation "𝕄" => MT nD τ sig Unit (Elt F) ℕ (UR sig nD τ) ℕ

/-- The kernel's fourteen arrays. -/
structure Bufs where
  a1 : Memref sig .tc .vmem S1x1x256 .f32
  a2 : Memref sig .tc .vmem S256x1664 .fp8e4m3
  a3 : Memref sig .tc .vmem S1664x4352 .fp8e4m3
  a4 : Memref sig .tc .vmem S1x4352 .f32
  a5 : Memref sig .tc .vmem S256x4352 .bf16
  a6 : Memref sig .tc .vmem S1x4352 .f32
  a7 : Memref sig .tc .vmem S256x4352 .bf16
  a8 : Memref sig .tc .vmem S256x4352 .fp8e4m3
  a9 : Memref sig .tc .vmem S1x1x256 .f32
  a10 : Memref sig .tc .vmem S256x4352 .f32
  a11 : Memref sig .tc .vmem S256x128 .f32
  a12 : Memref sig .tc .vmem S256x128 .f32
  a13 : Memref sig .tc .vmem S256x128 .f32
  a14 : Memref sig .tc .vmem S256x128 .f32
  h7 : a7.IsWhole
  h8 : a8.IsWhole

variable (F) in
/-- What the arrays hold. -/
structure St where
  x1 : Vec F S1x1x256 .f32
  x2 : Vec F S256x1664 .fp8e4m3
  x3 : Vec F S1664x4352 .fp8e4m3
  x4 : Vec F S1x4352 .f32
  x5 : Vec F S256x4352 .bf16
  x6 : Vec F S1x4352 .f32
  x7 : Vec F S256x4352 .bf16
  x8 : Vec F S256x4352 .fp8e4m3
  x9 : Vec F S1x1x256 .f32
  x10 : Vec F S256x4352 .f32
  x11 : Vec F S256x128 .f32
  x12 : Vec F S256x128 .f32
  x13 : Vec F S256x128 .f32
  x14 : Vec F S256x128 .f32

/-- The arrays owned at a state. -/
def Own (c : Dev nD) (B : Bufs) (st : St F) : sProp 𝕄 :=
  iprop(owns (c : Thread nD τ) B.a1 fullShare st.x1 ∗ owns (c : Thread nD τ) B.a2 fullShare st.x2 ∗ owns (c : Thread nD τ) B.a3 fullShare st.x3 ∗ owns (c : Thread nD τ) B.a4 fullShare st.x4 ∗ owns (c : Thread nD τ) B.a5 fullShare st.x5 ∗ owns (c : Thread nD τ) B.a6 fullShare st.x6 ∗ owns (c : Thread nD τ) B.a7 fullShare st.x7 ∗ owns (c : Thread nD τ) B.a8 fullShare st.x8 ∗ owns (c : Thread nD τ) B.a9 fullShare st.x9 ∗ owns (c : Thread nD τ) B.a10 fullShare st.x10 ∗ owns (c : Thread nD τ) B.a11 fullShare st.x11 ∗ owns (c : Thread nD τ) B.a12 fullShare st.x12 ∗ owns (c : Thread nD τ) B.a13 fullShare st.x13 ∗ owns (c : Thread nD τ) B.a14 fullShare st.x14)

/-- The program runs from the state `st` to the state `st'` with result `a`. -/
def Runs {α : Type} (B : Bufs) (p : Prog (TpuEff nD τ sig (Elt F) Λ₀ .tc) α) (st : St F) (a : α) (st' : St F) : Prop :=
  ∀ (c : Dev nD) (K : α → sProp 𝕄), iprop(Own c B st ∗ (Own c B st' -∗ K a)) ⊢ wp frame (wpE (defs₀ (F := F)) Variants.none (c : Thread nD τ) none) Set.univ p K

theorem Runs.pure {α : Type} (B : Bufs) (st : St F) (a : α) : Runs B (pure a : Prog (TpuEff nD τ sig (Elt F) Λ₀ .tc) α) st a st := by
  intro c K
  iintro ⟨H, Hk⟩
  iapply (show iprop(Own c B st ∗ (Own c B st -∗ K a)) ⊢ wp frame (wpE (defs₀ (F := F)) Variants.none (c : Thread nD τ) none) Set.univ (Pure.pure a : Prog (TpuEff nD τ sig (Elt F) Λ₀ .tc) α) K from wand_elim_right.trans (le_wp_ret _ _ _ a K))
  isplitl [H]
  · iexact H
  · iexact Hk

theorem Runs.bind {α β : Type} {B : Bufs} {p : Prog (TpuEff nD τ sig (Elt F) Λ₀ .tc) α} {f : α → Prog (TpuEff nD τ sig (Elt F) Λ₀ .tc) β} {st st' st'' : St F} {a : α} {b : β}
    (h : Runs B p st a st') (h' : Runs B (f a) st' b st'') : Runs B (p >>= f) st b st'' := by
  intro c K
  rw [wp_bind]
  iintro ⟨H, Hk⟩
  iapply (h c _)
  isplitl [H]
  · iexact H
  iintro H
  iapply (h' c K)
  isplitl [H]
  · iexact H
  · iexact Hk

/-- A load through an owned memref reads the rectangle of what it holds. -/
theorem load_owns (c : Dev nD) {s : Shape} {e : EltTy} (m : Memref sig .tc .vmem s e) (r : Rect s) (hl : m.view.LoadsAt r.toLoadRect) (X : Vec F s e)
    (K : (r.shape.Idx → Elt F e) → sProp 𝕄) :
    iprop(owns (c : Thread nD τ) m fullShare X ∗ (owns (c : Thread nD τ) m fullShare X -∗ K (fun i => X (r.emb i))))
      ⊢ wp frame (wpE (defs₀ (F := F)) Variants.none (c : Thread nD τ) none) Set.univ (Prog.lift (.load m r.toLoadRect hl) : Prog (TpuEff nD τ sig (Elt F) Λ₀ .tc) _) K := by
  unfold owns
  iintro ⟨⟨%f, %hf, H⟩, Hk⟩
  subst hf
  iapply (wp_load_rect (defs := defs₀ (F := F)) Variants.none (c : Thread nD τ) none Set.univ (m := m) (r := r) (hl := hl) (m.view.set_slice_subset r)) $$ [H]
  · iexact H
  iintro H
  iapply (le_wp_ret _ _ _ _ _)
  rw [show (m.access r).read (Elt F) f = fun i => m.view.read (Elt F) f (r.emb i) from rfl]
  iapply Hk
  iexists f
  isplitr
  · ipureintro; rfl
  · iexact H

/-- A store through an owned memref replaces the rectangle of what it holds. -/
theorem store_owns (c : Dev nD) {s : Shape} {e : EltTy} (m : Memref sig .tc .vmem s e) (r : Rect s) (w : r.shape.Idx → Elt F e)
    (hx : (m.access r).Stores Finset.univ) (hm : Finset.univ = Finset.univ ∨ ∀ a, r.stride a = 1) (X : Vec F s e) (K : PUnit → sProp 𝕄) :
    iprop(owns (c : Thread nD τ) m fullShare X ∗ (owns (c : Thread nD τ) m fullShare (r.overlay X w) -∗ K ⟨⟩))
      ⊢ wp frame (wpE (defs₀ (F := F)) Variants.none (c : Thread nD τ) none) Set.univ (Prog.lift (.store m r w Finset.univ hx hm) : Prog (TpuEff nD τ sig (Elt F) Λ₀ .tc) _) K := by
  unfold owns
  iintro ⟨⟨%f, %hf, H⟩, Hk⟩
  subst hf
  iapply (wp_store (defs := defs₀ (F := F)) Variants.none (c : Thread nD τ) none Set.univ (m := m) (r := r) (w := w) (hx := hx) (hm := hm)
    (show (m.access r).setOn Finset.univ ⊆ m.view.set from m.view.set_slice_subset r)) $$ [H]
  · iexact H
  iintro H
  iapply (le_wp_ret _ _ _ _ _)
  iapply Hk
  iexists ((m.access r).write (Elt F) f w Finset.univ)
  isplitr
  · ipureintro
    funext j
    by_cases hj : j ∈ r.set
    · obtain ⟨i, rfl⟩ : ∃ i, r.emb i = j := by
        rw [← Rect.map_emb_univ] at hj; simpa using hj
      rw [Rect.overlay_emb]
      exact congrFun ((m.access r).read_write_univ f w) i
    · rw [Rect.overlay_of_not_mem _ _ _ hj]
      exact m.view.read_slice_write_of_not_mem r f w Finset.univ (by rw [Rect.map_emb_univ]; exact hj)
  · iexact H

theorem Runs.load1 (B : Bufs) (st : St F) (r : Rect S1x1x256) (hl : B.a1.view.LoadsAt r.toLoadRect) :
    Runs B (Prog.lift (.load B.a1 r.toLoadRect hl) : Prog (TpuEff nD τ sig (Elt F) Λ₀ .tc) _) st (fun i => st.x1 (r.emb i)) st := by
  intro c K
  unfold Own
  iintro ⟨⟨H1, H2, H3, H4, H5, H6, H7, H8, H9, H10, H11, H12, H13, H14⟩, Hk⟩
  iapply (load_owns c B.a1 r hl st.x1 K)
  isplitl [H1]
  · iexact H1
  iintro H1
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load2 (B : Bufs) (st : St F) (r : Rect S256x1664) (hl : B.a2.view.LoadsAt r.toLoadRect) :
    Runs B (Prog.lift (.load B.a2 r.toLoadRect hl) : Prog (TpuEff nD τ sig (Elt F) Λ₀ .tc) _) st (fun i => st.x2 (r.emb i)) st := by
  intro c K
  unfold Own
  iintro ⟨⟨H1, H2, H3, H4, H5, H6, H7, H8, H9, H10, H11, H12, H13, H14⟩, Hk⟩
  iapply (load_owns c B.a2 r hl st.x2 K)
  isplitl [H2]
  · iexact H2
  iintro H2
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load3 (B : Bufs) (st : St F) (r : Rect S1664x4352) (hl : B.a3.view.LoadsAt r.toLoadRect) :
    Runs B (Prog.lift (.load B.a3 r.toLoadRect hl) : Prog (TpuEff nD τ sig (Elt F) Λ₀ .tc) _) st (fun i => st.x3 (r.emb i)) st := by
  intro c K
  unfold Own
  iintro ⟨⟨H1, H2, H3, H4, H5, H6, H7, H8, H9, H10, H11, H12, H13, H14⟩, Hk⟩
  iapply (load_owns c B.a3 r hl st.x3 K)
  isplitl [H3]
  · iexact H3
  iintro H3
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load4 (B : Bufs) (st : St F) (r : Rect S1x4352) (hl : B.a4.view.LoadsAt r.toLoadRect) :
    Runs B (Prog.lift (.load B.a4 r.toLoadRect hl) : Prog (TpuEff nD τ sig (Elt F) Λ₀ .tc) _) st (fun i => st.x4 (r.emb i)) st := by
  intro c K
  unfold Own
  iintro ⟨⟨H1, H2, H3, H4, H5, H6, H7, H8, H9, H10, H11, H12, H13, H14⟩, Hk⟩
  iapply (load_owns c B.a4 r hl st.x4 K)
  isplitl [H4]
  · iexact H4
  iintro H4
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load5 (B : Bufs) (st : St F) (r : Rect S256x4352) (hl : B.a5.view.LoadsAt r.toLoadRect) :
    Runs B (Prog.lift (.load B.a5 r.toLoadRect hl) : Prog (TpuEff nD τ sig (Elt F) Λ₀ .tc) _) st (fun i => st.x5 (r.emb i)) st := by
  intro c K
  unfold Own
  iintro ⟨⟨H1, H2, H3, H4, H5, H6, H7, H8, H9, H10, H11, H12, H13, H14⟩, Hk⟩
  iapply (load_owns c B.a5 r hl st.x5 K)
  isplitl [H5]
  · iexact H5
  iintro H5
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load6 (B : Bufs) (st : St F) (r : Rect S1x4352) (hl : B.a6.view.LoadsAt r.toLoadRect) :
    Runs B (Prog.lift (.load B.a6 r.toLoadRect hl) : Prog (TpuEff nD τ sig (Elt F) Λ₀ .tc) _) st (fun i => st.x6 (r.emb i)) st := by
  intro c K
  unfold Own
  iintro ⟨⟨H1, H2, H3, H4, H5, H6, H7, H8, H9, H10, H11, H12, H13, H14⟩, Hk⟩
  iapply (load_owns c B.a6 r hl st.x6 K)
  isplitl [H6]
  · iexact H6
  iintro H6
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load7 (B : Bufs) (st : St F) (r : Rect S256x4352) (hl : B.a7.view.LoadsAt r.toLoadRect) :
    Runs B (Prog.lift (.load B.a7 r.toLoadRect hl) : Prog (TpuEff nD τ sig (Elt F) Λ₀ .tc) _) st (fun i => st.x7 (r.emb i)) st := by
  intro c K
  unfold Own
  iintro ⟨⟨H1, H2, H3, H4, H5, H6, H7, H8, H9, H10, H11, H12, H13, H14⟩, Hk⟩
  iapply (load_owns c B.a7 r hl st.x7 K)
  isplitl [H7]
  · iexact H7
  iintro H7
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store7 (B : Bufs) (st : St F) (r : Rect S256x4352) (w : r.shape.Idx → Elt F .bf16) (hx : (B.a7.access r).Stores Finset.univ)
    (hm : Finset.univ = Finset.univ ∨ ∀ a, r.stride a = 1) :
    Runs B (Prog.lift (.store B.a7 r w Finset.univ hx hm) : Prog (TpuEff nD τ sig (Elt F) Λ₀ .tc) _) st ⟨⟩ { st with x7 := r.overlay st.x7 w } := by
  intro c K
  unfold Own
  iintro ⟨⟨H1, H2, H3, H4, H5, H6, H7, H8, H9, H10, H11, H12, H13, H14⟩, Hk⟩
  iapply (store_owns c B.a7 r w hx hm st.x7 K)
  isplitl [H7]
  · iexact H7
  iintro H7
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load8 (B : Bufs) (st : St F) (r : Rect S256x4352) (hl : B.a8.view.LoadsAt r.toLoadRect) :
    Runs B (Prog.lift (.load B.a8 r.toLoadRect hl) : Prog (TpuEff nD τ sig (Elt F) Λ₀ .tc) _) st (fun i => st.x8 (r.emb i)) st := by
  intro c K
  unfold Own
  iintro ⟨⟨H1, H2, H3, H4, H5, H6, H7, H8, H9, H10, H11, H12, H13, H14⟩, Hk⟩
  iapply (load_owns c B.a8 r hl st.x8 K)
  isplitl [H8]
  · iexact H8
  iintro H8
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store8 (B : Bufs) (st : St F) (r : Rect S256x4352) (w : r.shape.Idx → Elt F .fp8e4m3) (hx : (B.a8.access r).Stores Finset.univ)
    (hm : Finset.univ = Finset.univ ∨ ∀ a, r.stride a = 1) :
    Runs B (Prog.lift (.store B.a8 r w Finset.univ hx hm) : Prog (TpuEff nD τ sig (Elt F) Λ₀ .tc) _) st ⟨⟩ { st with x8 := r.overlay st.x8 w } := by
  intro c K
  unfold Own
  iintro ⟨⟨H1, H2, H3, H4, H5, H6, H7, H8, H9, H10, H11, H12, H13, H14⟩, Hk⟩
  iapply (store_owns c B.a8 r w hx hm st.x8 K)
  isplitl [H8]
  · iexact H8
  iintro H8
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load9 (B : Bufs) (st : St F) (r : Rect S1x1x256) (hl : B.a9.view.LoadsAt r.toLoadRect) :
    Runs B (Prog.lift (.load B.a9 r.toLoadRect hl) : Prog (TpuEff nD τ sig (Elt F) Λ₀ .tc) _) st (fun i => st.x9 (r.emb i)) st := by
  intro c K
  unfold Own
  iintro ⟨⟨H1, H2, H3, H4, H5, H6, H7, H8, H9, H10, H11, H12, H13, H14⟩, Hk⟩
  iapply (load_owns c B.a9 r hl st.x9 K)
  isplitl [H9]
  · iexact H9
  iintro H9
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store9 (B : Bufs) (st : St F) (r : Rect S1x1x256) (w : r.shape.Idx → Elt F .f32) (hx : (B.a9.access r).Stores Finset.univ)
    (hm : Finset.univ = Finset.univ ∨ ∀ a, r.stride a = 1) :
    Runs B (Prog.lift (.store B.a9 r w Finset.univ hx hm) : Prog (TpuEff nD τ sig (Elt F) Λ₀ .tc) _) st ⟨⟩ { st with x9 := r.overlay st.x9 w } := by
  intro c K
  unfold Own
  iintro ⟨⟨H1, H2, H3, H4, H5, H6, H7, H8, H9, H10, H11, H12, H13, H14⟩, Hk⟩
  iapply (store_owns c B.a9 r w hx hm st.x9 K)
  isplitl [H9]
  · iexact H9
  iintro H9
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load10 (B : Bufs) (st : St F) (r : Rect S256x4352) (hl : B.a10.view.LoadsAt r.toLoadRect) :
    Runs B (Prog.lift (.load B.a10 r.toLoadRect hl) : Prog (TpuEff nD τ sig (Elt F) Λ₀ .tc) _) st (fun i => st.x10 (r.emb i)) st := by
  intro c K
  unfold Own
  iintro ⟨⟨H1, H2, H3, H4, H5, H6, H7, H8, H9, H10, H11, H12, H13, H14⟩, Hk⟩
  iapply (load_owns c B.a10 r hl st.x10 K)
  isplitl [H10]
  · iexact H10
  iintro H10
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store10 (B : Bufs) (st : St F) (r : Rect S256x4352) (w : r.shape.Idx → Elt F .f32) (hx : (B.a10.access r).Stores Finset.univ)
    (hm : Finset.univ = Finset.univ ∨ ∀ a, r.stride a = 1) :
    Runs B (Prog.lift (.store B.a10 r w Finset.univ hx hm) : Prog (TpuEff nD τ sig (Elt F) Λ₀ .tc) _) st ⟨⟩ { st with x10 := r.overlay st.x10 w } := by
  intro c K
  unfold Own
  iintro ⟨⟨H1, H2, H3, H4, H5, H6, H7, H8, H9, H10, H11, H12, H13, H14⟩, Hk⟩
  iapply (store_owns c B.a10 r w hx hm st.x10 K)
  isplitl [H10]
  · iexact H10
  iintro H10
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load11 (B : Bufs) (st : St F) (r : Rect S256x128) (hl : B.a11.view.LoadsAt r.toLoadRect) :
    Runs B (Prog.lift (.load B.a11 r.toLoadRect hl) : Prog (TpuEff nD τ sig (Elt F) Λ₀ .tc) _) st (fun i => st.x11 (r.emb i)) st := by
  intro c K
  unfold Own
  iintro ⟨⟨H1, H2, H3, H4, H5, H6, H7, H8, H9, H10, H11, H12, H13, H14⟩, Hk⟩
  iapply (load_owns c B.a11 r hl st.x11 K)
  isplitl [H11]
  · iexact H11
  iintro H11
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store11 (B : Bufs) (st : St F) (r : Rect S256x128) (w : r.shape.Idx → Elt F .f32) (hx : (B.a11.access r).Stores Finset.univ)
    (hm : Finset.univ = Finset.univ ∨ ∀ a, r.stride a = 1) :
    Runs B (Prog.lift (.store B.a11 r w Finset.univ hx hm) : Prog (TpuEff nD τ sig (Elt F) Λ₀ .tc) _) st ⟨⟩ { st with x11 := r.overlay st.x11 w } := by
  intro c K
  unfold Own
  iintro ⟨⟨H1, H2, H3, H4, H5, H6, H7, H8, H9, H10, H11, H12, H13, H14⟩, Hk⟩
  iapply (store_owns c B.a11 r w hx hm st.x11 K)
  isplitl [H11]
  · iexact H11
  iintro H11
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load12 (B : Bufs) (st : St F) (r : Rect S256x128) (hl : B.a12.view.LoadsAt r.toLoadRect) :
    Runs B (Prog.lift (.load B.a12 r.toLoadRect hl) : Prog (TpuEff nD τ sig (Elt F) Λ₀ .tc) _) st (fun i => st.x12 (r.emb i)) st := by
  intro c K
  unfold Own
  iintro ⟨⟨H1, H2, H3, H4, H5, H6, H7, H8, H9, H10, H11, H12, H13, H14⟩, Hk⟩
  iapply (load_owns c B.a12 r hl st.x12 K)
  isplitl [H12]
  · iexact H12
  iintro H12
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store12 (B : Bufs) (st : St F) (r : Rect S256x128) (w : r.shape.Idx → Elt F .f32) (hx : (B.a12.access r).Stores Finset.univ)
    (hm : Finset.univ = Finset.univ ∨ ∀ a, r.stride a = 1) :
    Runs B (Prog.lift (.store B.a12 r w Finset.univ hx hm) : Prog (TpuEff nD τ sig (Elt F) Λ₀ .tc) _) st ⟨⟩ { st with x12 := r.overlay st.x12 w } := by
  intro c K
  unfold Own
  iintro ⟨⟨H1, H2, H3, H4, H5, H6, H7, H8, H9, H10, H11, H12, H13, H14⟩, Hk⟩
  iapply (store_owns c B.a12 r w hx hm st.x12 K)
  isplitl [H12]
  · iexact H12
  iintro H12
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load13 (B : Bufs) (st : St F) (r : Rect S256x128) (hl : B.a13.view.LoadsAt r.toLoadRect) :
    Runs B (Prog.lift (.load B.a13 r.toLoadRect hl) : Prog (TpuEff nD τ sig (Elt F) Λ₀ .tc) _) st (fun i => st.x13 (r.emb i)) st := by
  intro c K
  unfold Own
  iintro ⟨⟨H1, H2, H3, H4, H5, H6, H7, H8, H9, H10, H11, H12, H13, H14⟩, Hk⟩
  iapply (load_owns c B.a13 r hl st.x13 K)
  isplitl [H13]
  · iexact H13
  iintro H13
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store13 (B : Bufs) (st : St F) (r : Rect S256x128) (w : r.shape.Idx → Elt F .f32) (hx : (B.a13.access r).Stores Finset.univ)
    (hm : Finset.univ = Finset.univ ∨ ∀ a, r.stride a = 1) :
    Runs B (Prog.lift (.store B.a13 r w Finset.univ hx hm) : Prog (TpuEff nD τ sig (Elt F) Λ₀ .tc) _) st ⟨⟩ { st with x13 := r.overlay st.x13 w } := by
  intro c K
  unfold Own
  iintro ⟨⟨H1, H2, H3, H4, H5, H6, H7, H8, H9, H10, H11, H12, H13, H14⟩, Hk⟩
  iapply (store_owns c B.a13 r w hx hm st.x13 K)
  isplitl [H13]
  · iexact H13
  iintro H13
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.load14 (B : Bufs) (st : St F) (r : Rect S256x128) (hl : B.a14.view.LoadsAt r.toLoadRect) :
    Runs B (Prog.lift (.load B.a14 r.toLoadRect hl) : Prog (TpuEff nD τ sig (Elt F) Λ₀ .tc) _) st (fun i => st.x14 (r.emb i)) st := by
  intro c K
  unfold Own
  iintro ⟨⟨H1, H2, H3, H4, H5, H6, H7, H8, H9, H10, H11, H12, H13, H14⟩, Hk⟩
  iapply (load_owns c B.a14 r hl st.x14 K)
  isplitl [H14]
  · iexact H14
  iintro H14
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

theorem Runs.store14 (B : Bufs) (st : St F) (r : Rect S256x128) (w : r.shape.Idx → Elt F .f32) (hx : (B.a14.access r).Stores Finset.univ)
    (hm : Finset.univ = Finset.univ ∨ ∀ a, r.stride a = 1) :
    Runs B (Prog.lift (.store B.a14 r w Finset.univ hx hm) : Prog (TpuEff nD τ sig (Elt F) Λ₀ .tc) _) st ⟨⟩ { st with x14 := r.overlay st.x14 w } := by
  intro c K
  unfold Own
  iintro ⟨⟨H1, H2, H3, H4, H5, H6, H7, H8, H9, H10, H11, H12, H13, H14⟩, Hk⟩
  iapply (store_owns c B.a14 r w hx hm st.x14 K)
  isplitl [H14]
  · iexact H14
  iintro H14
  iapply Hk
  isplitl [H1]
  · iexact H1
  isplitl [H2]
  · iexact H2
  isplitl [H3]
  · iexact H3
  isplitl [H4]
  · iexact H4
  isplitl [H5]
  · iexact H5
  isplitl [H6]
  · iexact H6
  isplitl [H7]
  · iexact H7
  isplitl [H8]
  · iexact H8
  isplitl [H9]
  · iexact H9
  isplitl [H10]
  · iexact H10
  isplitl [H11]
  · iexact H11
  isplitl [H12]
  · iexact H12
  isplitl [H13]
  · iexact H13
  iexact H14

end Cert.KernelIdeal.Gen
-- ==== Proof.IdealBlocks.lean ====
/- What every block of the kernel leaves in the arrays: a function from states to states for each block, and the proof that the block runs so. -/
module

public import proofs.«01_k».proof.Proof.IdealRuns

@[expose] public section

noncomputable section

namespace Cert.KernelIdeal.Gen

open Idealize.ShloMosaic Idealize.ShloMosaic.TcCoe
open Idealize.SL Idealize.SL.Sem
open Facts₀

variable {F : FTy → Type} [FloatOps F] [Named F]

/-- A strip's rectangle in a tile. -/
abbrev rt (r k : Nat) (hr : r + 32 ≤ 256) (hk : k + 128 ≤ 4352) : Rect S256x4352 := Rect.unit (s := S256x4352) ![r, k] S32x128.size (inb_t hr hk)
/-- A strip's rectangle in a scratch array of 128 lanes. -/
abbrev rl (r : Nat) (hr : r + 32 ≤ 256) : Rect S256x128 := Rect.unit (s := S256x128) ![r, 0] S32x128.size (inb_l hr)
/-- A block of 128 rows of it. -/
abbrev rh (r : Nat) (hr : r + 128 ≤ 256) : Rect S256x128 := Rect.unit (s := S256x128) ![r, 0] S128x128.size (inb_h hr)
/-- A block of 128 columns of a row. -/
abbrev rr (k : Nat) (hk : k + 128 ≤ 4352) : Rect S1x4352 := Rect.unit (s := S1x4352) ![0, k] S1x128.size (inb_r hk)
/-- A block of 128 of a row of 256. -/
abbrev rx (r : Nat) (hr : r + 128 ≤ 256) : Rect S1x1x256 := Rect.unit (s := S1x1x256) ![0, 0, r] S1x1x128.size (inb_x hr)

/-! ## The scales of the rows -/

def xsV (v11 : FVec F S1x1x128 .f32) : FVec F S128x128 .f32 :=
  shapeCast S128x128 (transpose S128x128 [1, 0] (broadcastTo S128x128 (shapeCast S1x128 (shapeCast S1x128 v11 shapeCasts_S1x1x128_S1x128) shapeCasts_S1x128_S1x128) broadcasts_S1x128_S128x128) transposes_S128x128_p1_0_S128x128) shapeCasts_S128x128_S128x128

def loadXs1S (st : St F) (r : Nat) (hr : r + 128 ≤ 256) : St F :=
  { st with x14 := (rh r hr).overlay st.x14 (xsV fun i => st.x1 ((rx r hr).emb i)) }

theorem runs_loadXs1 (B : Bufs) (st : St F) (r : Nat) (hr : r + 128 ≤ 256) : Runs B (loadXs1 B.a1 B.a14 r hr) st ⟨⟩ (loadXs1S st r hr) :=
  .bind (.load1 B _ _ _) (.bind (.load14 B _ _ _) (.store14 B _ _ _ _ _))

def loadXsS (st : St F) : St F := loadXs1S (loadXs1S st 0 (by decide)) 128 (by decide)

theorem runs_loadXs (B : Bufs) (st : St F) : Runs B (loadXs B.a1 B.a14) st ⟨⟩ (loadXsS st) :=
  .bind (runs_loadXs1 B _ _ _) (runs_loadXs1 B _ _ _)

/-! ## The projection -/

/-- The residual output of a block of lanes. -/
def laneO (v32 xs : FVec F S32x128 .f32) (ws : FVec F S1x128 .f32) (res : FVec F S32x128 .bf16) : FVec F S32x128 .bf16 :=
  truncf .bf16 (addf (mulf (mulf v32 xs) (broadcastTo S32x128 (shapeCast S1x128 ws shapeCasts_S1x128_S1x128) broadcasts_S1x128_S32x128)) (extf .f32 (shapeCast S32x128 res shapeCasts_S32x128_S32x128) bitsLt_bf16_f32)) bitsLt_bf16_f32

/-- Its product with gamma. -/
def laneT (o : FVec F S32x128 .bf16) (gam : FVec F S1x128 .f32) : FVec F S32x128 .f32 :=
  mulf (extf .f32 o bitsLt_bf16_f32) (broadcastTo S32x128 (shapeCast S1x128 gam shapeCasts_S1x128_S1x128) broadcasts_S1x128_S32x128)

def laneQ (o : FVec F S32x128 .bf16) : FVec F S32x128 .f32 := mulf (extf .f32 o bitsLt_bf16_f32) (extf .f32 o bitsLt_bf16_f32)

def stO (st : St F) (v32 xs : FVec F S32x128 .f32) (r k : Nat) (hr : r + 32 ≤ 256) (hk : k + 128 ≤ 4352) : FVec F S32x128 .bf16 :=
  laneO v32 xs (fun i => st.x4 ((rr k hk).emb i)) (fun i => st.x5 ((rt r k hr hk).emb i))

def stT (st : St F) (v32 xs : FVec F S32x128 .f32) (r k : Nat) (hr : r + 32 ≤ 256) (hk : k + 128 ≤ 4352) : FVec F S32x128 .f32 :=
  laneT (stO st v32 xs r k hr hk) (fun i => st.x6 ((rr k hk).emb i))

def laneS (st : St F) (v32 xs : FVec F S32x128 .f32) (r k : Nat) (hr : r + 32 ≤ 256) (hk : k + 128 ≤ 4352) : St F :=
  { st with x7 := (rt r k hr hk).overlay st.x7 (stO st v32 xs r k hr hk),
            x10 := (rt r k hr hk).overlay st.x10 (shapeCast S32x128 (stT st v32 xs r k hr hk) shapeCasts_S32x128_S32x128) }

theorem runs_lane (B : Bufs) (st : St F) (v32 xs : FVec F S32x128 .f32) (r k : Nat) (h32 : 32 ∣ r) (hr : r + 32 ≤ 256) (hk : k + 128 ≤ 4352) :
    Runs B (lane B.a4 B.a5 B.a6 B.a7 B.h7 B.a10 v32 xs r k h32 hr hk) st ⟨laneQ (stO st v32 xs r k hr hk), absf (stT st v32 xs r k hr hk)⟩ (laneS st v32 xs r k hr hk) :=
  .bind (.load4 B _ _ _) (.bind (.load5 B _ _ _) (.bind (.load7 B _ _ _) (.bind (.store7 B _ _ _ _ _) (.bind (.load6 B _ _ _)
    (.bind (.load10 B _ _ _) (.bind (.store10 B _ _ _ _ _) (.pure B _ _)))))))

section
attribute [local irreducible] laneS stO stT laneQ

/-- A strip of 32 rows of the first chunk. -/
def stripFS (st : St F) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  let s1 := laneS st (extractStridedSlice S32x128 ![r, 0] acc (sl5 hr (by decide))) (fun i => st.x14 ((rl r hr).emb i)) r k0 hr hk0
  let s2 := laneS s1 (extractStridedSlice S32x128 ![r, 128] acc (sl5 hr (by decide))) (fun i => st.x14 ((rl r hr).emb i)) r k1 hr hk1
  let s3 := laneS s2 (extractStridedSlice S32x128 ![r, 256] acc (sl5 hr (by decide))) (fun i => st.x14 ((rl r hr).emb i)) r k2 hr hk2
  let s4 := laneS s3 (extractStridedSlice S32x128 ![r, 384] acc (sl5 hr (by decide))) (fun i => st.x14 ((rl r hr).emb i)) r k3 hr hk3
  { s4 with
    x11 := (rl r hr).overlay s4.x11 (shapeCast S32x128 (addf (addf (addf (laneQ (stO st (extractStridedSlice S32x128 ![r, 0] acc (sl5 hr (by decide))) (fun i => st.x14 ((rl r hr).emb i)) r k0 hr hk0)) (laneQ (stO s1 (extractStridedSlice S32x128 ![r, 128] acc (sl5 hr (by decide))) (fun i => st.x14 ((rl r hr).emb i)) r k1 hr hk1))) (laneQ (stO s2 (extractStridedSlice S32x128 ![r, 256] acc (sl5 hr (by decide))) (fun i => st.x14 ((rl r hr).emb i)) r k2 hr hk2))) (laneQ (stO s3 (extractStridedSlice S32x128 ![r, 384] acc (sl5 hr (by decide))) (fun i => st.x14 ((rl r hr).emb i)) r k3 hr hk3))) shapeCasts_S32x128_S32x128)
    x12 := (rl r hr).overlay s4.x12 (shapeCast S32x128 (maximumf (maximumf (maximumf (absf (stT st (extractStridedSlice S32x128 ![r, 0] acc (sl5 hr (by decide))) (fun i => st.x14 ((rl r hr).emb i)) r k0 hr hk0)) (absf (stT s1 (extractStridedSlice S32x128 ![r, 128] acc (sl5 hr (by decide))) (fun i => st.x14 ((rl r hr).emb i)) r k1 hr hk1))) (absf (stT s2 (extractStridedSlice S32x128 ![r, 256] acc (sl5 hr (by decide))) (fun i => st.x14 ((rl r hr).emb i)) r k2 hr hk2))) (absf (stT s3 (extractStridedSlice S32x128 ![r, 384] acc (sl5 hr (by decide))) (fun i => st.x14 ((rl r hr).emb i)) r k3 hr hk3))) shapeCasts_S32x128_S32x128) }

theorem runs_stripF (B : Bufs) (st : St F) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (stripF B.a4 B.a5 B.a6 B.a7 B.h7 B.a10 B.a11 B.a12 B.a14 acc r k0 k1 k2 k3 h32 hr hk0 hk1 hk2 hk3) st ⟨⟩ (stripFS st acc r k0 k1 k2 k3 hr hk0 hk1 hk2 hk3) :=
  by
  unfold stripF stripFS
  refine .bind (.load14 B _ _ _) ?_
  refine .bind (runs_lane B _ _ _ _ _ _ _ _) ?_
  dsimp only
  refine .bind (runs_lane B _ _ _ _ _ _ _ _) ?_
  dsimp only
  refine .bind (runs_lane B _ _ _ _ _ _ _ _) ?_
  dsimp only
  refine .bind (runs_lane B _ _ _ _ _ _ _ _) ?_
  dsimp only
  exact (.bind (.load11 B _ _ _) (.bind (.store11 B _ _ _ _ _) (.bind (.load12 B _ _ _) (.store12 B _ _ _ _ _))))

/-- A strip of 32 rows of a later chunk. -/
def stripMS (st : St F) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  let s1 := laneS st (extractStridedSlice S32x128 ![r, 0] acc (sl5 hr (by decide))) (fun i => st.x14 ((rl r hr).emb i)) r k0 hr hk0
  let s2 := laneS s1 (extractStridedSlice S32x128 ![r, 128] acc (sl5 hr (by decide))) (fun i => st.x14 ((rl r hr).emb i)) r k1 hr hk1
  let s3 := laneS s2 (extractStridedSlice S32x128 ![r, 256] acc (sl5 hr (by decide))) (fun i => st.x14 ((rl r hr).emb i)) r k2 hr hk2
  let s4 := laneS s3 (extractStridedSlice S32x128 ![r, 384] acc (sl5 hr (by decide))) (fun i => st.x14 ((rl r hr).emb i)) r k3 hr hk3
  { s4 with
    x11 := (rl r hr).overlay s4.x11 (shapeCast S32x128 (addf (addf (addf (addf (laneQ (stO st (extractStridedSlice S32x128 ![r, 0] acc (sl5 hr (by decide))) (fun i => st.x14 ((rl r hr).emb i)) r k0 hr hk0)) (laneQ (stO s1 (extractStridedSlice S32x128 ![r, 128] acc (sl5 hr (by decide))) (fun i => st.x14 ((rl r hr).emb i)) r k1 hr hk1))) (laneQ (stO s2 (extractStridedSlice S32x128 ![r, 256] acc (sl5 hr (by decide))) (fun i => st.x14 ((rl r hr).emb i)) r k2 hr hk2))) (laneQ (stO s3 (extractStridedSlice S32x128 ![r, 384] acc (sl5 hr (by decide))) (fun i => st.x14 ((rl r hr).emb i)) r k3 hr hk3))) (fun i => s4.x11 ((rl r hr).emb i))) shapeCasts_S32x128_S32x128)
    x12 := (rl r hr).overlay s4.x12 (shapeCast S32x128 (maximumf (maximumf (maximumf (maximumf (absf (stT st (extractStridedSlice S32x128 ![r, 0] acc (sl5 hr (by decide))) (fun i => st.x14 ((rl r hr).emb i)) r k0 hr hk0)) (absf (stT s1 (extractStridedSlice S32x128 ![r, 128] acc (sl5 hr (by decide))) (fun i => st.x14 ((rl r hr).emb i)) r k1 hr hk1))) (absf (stT s2 (extractStridedSlice S32x128 ![r, 256] acc (sl5 hr (by decide))) (fun i => st.x14 ((rl r hr).emb i)) r k2 hr hk2))) (absf (stT s3 (extractStridedSlice S32x128 ![r, 384] acc (sl5 hr (by decide))) (fun i => st.x14 ((rl r hr).emb i)) r k3 hr hk3))) (fun i => s4.x12 ((rl r hr).emb i))) shapeCasts_S32x128_S32x128) }

theorem runs_stripM (B : Bufs) (st : St F) (acc : FVec F S256x512 .f32) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (stripM B.a4 B.a5 B.a6 B.a7 B.h7 B.a10 B.a11 B.a12 B.a14 acc r k0 k1 k2 k3 h32 hr hk0 hk1 hk2 hk3) st ⟨⟩ (stripMS st acc r k0 k1 k2 k3 hr hk0 hk1 hk2 hk3) :=
  by
  unfold stripM stripMS
  refine .bind (.load14 B _ _ _) ?_
  refine .bind (runs_lane B _ _ _ _ _ _ _ _) ?_
  dsimp only
  refine .bind (runs_lane B _ _ _ _ _ _ _ _) ?_
  dsimp only
  refine .bind (runs_lane B _ _ _ _ _ _ _ _) ?_
  dsimp only
  refine .bind (runs_lane B _ _ _ _ _ _ _ _) ?_
  dsimp only
  exact (.bind (.load11 B _ _ _) (.bind (.load12 B _ _ _) (.bind (.load11 B _ _ _) (.bind (.store11 B _ _ _ _ _) (.bind (.load12 B _ _ _) (.store12 B _ _ _ _ _))))))

/-- A strip of 32 rows of the last chunk. -/
def stripLS (st : St F) (acc : FVec F S256x256 .f32) (r k0 k1 : Nat) (hr : r + 32 ≤ 256) (hk0 : k0 + 128 ≤ 4352) (hk1 : k1 + 128 ≤ 4352) : St F :=
  let s1 := laneS st (extractStridedSlice S32x128 ![r, 0] acc (sl2 hr (by decide))) (fun i => st.x14 ((rl r hr).emb i)) r k0 hr hk0
  let s2 := laneS s1 (extractStridedSlice S32x128 ![r, 128] acc (sl2 hr (by decide))) (fun i => st.x14 ((rl r hr).emb i)) r k1 hr hk1
  { s2 with
    x11 := (rl r hr).overlay s2.x11 (shapeCast S32x128 (addf (addf (laneQ (stO st (extractStridedSlice S32x128 ![r, 0] acc (sl2 hr (by decide))) (fun i => st.x14 ((rl r hr).emb i)) r k0 hr hk0)) (laneQ (stO s1 (extractStridedSlice S32x128 ![r, 128] acc (sl2 hr (by decide))) (fun i => st.x14 ((rl r hr).emb i)) r k1 hr hk1))) (fun i => s2.x11 ((rl r hr).emb i))) shapeCasts_S32x128_S32x128)
    x12 := (rl r hr).overlay s2.x12 (shapeCast S32x128 (maximumf (maximumf (absf (stT st (extractStridedSlice S32x128 ![r, 0] acc (sl2 hr (by decide))) (fun i => st.x14 ((rl r hr).emb i)) r k0 hr hk0)) (absf (stT s1 (extractStridedSlice S32x128 ![r, 128] acc (sl2 hr (by decide))) (fun i => st.x14 ((rl r hr).emb i)) r k1 hr hk1))) (fun i => s2.x12 ((rl r hr).emb i))) shapeCasts_S32x128_S32x128) }

theorem runs_stripL (B : Bufs) (st : St F) (acc : FVec F S256x256 .f32) (r k0 k1 : Nat) (h32 : 32 ∣ r) (hr : r + 32 ≤ 256) (hk0 : k0 + 128 ≤ 4352) (hk1 : k1 + 128 ≤ 4352) :
    Runs B (stripL B.a4 B.a5 B.a6 B.a7 B.h7 B.a10 B.a11 B.a12 B.a14 acc r k0 k1 h32 hr hk0 hk1) st ⟨⟩ (stripLS st acc r k0 k1 hr hk0 hk1) :=
  by
  unfold stripL stripLS
  refine .bind (.load14 B _ _ _) ?_
  refine .bind (runs_lane B _ _ _ _ _ _ _ _) ?_
  dsimp only
  refine .bind (runs_lane B _ _ _ _ _ _ _ _) ?_
  dsimp only
  exact (.bind (.load11 B _ _ _) (.bind (.load12 B _ _ _) (.bind (.load11 B _ _ _) (.bind (.store11 B _ _ _ _ _) (.bind (.load12 B _ _ _) (.store12 B _ _ _ _ _))))))

end

/-- The product of the first chunk. -/
def projFA (st : St F) : FVec F S256x512 .f32 :=
  matmul dot_S256x1664_S1664x512_S256x512_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, 0] S1664x512.size (inb_w (by decide))).emb i)) (constant S256x512 .f32 0x00000000#32)

def projFS (st : St F) : St F :=
  (stripFS (stripFS (stripFS (stripFS (stripFS (stripFS (stripFS (stripFS st (projFA st) 0 0 128 256 384 (by decide) (by decide) (by decide) (by decide) (by decide)) (projFA st) 32 0 128 256 384 (by decide) (by decide) (by decide) (by decide) (by decide)) (projFA st) 64 0 128 256 384 (by decide) (by decide) (by decide) (by decide) (by decide)) (projFA st) 96 0 128 256 384 (by decide) (by decide) (by decide) (by decide) (by decide)) (projFA st) 128 0 128 256 384 (by decide) (by decide) (by decide) (by decide) (by decide)) (projFA st) 160 0 128 256 384 (by decide) (by decide) (by decide) (by decide) (by decide)) (projFA st) 192 0 128 256 384 (by decide) (by decide) (by decide) (by decide) (by decide)) (projFA st) 224 0 128 256 384 (by decide) (by decide) (by decide) (by decide) (by decide))

theorem runs_projF (B : Bufs) (st : St F) :
    Runs B (projF B.a2 B.a3 B.a4 B.a5 B.a6 B.a7 B.h7 B.a10 B.a11 B.a12 B.a14) st ⟨⟩ (projFS st) :=
  .bind (.load2 B _ _ _) (.bind (.load3 B _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (.bind (runs_stripF B _ _ _ _ _ _ _ _ _ _ _ _ _) (runs_stripF B _ _ _ _ _ _ _ _ _ _ _ _ _)))))))))

/-- The product of a later chunk. -/
def projMA (st : St F) (k0 : Nat) (hc : k0 + 512 ≤ 4352) : FVec F S256x512 .f32 :=
  matmul dot_S256x1664_S1664x512_S256x512_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, k0] S1664x512.size (inb_w hc)).emb i)) (constant S256x512 .f32 0x00000000#32)

def projMS (st : St F) (k0 k1 k2 k3 : Nat) (hc : k0 + 512 ≤ 4352) (hk0 : k0 + 128 ≤ 4352) (hk1 : k1 + 128 ≤ 4352) (hk2 : k2 + 128 ≤ 4352) (hk3 : k3 + 128 ≤ 4352) : St F :=
  (stripMS (stripMS (stripMS (stripMS (stripMS (stripMS (stripMS (stripMS st (projMA st k0 hc) 0 k0 k1 k2 k3 (by decide) hk0 hk1 hk2 hk3) (projMA st k0 hc) 32 k0 k1 k2 k3 (by decide) hk0 hk1 hk2 hk3) (projMA st k0 hc) 64 k0 k1 k2 k3 (by decide) hk0 hk1 hk2 hk3) (projMA st k0 hc) 96 k0 k1 k2 k3 (by decide) hk0 hk1 hk2 hk3) (projMA st k0 hc) 128 k0 k1 k2 k3 (by decide) hk0 hk1 hk2 hk3) (projMA st k0 hc) 160 k0 k1 k2 k3 (by decide) hk0 hk1 hk2 hk3) (projMA st k0 hc) 192 k0 k1 k2 k3 (by decide) hk0 hk1 hk2 hk3) (projMA st k0 hc) 224 k0 k1 k2 k3 (by decide) hk0 hk1 hk2 hk3)

theorem runs_projM (B : Bufs) (st : St F) (k0 k1 k2 k3 : Nat) (hc : k0 + 512 ≤ 4352) (hk0 : k0 + 128 ≤ 4352) (hk1 : k1 + 128 ≤ 4352) (hk2 : k2 + 128 ≤ 4352) (hk3 : k3 + 128 ≤ 4352) :
    Runs B (projM B.a2 B.a3 B.a4 B.a5 B.a6 B.a7 B.h7 B.a10 B.a11 B.a12 B.a14 k0 k1 k2 k3 hc hk0 hk1 hk2 hk3) st ⟨⟩ (projMS st k0 k1 k2 k3 hc hk0 hk1 hk2 hk3) :=
  .bind (.load2 B _ _ _) (.bind (.load3 B _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (.bind (runs_stripM B _ _ _ _ _ _ _ _ _ _ _ _ _) (runs_stripM B _ _ _ _ _ _ _ _ _ _ _ _ _)))))))))

/-- The product of the last chunk. -/
def projLA (st : St F) : FVec F S256x256 .f32 :=
  matmul dot_S256x1664_S1664x256_S256x256_1_0_0_1_n_n none (shapeCast S256x1664 (fun i => st.x2 ((Rect.unit (s := S256x1664) ![0, 0] S256x1664.size inb_S256x1664_S256x1664_0_0).emb i)) shapeCasts_S256x1664_S256x1664)
    (fun i => st.x3 ((Rect.unit (s := S1664x4352) ![0, 4096] S1664x256.size inb_S1664x4352_S1664x256_0_4096).emb i)) (constant S256x256 .f32 0x00000000#32)

def projLS (st : St F) : St F :=
  (stripLS (stripLS (stripLS (stripLS (stripLS (stripLS (stripLS (stripLS st (projLA st) 0 4096 4224 (by decide) (by decide) (by decide)) (projLA st) 32 4096 4224 (by decide) (by decide) (by decide)) (projLA st) 64 4096 4224 (by decide) (by decide) (by decide)) (projLA st) 96 4096 4224 (by decide) (by decide) (by decide)) (projLA st) 128 4096 4224 (by decide) (by decide) (by decide)) (projLA st) 160 4096 4224 (by decide) (by decide) (by decide)) (projLA st) 192 4096 4224 (by decide) (by decide) (by decide)) (projLA st) 224 4096 4224 (by decide) (by decide) (by decide))

theorem runs_projL (B : Bufs) (st : St F) :
    Runs B (projL B.a2 B.a3 B.a4 B.a5 B.a6 B.a7 B.h7 B.a10 B.a11 B.a12 B.a14) st ⟨⟩ (projLS st) :=
  .bind (.load2 B _ _ _) (.bind (.load3 B _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (.bind (runs_stripL B _ _ _ _ _ _ _ _ _) (runs_stripL B _ _ _ _ _ _ _ _ _)))))))))

/-! ## The codes -/

def qV (t s : FVec F S32x128 .f32) : FVec F S32x128 .fp8e4m3 :=
  truncf .fp8e4m3 (minimumf (broadcast S32x128 (Scalar.ofBits .f32 0x43E00000#32 : F .f32)) (maximumf (broadcast S32x128 (Scalar.ofBits .f32 0xC3E00000#32 : F .f32)) (mulf t s))) bitsLt_fp8e4m3_f32

def qlaneS (st : St F) (s : FVec F S32x128 .f32) (r k : Nat) (hr : r + 32 ≤ 256) (hk : k + 128 ≤ 4352) : St F :=
  { st with x8 := (rt r k hr hk).overlay st.x8 (qV (fun i => st.x10 ((rt r k hr hk).emb i)) s) }

theorem runs_qlane (B : Bufs) (st : St F) (s : FVec F S32x128 .f32) (r k : Nat) (h32 : 32 ∣ r) (hr : r + 32 ≤ 256) (hk : k + 128 ≤ 4352) :
    Runs B (qlane B.a8 B.h8 B.a10 s r k h32 hr hk) st ⟨⟩ (qlaneS st s r k hr hk) :=
  .bind (.load10 B _ _ _) (.bind (.load8 B _ _ _) (.store8 B _ _ _ _ _))

def qstripS (st : St F) (r k0 k1 k2 k3 : Nat) (hr : r + 32 ≤ 256) (hk0 : k0 + 128 ≤ 4352) (hk1 : k1 + 128 ≤ 4352) (hk2 : k2 + 128 ≤ 4352) (hk3 : k3 + 128 ≤ 4352) : St F :=
  (qlaneS (qlaneS (qlaneS (qlaneS st (fun i => st.x13 ((rl r hr).emb i)) r k0 hr hk0) (fun i => st.x13 ((rl r hr).emb i)) r k1 hr hk1) (fun i => st.x13 ((rl r hr).emb i)) r k2 hr hk2) (fun i => st.x13 ((rl r hr).emb i)) r k3 hr hk3)

theorem runs_qstrip (B : Bufs) (st : St F) (r k0 k1 k2 k3 : Nat) (h32 : 32 ∣ r) (hr : r + 32 ≤ 256) (hk0 : k0 + 128 ≤ 4352) (hk1 : k1 + 128 ≤ 4352) (hk2 : k2 + 128 ≤ 4352) (hk3 : k3 + 128 ≤ 4352) :
    Runs B (qstrip B.a8 B.h8 B.a10 B.a13 r k0 k1 k2 k3 h32 hr hk0 hk1 hk2 hk3) st ⟨⟩ (qstripS st r k0 k1 k2 k3 hr hk0 hk1 hk2 hk3) :=
  .bind (.load13 B _ _ _) (.bind (runs_qlane B _ _ _ _ _ _ _) (.bind (runs_qlane B _ _ _ _ _ _ _) (.bind (runs_qlane B _ _ _ _ _ _ _) (runs_qlane B _ _ _ _ _ _ _))))

def qstripLS (st : St F) (r k0 k1 : Nat) (hr : r + 32 ≤ 256) (hk0 : k0 + 128 ≤ 4352) (hk1 : k1 + 128 ≤ 4352) : St F :=
  (qlaneS (qlaneS st (fun i => st.x13 ((rl r hr).emb i)) r k0 hr hk0) (fun i => st.x13 ((rl r hr).emb i)) r k1 hr hk1)

theorem runs_qstripL (B : Bufs) (st : St F) (r k0 k1 : Nat) (h32 : 32 ∣ r) (hr : r + 32 ≤ 256) (hk0 : k0 + 128 ≤ 4352) (hk1 : k1 + 128 ≤ 4352) :
    Runs B (qstripL B.a8 B.h8 B.a10 B.a13 r k0 k1 h32 hr hk0 hk1) st ⟨⟩ (qstripLS st r k0 k1 hr hk0 hk1) :=
  .bind (.load13 B _ _ _) (.bind (runs_qlane B _ _ _ _ _ _ _) (runs_qlane B _ _ _ _ _ _ _))

def quantS (st : St F) (k0 k1 k2 k3 : Nat) (hk0 : k0 + 128 ≤ 4352) (hk1 : k1 + 128 ≤ 4352) (hk2 : k2 + 128 ≤ 4352) (hk3 : k3 + 128 ≤ 4352) : St F :=
  (qstripS (qstripS (qstripS (qstripS (qstripS (qstripS (qstripS (qstripS st 0 k0 k1 k2 k3 (by decide) hk0 hk1 hk2 hk3) 32 k0 k1 k2 k3 (by decide) hk0 hk1 hk2 hk3) 64 k0 k1 k2 k3 (by decide) hk0 hk1 hk2 hk3) 96 k0 k1 k2 k3 (by decide) hk0 hk1 hk2 hk3) 128 k0 k1 k2 k3 (by decide) hk0 hk1 hk2 hk3) 160 k0 k1 k2 k3 (by decide) hk0 hk1 hk2 hk3) 192 k0 k1 k2 k3 (by decide) hk0 hk1 hk2 hk3) 224 k0 k1 k2 k3 (by decide) hk0 hk1 hk2 hk3)

theorem runs_quant (B : Bufs) (st : St F) (k0 k1 k2 k3 : Nat) (hk0 : k0 + 128 ≤ 4352) (hk1 : k1 + 128 ≤ 4352) (hk2 : k2 + 128 ≤ 4352) (hk3 : k3 + 128 ≤ 4352) : Runs B (quant B.a8 B.h8 B.a10 B.a13 k0 k1 k2 k3 hk0 hk1 hk2 hk3) st ⟨⟩ (quantS st k0 k1 k2 k3 hk0 hk1 hk2 hk3) :=
  (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (.bind (runs_qstrip B _ _ _ _ _ _ _ _ _ _ _ _) (runs_qstrip B _ _ _ _ _ _ _ _ _ _ _ _))))))))

def quantLS (st : St F) : St F :=
  (qstripLS (qstripLS (qstripLS (qstripLS (qstripLS (qstripLS (qstripLS (qstripLS st 0 4096 4224 (by decide) (by decide) (by decide)) 32 4096 4224 (by decide) (by decide) (by decide)) 64 4096 4224 (by decide) (by decide) (by decide)) 96 4096 4224 (by decide) (by decide) (by decide)) 128 4096 4224 (by decide) (by decide) (by decide)) 160 4096 4224 (by decide) (by decide) (by decide)) 192 4096 4224 (by decide) (by decide) (by decide)) 224 4096 4224 (by decide) (by decide) (by decide))

theorem runs_quantL (B : Bufs) (st : St F) : Runs B (quantL B.a8 B.h8 B.a10 B.a13) st ⟨⟩ (quantLS st) :=
  (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (.bind (runs_qstripL B _ _ _ _ _ _ _ _) (runs_qstripL B _ _ _ _ _ _ _ _))))))))

/-! ## The statistics -/

def finSq (v11 : FVec F S128x128 .f32) : FVec F S128x128 .f32 :=
  broadcastTo S128x128 (shapeCast S128x1 (shapeCast S128x1 (multiReduction .add [1] S128 v11 0x00000000#32 reduces_S128x128_S128 (.inl rfl) rfl) shapeCasts_S128_S128x1) shapeCasts_S128x1_S128x1) broadcasts_S128x1_S128x128

def finMx (v14 : FVec F S128x128 .f32) : FVec F S128x128 .f32 :=
  broadcastTo S128x128 (shapeCast S128x1 (shapeCast S128x1 (multiReduction .maximumf [1] S128 v14 0xFF800000#32 reduces_S128x128_S128 (.inl rfl) rfl) shapeCasts_S128_S128x1) shapeCasts_S128x1_S128x1) broadcasts_S128x1_S128x128

def finInv (v11 : FVec F S128x128 .f32) : FVec F S128x128 .f32 :=
  rsqrt (addf (mulf (finSq v11) (broadcast S128x128 (Named.named κ "inv_n" 0x3970F0F1#32 : F .f32))) (broadcast S128x128 (Scalar.ofBits .f32 0x358637BD#32 : F .f32)))

def finA (v11 v14 : FVec F S128x128 .f32) : FVec F S128x128 .f32 :=
  mulf (mulf (finMx v14) (finInv v11)) (broadcast S128x128 (Scalar.ofBits .f32 0x3B124925#32 : F .f32))

/-- One step of the search for the exponent of `a`: the power of two `2 ^ u` in the pattern's exponent field is put in when `a` is not below it. -/
def bis (a : FVec F S128x128 .f32) (b : IVec S128x128 32) (s : BitVec 32) : IVec S128x128 32 :=
  select (cmpf .olt a (bitcastToFloat .f32 (shli (addi b (broadcast S128x128 s)) (broadcast S128x128 23#32)))) b (addi b (broadcast S128x128 s))

def finB (a : FVec F S128x128 .f32) : IVec S128x128 32 :=
  bis a (bis a (bis a (bis a (bis a (bis a (bis a (bis a (broadcast S128x128 0#32) 128#32) 64#32) 32#32) 16#32) 8#32) 4#32) 2#32) 1#32

def finE (a : FVec F S128x128 .f32) : IVec S128x128 32 :=
  select (cmpf .oeq a (broadcast S128x128 (Scalar.ofBits .f32 0x00000000#32 : F .f32))) (broadcast S128x128 0#32) (subi (finB a) (broadcast S128x128 126#32))

def finUp (a : FVec F S128x128 .f32) : FVec F S128x128 .f32 :=
  bitcastToFloat .f32 (shli (addi (finE a) (broadcast S128x128 127#32)) (broadcast S128x128 23#32))

def finDown (a : FVec F S128x128 .f32) : FVec F S128x128 .f32 :=
  bitcastToFloat .f32 (shli (subi (broadcast S128x128 127#32) (finE a)) (broadcast S128x128 23#32))

def finS (v11 v14 : FVec F S128x128 .f32) : FVec F S128x128 .f32 := mulf (finInv v11) (finDown (finA v11 v14))

def finY (v11 v14 : FVec F S128x128 .f32) : FVec F S1x1x128 .f32 :=
  shapeCast S1x1x128 (extractStridedSlice S1x128 ![0, 0] (transpose S128x128 [1, 0] (finUp (finA v11 v14)) transposes_S128x128_p1_0_S128x128) slices_S128x128_o0_0_S1x128) shapeCasts_S1x128_S1x1x128

def fin1S (st : St F) (r : Nat) (hr : r + 128 ≤ 256) : St F :=
  { st with
    x13 := (rh r hr).overlay st.x13 (shapeCast S128x128 (finS (fun i => st.x11 ((rh r hr).emb i)) (fun i => st.x12 ((rh r hr).emb i))) shapeCasts_S128x128_S128x128)
    x9 := (rx r hr).overlay st.x9 (finY (fun i => st.x11 ((rh r hr).emb i)) (fun i => st.x12 ((rh r hr).emb i))) }

set_option maxHeartbeats 1000000 in
theorem runs_fin1 (B : Bufs) (st : St F) (r : Nat) (hr : r + 128 ≤ 256) : Runs B (fin1 B.a9 B.a11 B.a12 B.a13 r hr) st ⟨⟩ (fin1S st r hr) :=
  .bind (.load11 B _ _ _) (.bind (.load12 B _ _ _) (.bind (.load13 B _ _ _) (.bind (.store13 B _ _ _ _ _) (.bind (.load9 B _ _ _) (.store9 B _ _ _ _ _)))))

def finAllS (st : St F) : St F := fin1S (fin1S st 0 (by decide)) 128 (by decide)

theorem runs_fin (B : Bufs) (st : St F) : Runs B (fin B.a9 B.a11 B.a12 B.a13) st ⟨⟩ (finAllS st) :=
  .bind (runs_fin1 B _ _ _) (runs_fin1 B _ _ _)

/-! ## The branches -/

/-- The first point. -/
def brAS (st : St F) : St F :=
  (projLS (projMS (projMS (projMS (projMS (projMS (projMS (projMS (projFS (loadXsS st)) 512 640 768 896 (by decide) (by decide) (by decide) (by decide) (by decide)) 1024 1152 1280 1408 (by decide) (by decide) (by decide) (by decide) (by decide)) 1536 1664 1792 1920 (by decide) (by decide) (by decide) (by decide) (by decide)) 2048 2176 2304 2432 (by decide) (by decide) (by decide) (by decide) (by decide)) 2560 2688 2816 2944 (by decide) (by decide) (by decide) (by decide) (by decide)) 3072 3200 3328 3456 (by decide) (by decide) (by decide) (by decide) (by decide)) 3584 3712 3840 3968 (by decide) (by decide) (by decide) (by decide) (by decide)))

theorem runs_brA (B : Bufs) (st : St F) : Runs B (brA B.a1 B.a2 B.a3 B.a4 B.a5 B.a6 B.a7 B.h7 B.a10 B.a11 B.a12 B.a14) st ⟨⟩ (brAS st) :=
  (.bind (runs_loadXs B _) (.bind (runs_projF B _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (.bind (runs_projM B _ _ _ _ _ _ _ _ _ _) (runs_projL B _))))))))))

/-- A point between. -/
def brBS (st : St F) : St F :=
  (projLS (quantLS (projMS (quantS (projMS (quantS (projMS (quantS (projMS (quantS (projMS (quantS (projMS (quantS (projMS (quantS (projFS (quantS (loadXsS (finAllS st)) 0 128 256 384 (by decide) (by decide) (by decide) (by decide))) 512 640 768 896 (by decide) (by decide) (by decide) (by decide)) 512 640 768 896 (by decide) (by decide) (by decide) (by decide) (by decide)) 1024 1152 1280 1408 (by decide) (by decide) (by decide) (by decide)) 1024 1152 1280 1408 (by decide) (by decide) (by decide) (by decide) (by decide)) 1536 1664 1792 1920 (by decide) (by decide) (by decide) (by decide)) 1536 1664 1792 1920 (by decide) (by decide) (by decide) (by decide) (by decide)) 2048 2176 2304 2432 (by decide) (by decide) (by decide) (by decide)) 2048 2176 2304 2432 (by decide) (by decide) (by decide) (by decide) (by decide)) 2560 2688 2816 2944 (by decide) (by decide) (by decide) (by decide)) 2560 2688 2816 2944 (by decide) (by decide) (by decide) (by decide) (by decide)) 3072 3200 3328 3456 (by decide) (by decide) (by decide) (by decide)) 3072 3200 3328 3456 (by decide) (by decide) (by decide) (by decide) (by decide)) 3584 3712 3840 3968 (by decide) (by decide) (by decide) (by decide)) 3584 3712 3840 3968 (by decide) (by decide) (by decide) (by decide) (by decide))))

theorem runs_brB (B : Bufs) (st : St F) : Runs B (brB B.a1 B.a2 B.a3 B.a4 B.a5 B.a6 B.a7 B.h7 B.a8 B.h8 B.a9 B.a10 B.a11 B.a12 B.a13 B.a14) st ⟨⟩ (brBS st) :=
  (.bind (runs_fin B _) (.bind (runs_loadXs B _) (.bind (runs_quant B _ _ _ _ _ _ _ _ _) (.bind (runs_projF B _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quant B _ _ _ _ _ _ _ _ _) (.bind (runs_projM B _ _ _ _ _ _ _ _ _ _) (.bind (runs_quantL B _) (runs_projL B _))))))))))))))))))))

/-- The last point. -/
def brCS (st : St F) : St F :=
  (quantLS (quantS (quantS (quantS (quantS (quantS (quantS (quantS (quantS (finAllS st) 0 128 256 384 (by decide) (by decide) (by decide) (by decide)) 512 640 768 896 (by decide) (by decide) (by decide) (by decide)) 1024 1152 1280 1408 (by decide) (by decide) (by decide) (by decide)) 1536 1664 1792 1920 (by decide) (by decide) (by decide) (by decide)) 2048 2176 2304 2432 (by decide) (by decide) (by decide) (by decide)) 2560 2688 2816 2944 (by decide) (by decide) (by decide) (by decide)) 3072 3200 3328 3456 (by decide) (by decide) (by decide) (by decide)) 3584 3712 3840 3968 (by decide) (by decide) (by decide) (by decide)))

theorem runs_brC (B : Bufs) (st : St F) : Runs B (brC B.a8 B.h8 B.a9 B.a10 B.a11 B.a12 B.a13) st ⟨⟩ (brCS st) :=
  (.bind (runs_fin B _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (.bind (runs_quant B _ _ _ _ _ _ _ _ _) (runs_quantL B _))))))))))

end Cert.KernelIdeal.Gen
-- ==== Proof.IdealKeep.lean ====
/- A block of the kernel leaves the six inputs as they are. -/
module

public import proofs.«01_k».proof.Proof.IdealBlocks

@[expose] public section

noncomputable section

namespace Cert.KernelIdeal.Gen

open Idealize.ShloMosaic Idealize.ShloMosaic.TcCoe
open Facts₀

variable {F : FTy → Type} [FloatOps F] [Named F]

/-- The inputs of `b` are those of `a`. -/
structure Keep (a b : St F) : Prop where
  k1 : b.x1 = a.x1
  k2 : b.x2 = a.x2
  k3 : b.x3 = a.x3
  k4 : b.x4 = a.x4
  k5 : b.x5 = a.x5
  k6 : b.x6 = a.x6

theorem Keep.refl (a : St F) : Keep a a := ⟨rfl, rfl, rfl, rfl, rfl, rfl⟩

theorem Keep.stats {a s : St F} (h : Keep a s) (u v : Vec F S256x128 .f32) : Keep a { s with x11 := u, x12 := v } :=
  ⟨h.k1, h.k2, h.k3, h.k4, h.k5, h.k6⟩

theorem Keep.loadXs1 {a s : St F} (h : Keep a s) (r : Nat) (hr : r + 128 ≤ 256) : Keep a (loadXs1S s r hr) := by
  unfold loadXs1S
  exact ⟨h.k1, h.k2, h.k3, h.k4, h.k5, h.k6⟩

theorem Keep.lane {a s : St F} (h : Keep a s) (v32 xs : FVec F S32x128 .f32) (r k : Nat) (hr : r + 32 ≤ 256) (hk : k + 128 ≤ 4352) : Keep a (laneS s v32 xs r k hr hk) := by
  unfold laneS
  exact ⟨h.k1, h.k2, h.k3, h.k4, h.k5, h.k6⟩

theorem Keep.qlane {a s : St F} (h : Keep a s) (t : FVec F S32x128 .f32) (r k : Nat) (hr : r + 32 ≤ 256) (hk : k + 128 ≤ 4352) : Keep a (qlaneS s t r k hr hk) := by
  unfold qlaneS
  exact ⟨h.k1, h.k2, h.k3, h.k4, h.k5, h.k6⟩

theorem Keep.fin1 {a s : St F} (h : Keep a s) (r : Nat) (hr : r + 128 ≤ 256) : Keep a (fin1S s r hr) := by
  unfold fin1S
  exact ⟨h.k1, h.k2, h.k3, h.k4, h.k5, h.k6⟩

attribute [local irreducible] loadXs1S laneS qlaneS fin1S

theorem Keep.loadXs {a s : St F} (h : Keep a s)  : Keep a (loadXsS s ) := by
  unfold loadXsS
  repeat first | apply Keep.loadXs1
  exact h

theorem Keep.stripF {a s : St F} (h : Keep a s) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (stripFS s acc r k0 k1 k2 k3 hr hk0 hk1 hk2 hk3) := by
  unfold stripFS
  refine Keep.stats ?_ _ _
  repeat apply Keep.lane
  exact h

theorem Keep.stripM {a s : St F} (h : Keep a s) (acc : FVec F S256x512 .f32) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (stripMS s acc r k0 k1 k2 k3 hr hk0 hk1 hk2 hk3) := by
  unfold stripMS
  refine Keep.stats ?_ _ _
  repeat apply Keep.lane
  exact h

theorem Keep.stripL {a s : St F} (h : Keep a s) (acc : FVec F S256x256 .f32) (r k0 k1 : Nat) (hr : r + 32 ≤ 256) (hk0 : k0 + 128 ≤ 4352) (hk1 : k1 + 128 ≤ 4352) : Keep a (stripLS s acc r k0 k1 hr hk0 hk1) := by
  unfold stripLS
  refine Keep.stats ?_ _ _
  repeat apply Keep.lane
  exact h

theorem Keep.qstrip {a s : St F} (h : Keep a s) (r k0 k1 k2 k3 : Nat) (hr : r + 32 ≤ 256) (hk0 : k0 + 128 ≤ 4352) (hk1 : k1 + 128 ≤ 4352) (hk2 : k2 + 128 ≤ 4352) (hk3 : k3 + 128 ≤ 4352) : Keep a (qstripS s r k0 k1 k2 k3 hr hk0 hk1 hk2 hk3) := by
  unfold qstripS
  skip
  repeat apply Keep.qlane
  exact h

theorem Keep.qstripL {a s : St F} (h : Keep a s) (r k0 k1 : Nat) (hr : r + 32 ≤ 256) (hk0 : k0 + 128 ≤ 4352) (hk1 : k1 + 128 ≤ 4352) : Keep a (qstripLS s r k0 k1 hr hk0 hk1) := by
  unfold qstripLS
  skip
  repeat apply Keep.qlane
  exact h

attribute [local irreducible] stripFS stripMS stripLS qstripS qstripLS loadXsS

theorem Keep.projF {a s : St F} (h : Keep a s)  : Keep a (projFS s ) := by
  unfold projFS
  repeat first | apply Keep.stripF
  exact h

theorem Keep.projM {a s : St F} (h : Keep a s) (k0 k1 k2 k3 : Nat) (hc : k0 + 512 ≤ 4352) (hk0 : k0 + 128 ≤ 4352) (hk1 : k1 + 128 ≤ 4352) (hk2 : k2 + 128 ≤ 4352) (hk3 : k3 + 128 ≤ 4352) : Keep a (projMS s k0 k1 k2 k3 hc hk0 hk1 hk2 hk3) := by
  unfold projMS
  repeat first | apply Keep.stripM
  exact h

theorem Keep.projL {a s : St F} (h : Keep a s)  : Keep a (projLS s ) := by
  unfold projLS
  repeat first | apply Keep.stripL
  exact h

theorem Keep.quant {a s : St F} (h : Keep a s) (k0 k1 k2 k3 : Nat) (hk0 : k0 + 128 ≤ 4352) (hk1 : k1 + 128 ≤ 4352) (hk2 : k2 + 128 ≤ 4352) (hk3 : k3 + 128 ≤ 4352) : Keep a (quantS s k0 k1 k2 k3 hk0 hk1 hk2 hk3) := by
  unfold quantS
  repeat first | apply Keep.qstrip
  exact h

theorem Keep.quantL {a s : St F} (h : Keep a s)  : Keep a (quantLS s ) := by
  unfold quantLS
  repeat first | apply Keep.qstripL
  exact h

theorem Keep.finAll {a s : St F} (h : Keep a s)  : Keep a (finAllS s ) := by
  unfold finAllS
  repeat first | apply Keep.fin1
  exact h

attribute [local irreducible] projFS projMS projLS quantS quantLS finAllS

theorem Keep.brA {a s : St F} (h : Keep a s)  : Keep a (brAS s ) := by
  unfold brAS
  repeat first | apply Keep.projL | apply Keep.projM | apply Keep.projF | apply Keep.quantL | apply Keep.quant | apply Keep.loadXs | apply Keep.finAll
  exact h

theorem Keep.brB {a s : St F} (h : Keep a s)  : Keep a (brBS s ) := by
  unfold brBS
  repeat first | apply Keep.projL | apply Keep.projM | apply Keep.projF | apply Keep.quantL | apply Keep.quant | apply Keep.loadXs | apply Keep.finAll
  exact h

theorem Keep.brC {a s : St F} (h : Keep a s)  : Keep a (brCS s ) := by
  unfold brCS
  repeat first | apply Keep.projL | apply Keep.projM | apply Keep.projF | apply Keep.quantL | apply Keep.quant | apply Keep.loadXs | apply Keep.finAll
  exact h

end Cert.KernelIdeal.Gen
-- ==== Proof.IdealBodyEq.lean ====
/- The printed body of the kernel is the program of blocks. -/
module

public import proofs.«01_k».proof.Proof.IdealBody
public import Idealize.ShloMosaic.Lib.Tactic.ProgEq

@[expose] public section

noncomputable section

namespace Cert.KernelIdeal

open Idealize.ShloMosaic Idealize.SL.Sem
open scoped Idealize.ShloMosaic.ProgEq

/-- The printed body, with two arguments more. -/
def pa (_ _ : Unit) {F : FTy → Type} [FloatOps F] [Named F] [Facts] := @cc0_oproj_rmsnorm_quant F _ _ _

/-- The body of blocks, with two arguments more. -/
def pb (_ _ : Unit) {F : FTy → Type} [FloatOps F] [Named F] [Facts] := @body F _ _ _

set_option maxHeartbeats 4000000 in
prog_eq Cert.KernelIdeal.body_eq : Cert.KernelIdeal.pa Cert.KernelIdeal.pb from Cert.KernelIdeal to Cert.KernelIdeal at () () by intros; rfl

end Cert.KernelIdeal
-- ==== Proof.IdealPoint.lean ====
/- The kernel at a point of its grid: the memrefs it is called with, its three conditions, and what it leaves in them. -/
module

public import proofs.«01_k».proof.Proof.IdealBlocks
public import proofs.«01_k».proof.Proof.IdealBodyEq

@[expose] public section

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The condition of the body's `scf.if` 0 (`k0_h1`), from the grid coordinates (the skeleton's scalar
    chain substituted). -/
abbrev cond0_0 (i : grid0.Coords) : Prop := k0_cond1 i = 1#1
/-- It holds at the first point only — by arithmetic of the point. -/
theorem hcond0_0 : ∀ t : Fin cfg0.N, cond0_0 (grid0.coords t) ↔ t.val % 65 = 0 :=
  (fun t => by
    have ht : t.val < 65 := Nat.lt_of_lt_of_eq t.isLt N_0
    have e0 : (grid0.coords t 0).val = t.val / 1 % 65 := Pipeline.Grid.coords_val t 0 (by decide) rfl
    simp only [cond0_0, k0_cond1, e0]
    word_cmp
   : ∀ t : Fin grid0.N, cond0_0 (grid0.coords t) ↔ t.val % 65 = 0)

/-- The condition of the body's `scf.if` 1 (`k0_h2`), from the grid coordinates (the skeleton's scalar
    chain substituted). -/
abbrev cond0_1 (i : grid0.Coords) : Prop := k0_cond2 i = 1#1
/-- It holds at the points whose coordinates have 1 ≤ i0 and i0 ≤ 63 — decided over the grid. -/
theorem hcond0_1 : ∀ t : Fin cfg0.N, cond0_1 (grid0.coords t) ↔ (1 ≤ t.val % 65 ∧ t.val % 65 ≤ 63) :=
  (by decide +kernel : ∀ t : Fin grid0.N, cond0_1 (grid0.coords t) ↔ (1 ≤ t.val % 65 ∧ t.val % 65 ≤ 63))

/-- The condition of the body's `scf.if` 2 (`k0_h3`), from the grid coordinates (the skeleton's scalar
    chain substituted). -/
abbrev cond0_2 (i : grid0.Coords) : Prop := k0_cond3 i = 1#1
/-- It holds at the last point only — by arithmetic of the point. -/
theorem hcond0_2 : ∀ t : Fin cfg0.N, cond0_2 (grid0.coords t) ↔ t.val % 65 = 64 :=
  (fun t => by
    have ht : t.val < 65 := Nat.lt_of_lt_of_eq t.isLt N_0
    have e0 : (grid0.coords t 0).val = t.val / 1 % 65 := Pipeline.Grid.coords_val t 0 (by decide) rfl
    simp only [cond0_2, k0_cond3, e0]
    word_cmp
   : ∀ t : Fin grid0.N, cond0_2 (grid0.coords t) ↔ t.val % 65 = 64)

/-! ## Where the windows are idle (the printed configuration's table `Cfg.idle`) -/

/-- The window 0 is never idle (an input). -/
theorem liveAt0_0 : ∀ t : Fin cfg0.N, cfg0.idle 0 (grid0.coords t) = false := fun _ => rfl
/-- The window 1 is never idle (an input). -/
theorem liveAt0_1 : ∀ t : Fin cfg0.N, cfg0.idle 1 (grid0.coords t) = false := fun _ => rfl
/-- The window 2 is never idle (an input). -/
theorem liveAt0_2 : ∀ t : Fin cfg0.N, cfg0.idle 2 (grid0.coords t) = false := fun _ => rfl
/-- The window 3 is never idle (an input). -/
theorem liveAt0_3 : ∀ t : Fin cfg0.N, cfg0.idle 3 (grid0.coords t) = false := fun _ => rfl
/-- The window 4 is never idle (an input). -/
theorem liveAt0_4 : ∀ t : Fin cfg0.N, cfg0.idle 4 (grid0.coords t) = false := fun _ => rfl
/-- The window 5 is never idle (an input). -/
theorem liveAt0_5 : ∀ t : Fin cfg0.N, cfg0.idle 5 (grid0.coords t) = false := fun _ => rfl

/-- Each window's current staging memref at point `t`, spelled as the pipeline passes it (`bodyAt0`), and its wholeness. -/
abbrev ms0_0 (t : Fin cfg0.N) : Memref sig .tc .vmem S1x1x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S256x1664 .fp8e4m3 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1664x4352 .fp8e4m3 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S1x4352 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S256x4352 .bf16 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1x4352 .f32 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S256x4352 .bf16 := win0_6.stage (cfg0.slots t 6)
abbrev hs0_6 (t : Fin cfg0.N) : (ms0_6 t).IsWhole := hstage0_6 ((cfg0.slots t 6).cast nbuf0_6)
abbrev ms0_7 (t : Fin cfg0.N) : Memref sig .tc .vmem S256x4352 .fp8e4m3 := win0_7.stage (cfg0.slots t 7)
abbrev hs0_7 (t : Fin cfg0.N) : (ms0_7 t).IsWhole := hstage0_7 ((cfg0.slots t 7).cast nbuf0_7)
abbrev ms0_8 (t : Fin cfg0.N) : Memref sig .tc .vmem S1x1x256 .f32 := win0_8.stage (cfg0.slots t 8)
abbrev hs0_8 (t : Fin cfg0.N) : (ms0_8 t).IsWhole := hstage0_8 ((cfg0.slots t 8).cast nbuf0_8)
/-- The scratch operands: whole scoped buffers of the kernel's own, passed beside the windows. -/
abbrev scM0_0 : Memref sig .tc .vmem S256x4352 .f32 := Memref.whole cc0_scratch0
abbrev scM0_1 : Memref sig .tc .vmem S256x128 .f32 := Memref.whole cc0_scratch1
abbrev scM0_2 : Memref sig .tc .vmem S256x128 .f32 := Memref.whole cc0_scratch2
abbrev scM0_3 : Memref sig .tc .vmem S256x128 .f32 := Memref.whole cc0_scratch3
abbrev scM0_4 : Memref sig .tc .vmem S256x128 .f32 := Memref.whole cc0_scratch4

/-- The frame kit's invariant with the scratch operands as memrefs owned at some contents (`Gen.scopedRest0_eq`,
    Lib/Memref.lean `owns_whole`): what the body obligation hands the run and takes back. -/
theorem PhiA0_eq (c : Dev nD) :
    (Pipeline.ΦA spec0 c : sProp 𝕄)
      = iprop(iprop((∃ d, owns (c : Thread nD τ) scM0_0 fullShare d) ∗ (∃ d, owns (c : Thread nD τ) scM0_1 fullShare d) ∗ (∃ d, owns (c : Thread nD τ) scM0_2 fullShare d) ∗ (∃ d, owns (c : Thread nD τ) scM0_3 fullShare d) ∗ (∃ d, owns (c : Thread nD τ) scM0_4 fullShare d)) ∗ (∃ r, prngReg c r)) := by
  unfold Pipeline.ΦA; rw [scopedRest0_eq]; simp only [scM0_0, scM0_1, scM0_2, scM0_3, scM0_4, owns_whole]; try rfl

/-- The arrays of the point. -/
abbrev bufs (t : Fin cfg0.N) : Bufs := ⟨ms0_0 t, ms0_1 t, ms0_2 t, ms0_3 t, ms0_4 t, ms0_5 t, ms0_6 t, ms0_7 t, ms0_8 t, scM0_0, scM0_1, scM0_2, scM0_3, scM0_4, hs0_6 t, hs0_7 t⟩

/-- What the point does to them. -/
def stepS (t : Fin cfg0.N) (st : St F) : St F := if t.val = 0 then brAS st else if t.val = 64 then brCS st else brBS st

theorem bodyAt0_eq (t : Fin cfg0.N) : bodyAt0 (F := F) t = body (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) :=
  body_eq (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) scM0_0 (Memref.isWhole_whole _) scM0_1 (Memref.isWhole_whole _) scM0_2 (Memref.isWhole_whole _) scM0_3 (Memref.isWhole_whole _) scM0_4 (Memref.isWhole_whole _) _

theorem runs_at (t : Fin cfg0.N) (st : St F) : Runs (bufs t) (bodyAt0 t) st ⟨⟩ (stepS t st) := by
  rw [bodyAt0_eq]
  unfold body
  have hN : t.val < 65 := lt_of_lt_of_eq t.isLt (show cfg0.N = 65 from N_0)
  have c0 := hcond0_0 t
  have c1 := hcond0_1 t
  have c2 := hcond0_2 t
  unfold stepS
  by_cases h0 : t.val = 0
  · rw [dif_pos (c0.2 (by omega)), dif_neg (fun h => by have := c1.1 h; omega), dif_neg (fun h => by have := c2.1 h; omega), if_pos h0]
    exact .bind (runs_brA (bufs t) st) (.bind (.pure _ _ _) (.bind (.pure _ _ _) (.pure _ _ _)))
  · by_cases h2 : t.val = 64
    · rw [dif_neg (fun h => by have := c0.1 h; omega), dif_neg (fun h => by have := c1.1 h; omega), dif_pos (c2.2 (by omega)), if_neg h0, if_pos h2]
      exact Runs.bind (runs_brC (bufs t) st) (Runs.pure (bufs t) (brCS st) PUnit.unit)
    · rw [dif_neg (fun h => by have := c0.1 h; omega), dif_pos (c1.2 (by omega)), dif_neg (fun h => by have := c2.1 h; omega), if_neg h0, if_neg h2]
      exact Runs.bind (runs_brB (bufs t) st) (Runs.pure (bufs t) (brBS st) PUnit.unit)

/-- The body table's row at a point is the body there. -/
theorem defs₀_row (t : Fin cfg0.N) :
    defs₀ (F := F) .tc cfg0.body (cfg0.bodyArgs t (cfg0.slots t)) = bodyAt0 t := by
  unfold defs₀; rw [Defs.onTc_tc]

end Cert.KernelIdeal.Gen
-- ==== Proof.IdealFrame.lean ====
/- The run of the kernel with nothing stated of its results: it ends, the arguments are as launched, and every semaphore is at zero. -/
module

public import proofs.«01_k».proof.Proof.Gen.KernelIdeal.Frame
public import proofs.«01_k».proof.Proof.IdealKeep
public import proofs.«01_k».proof.Proof.IdealPoint
public import Idealize.ShloMosaic.Lib.Claim

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

def T0 : Finset (Ref sig .tc) := {main_v7, main_v8, main_v9}
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl
    all_goals intro b hb; simp only [StableHlo.nullary_writes, StableHlo.unary_writes, StableHlo.binary_writes, StableHlo.ternary_writes, StableHlo.quaternary_writes, StableHlo.reshape_writes, StableHlo.binaryIndexed_writes, Finset.mem_singleton] at hb; cases Proc.devRef_injective _ hb; decide

theorem frameR_of (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)) :=
  (θ_run defs _ _).mono (fun _ h c => ⟨((h c).2 main_arg0 (Finset.mem_sdiff.mpr ⟨Pipeline.mem_restRefs_of main_arg0 (by decide) (by decide), by decide⟩)).trans (V_main_arg0 m c),
      ((h c).2 main_arg1 (Finset.mem_sdiff.mpr ⟨Pipeline.mem_restRefs_of main_arg1 (by decide) (by decide), by decide⟩)).trans (V_main_arg1 m c),
      (Pipeline.RDat.FramePostR.arr_in h c 2 rfl).trans ((hA c 2).trans (V_main_arg2 m c)),
      ((h c).2 main_arg3 (Finset.mem_sdiff.mpr ⟨Pipeline.mem_restRefs_of main_arg3 (by decide) (by decide), by decide⟩)).trans (V_main_arg3 m c),
      ((h c).2 main_arg4 (Finset.mem_sdiff.mpr ⟨Pipeline.mem_restRefs_of main_arg4 (by decide) (by decide), by decide⟩)).trans (V_main_arg4 m c),
      ((h c).2 main_arg5 (Finset.mem_sdiff.mpr ⟨Pipeline.mem_restRefs_of main_arg5 (by decide) (by decide), by decide⟩)).trans (V_main_arg5 m c)⟩) h

theorem Keep.step (t : Fin cfg0.N) (st : St F) : Keep st (stepS t st) := by
  unfold stepS
  by_cases h0 : t.val = 0
  · rw [if_pos h0]; exact .brA (.refl _)
  · rw [if_neg h0]
    by_cases h2 : t.val = 64
    · rw [if_pos h2]; exact .brC (.refl _)
    · rw [if_neg h2]; exact .brB (.refl _)

/-- The three result windows: nothing is stated of what they hold. -/
def forgets0 : Fin 9 → Bool := fun w => w.val == 6 || w.val == 7 || w.val == 8

/-- The proof data: an input's buffer holds its block, a result's buffer and the scratch arrays hold anything. -/
def datsR (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, h⟩ => Pipeline.Dat.unnamed (cfg := cfg0) ⟨6, h⟩ t
    | ⟨7, h⟩ => Pipeline.Dat.unnamed (cfg := cfg0) ⟨7, h⟩ t
    | ⟨8, h⟩ => Pipeline.Dat.unnamed (cfg := cfg0) ⟨8, h⟩ t
  Φ _ := Pipeline.ΦA spec0 c
  q _ := fullShare
  owed _ := 0

theorem A_eqR (c : Dev nD) (w : Fin cfg0.W) : (datsR m 0 c).A w = V m c (Pipeline.arrRef spec0 w) := by
  dsimp only [datsR]

theorem afterR_0 (c : Dev nD) (t : Fin cfg0.N) : (datsR m 0 c).after 0 t = iblk m c 0 t := by dsimp only [datsR]
theorem afterR_1 (c : Dev nD) (t : Fin cfg0.N) : (datsR m 0 c).after 1 t = iblk m c 1 t := by dsimp only [datsR]
theorem afterR_2 (c : Dev nD) (t : Fin cfg0.N) : (datsR m 0 c).after 2 t = iblk m c 2 t := by dsimp only [datsR]
theorem afterR_3 (c : Dev nD) (t : Fin cfg0.N) : (datsR m 0 c).after 3 t = iblk m c 3 t := by dsimp only [datsR]
theorem afterR_4 (c : Dev nD) (t : Fin cfg0.N) : (datsR m 0 c).after 4 t = iblk m c 4 t := by dsimp only [datsR]
theorem afterR_5 (c : Dev nD) (t : Fin cfg0.N) : (datsR m 0 c).after 5 t = iblk m c 5 t := by dsimp only [datsR]
theorem beforeR_0 (c : Dev nD) (t : Fin cfg0.N) (d) : (datsR m 0 c).before 0 t d = iblk m c 0 t :=
  before0_0_of m (datsR m 0 c) (A_eqR m c 0) (afterR_0 m c) t d
theorem beforeR_1 (c : Dev nD) (t : Fin cfg0.N) (d) : (datsR m 0 c).before 1 t d = iblk m c 1 t :=
  before0_1_of m (datsR m 0 c) (A_eqR m c 1) (afterR_1 m c) t d
theorem beforeR_2 (c : Dev nD) (t : Fin cfg0.N) (d) : (datsR m 0 c).before 2 t d = iblk m c 2 t :=
  before0_2_of m (datsR m 0 c) (A_eqR m c 2) (afterR_2 m c) t d
theorem beforeR_3 (c : Dev nD) (t : Fin cfg0.N) (d) : (datsR m 0 c).before 3 t d = iblk m c 3 t :=
  before0_3_of m (datsR m 0 c) (A_eqR m c 3) (afterR_3 m c) t d
theorem beforeR_4 (c : Dev nD) (t : Fin cfg0.N) (d) : (datsR m 0 c).before 4 t d = iblk m c 4 t :=
  before0_4_of m (datsR m 0 c) (A_eqR m c 4) (afterR_4 m c) t d
theorem beforeR_5 (c : Dev nD) (t : Fin cfg0.N) (d) : (datsR m 0 c).before 5 t d = iblk m c 5 t :=
  before0_5_of m (datsR m 0 c) (A_eqR m c 5) (afterR_5 m c) t d

def bodyPreR (c : Dev nD) (t : Fin cfg0.N) : sProp 𝕄 :=
  iprop((datsR m 0 c).Φ t.castSucc ∗ (datsR m 0 c).owesAt () t.castSucc
    ∗ (∃ d, owns (c : Thread nD τ) (ms0_0 t) fullShare ((datsR m 0 c).before 0 t d))
    ∗ (∃ d, owns (c : Thread nD τ) (ms0_1 t) fullShare ((datsR m 0 c).before 1 t d))
    ∗ (∃ d, owns (c : Thread nD τ) (ms0_2 t) fullShare ((datsR m 0 c).before 2 t d))
    ∗ (∃ d, owns (c : Thread nD τ) (ms0_3 t) fullShare ((datsR m 0 c).before 3 t d))
    ∗ (∃ d, owns (c : Thread nD τ) (ms0_4 t) fullShare ((datsR m 0 c).before 4 t d))
    ∗ (∃ d, owns (c : Thread nD τ) (ms0_5 t) fullShare ((datsR m 0 c).before 5 t d))
    ∗ (∃ d, owns (c : Thread nD τ) (ms0_6 t) fullShare d)
    ∗ (∃ d, owns (c : Thread nD τ) (ms0_7 t) fullShare d)
    ∗ (∃ d, owns (c : Thread nD τ) (ms0_8 t) fullShare d))

def bodyPostR (c : Dev nD) (t : Fin cfg0.N) : sProp 𝕄 :=
  iprop((datsR m 0 c).Φ t.succ ∗ (datsR m 0 c).owesAt () t.succ
    ∗ (datsR m 0 c).leavesExact 0 t
    ∗ (datsR m 0 c).leavesExact 1 t
    ∗ (datsR m 0 c).leavesExact 2 t
    ∗ (datsR m 0 c).leavesExact 3 t
    ∗ (datsR m 0 c).leavesExact 4 t
    ∗ (datsR m 0 c).leavesExact 5 t
    ∗ (∃ d, owns (c : Thread nD τ) (ms0_6 t) fullShare d)
    ∗ (∃ d, owns (c : Thread nD τ) (ms0_7 t) fullShare d)
    ∗ (∃ d, owns (c : Thread nD τ) (ms0_8 t) fullShare d))

set_option maxHeartbeats 1000000 in
/-- The body at any point. -/
theorem sound_bodyR (c : Dev nD) (t : Fin cfg0.N) :
    bodyPreR m c t ⊢ wp frame (wpE (defs₀ (F := F)) Variants.none c none) Set.univ (bodyAt0 t) (fun _ => bodyPostR m c t) := by
  unfold bodyPreR bodyPostR
  simp only [beforeR_0, beforeR_1, beforeR_2, beforeR_3, beforeR_4, beforeR_5]
  rw [show (datsR m 0 c).owesAt () t.succ = (datsR m 0 c).owesAt () t.castSucc from rfl]
  rw [show (datsR m 0 c).Φ t.succ = Pipeline.ΦA spec0 c from rfl, show (datsR m 0 c).Φ t.castSucc = Pipeline.ΦA spec0 c from rfl, PhiA0_eq]
  rw [show (datsR m 0 c).leavesExact 0 t = owns (c : Thread nD τ) (ms0_0 t) fullShare ((datsR m 0 c).after 0 t) from by
    unfold Dat.leavesExact; rw [liveAt0_0 t], afterR_0]
  rw [show (datsR m 0 c).leavesExact 1 t = owns (c : Thread nD τ) (ms0_1 t) fullShare ((datsR m 0 c).after 1 t) from by
    unfold Dat.leavesExact; rw [liveAt0_1 t], afterR_1]
  rw [show (datsR m 0 c).leavesExact 2 t = owns (c : Thread nD τ) (ms0_2 t) fullShare ((datsR m 0 c).after 2 t) from by
    unfold Dat.leavesExact; rw [liveAt0_2 t], afterR_2]
  rw [show (datsR m 0 c).leavesExact 3 t = owns (c : Thread nD τ) (ms0_3 t) fullShare ((datsR m 0 c).after 3 t) from by
    unfold Dat.leavesExact; rw [liveAt0_3 t], afterR_3]
  rw [show (datsR m 0 c).leavesExact 4 t = owns (c : Thread nD τ) (ms0_4 t) fullShare ((datsR m 0 c).after 4 t) from by
    unfold Dat.leavesExact; rw [liveAt0_4 t], afterR_4]
  rw [show (datsR m 0 c).leavesExact 5 t = owns (c : Thread nD τ) (ms0_5 t) fullShare ((datsR m 0 c).after 5 t) from by
    unfold Dat.leavesExact; rw [liveAt0_5 t], afterR_5]
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := Keep.step t (⟨iblk m c 0 t, iblk m c 1 t, iblk m c 2 t, iblk m c 3 t, iblk m c 4 t, iblk m c 5 t, d6, d7, d8, e0, e1, e2, e3, e4⟩ : St F)
  iapply (runs_at t (⟨iblk m c 0 t, iblk m c 1 t, iblk m c 2 t, iblk m c 3 t, iblk m c 4 t, iblk m c 5 t, d6, d7, d8, e0, e1, e2, e3, e4⟩ : St F) c _)
  generalize stepS t (⟨iblk m c 0 t, iblk m c 1 t, iblk m c 2 t, iblk m c 3 t, iblk m c 4 t, iblk m c 5 t, d6, d7, d8, e0, e1, e2, e3, e4⟩ : St F) = st at hk
  obtain ⟨k1, k2, k3, k4, k5, k6⟩ := hk
  unfold Own
  rw [k1, k2, k3, k4, k5, k6]
  dsimp only
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexists _; iexact H6
    isplitl [H7]; · iexists _; iexact H7
    iexists _; iexact H8

theorem body_obligationR (c : Dev nD) : BodyObligation (datsR (F := F) m 0 c) (defs₀ (F := F)) Variants.none () Set.univ forgets0 := fun t => by
  rw [bigSep_W0, bigSep_W0, defs₀_row]
  exact triple_restated (sound_bodyR m c t) rfl .rfl fun _ => .rfl

theorem hinR (c : Dev nD) : Pipeline.ΦA spec0 c ⊢ (datsR m 0 c).Φ 0 := Idealize.SL.BI.Entails.refl _

theorem houtR (c : Dev nD) : (datsR m 0 c).Φ (Fin.last cfg0.N) ⊢ Pipeline.ΦA spec0 c := Idealize.SL.BI.Entails.refl _

set_option backward.isDefEq.respectTransparency.types false in
set_option maxHeartbeats 800000 in
theorem run_mainR : θ_run defs (onTc (τ := τ) (main (F := F))) (s₀ m ρ) (fun r => (Pipeline.RDat.FramePostR (cfgs 0) (fun c => (datsR m 0 c).toRForget forgets0) T0 (V m)) r ∧ r.2.sem = fun _ => 0) :=
  Pipeline.θ_run_frame_around_T_track_forget (Q' := _) cfgs (datsR m) (0 : Fin 1) launch0 defs₀ Variants.none forgets0 T0 m ρ main
    (hbody := fun c => (body_obligationR m c).loose) (hshare := fun c => (datsR m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eqR m) (hin := hinR m) (hout := houtR m)

/-- The run of the kernel: it ends, with the arguments as launched and every semaphore at zero. -/
theorem frameR : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5))
      ∧ r.2.sem = fun _ => 0) :=
  θ_run_and (frameR_of m ρ (fun c => (datsR m 0 c).toRForget forgets0) (A_eqR m) ((θ_run defs _ _).mono (fun _ h => h.1) (run_mainR m ρ)))
    ((θ_run defs _ _).mono (fun _ h => h.2) (run_mainR m ρ))

end Cert.KernelIdeal.Gen
-- ==== Proof.IdealTile.lean ====
/- What the blocks of the kernel compute, over the extended reals: the state during a point is described by the number of lane blocks done in every row. -/
module

public import proofs.«01_k».proof.Proof.IdealBlocks
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.KernelIdeal.Gen

open Idealize.ShloMosaic Idealize.ShloMosaic.TcCoe Idealize.ShloMosaic.ValueIdx
open Facts₀

/-! ## Reading an overlay -/

theorem ov_gen {s : Shape} {α : Type} (r : Rect s) (X : s.Idx → α) (w : r.shape.Idx → α) (T : s.Idx → α) (P : s.Idx → Prop) [DecidablePred P]
    (hP : ∀ p, p ∈ r.set ↔ P p) (h : ∀ i, w i = T (r.emb i)) (p : s.Idx) : r.overlay X w p = if P p then T p else X p := by
  by_cases hp : P p
  · rw [if_pos hp]
    have hm := (hP p).2 hp
    rw [← Rect.map_emb_univ, Finset.mem_map] at hm
    obtain ⟨i, -, rfl⟩ := hm
    rw [Rect.overlay_emb, h]
  · rw [if_neg hp, Rect.overlay_of_not_mem _ _ _ (mt (hP p).1 hp)]

theorem ov_t {α : Type} {r k : Nat} {hr : r + 32 ≤ 256} {hk : k + 128 ≤ 4352} (X : S256x4352.Idx → α) (w : S32x128.Idx → α) (T : S256x4352.Idx → α)
    (h : ∀ i, w i = T ((rt r k hr hk).emb i)) (p : S256x4352.Idx) :
    (rt r k hr hk).overlay X w p = if (r ≤ (p 0).val ∧ (p 0).val < r + 32) ∧ (k ≤ (p 1).val ∧ (p 1).val < k + 128) then T p else X p :=
  ov_gen (rt r k hr hk) X w T (fun p => (r ≤ (p 0).val ∧ (p 0).val < r + 32) ∧ (k ≤ (p 1).val ∧ (p 1).val < k + 128)) (fun p => by
    rw [Rect.mem_set_unit]
    exact ⟨fun h => ⟨h 0, h 1⟩, fun h a => match a with | ⟨0, _⟩ => h.1 | ⟨1, _⟩ => h.2⟩) h p

theorem ov_l {α : Type} {r : Nat} {hr : r + 32 ≤ 256} (X : S256x128.Idx → α) (w : S32x128.Idx → α) (T : S256x128.Idx → α)
    (h : ∀ i, w i = T ((rl r hr).emb i)) (p : S256x128.Idx) :
    (rl r hr).overlay X w p = if r ≤ (p 0).val ∧ (p 0).val < r + 32 then T p else X p :=
  ov_gen (rl r hr) X w T (fun p => r ≤ (p 0).val ∧ (p 0).val < r + 32) (fun p => by
    rw [Rect.mem_set_unit]
    exact ⟨fun h => h 0, fun h a => match a with | ⟨0, _⟩ => h | ⟨1, _⟩ => ⟨Nat.zero_le _, by simpa using (p 1).isLt⟩⟩) h p

theorem ov_h {α : Type} {r : Nat} {hr : r + 128 ≤ 256} (X : S256x128.Idx → α) (w : S128x128.Idx → α) (T : S256x128.Idx → α)
    (h : ∀ i, w i = T ((rh r hr).emb i)) (p : S256x128.Idx) :
    (rh r hr).overlay X w p = if r ≤ (p 0).val ∧ (p 0).val < r + 128 then T p else X p :=
  ov_gen (rh r hr) X w T (fun p => r ≤ (p 0).val ∧ (p 0).val < r + 128) (fun p => by
    rw [Rect.mem_set_unit]
    exact ⟨fun h => h 0, fun h a => match a with | ⟨0, _⟩ => h | ⟨1, _⟩ => ⟨Nat.zero_le _, by simpa using (p 1).isLt⟩⟩) h p

theorem ov_x {α : Type} {r : Nat} {hr : r + 128 ≤ 256} (X : S1x1x256.Idx → α) (w : S1x1x128.Idx → α) (T : S1x1x256.Idx → α)
    (h : ∀ i, w i = T ((rx r hr).emb i)) (p : S1x1x256.Idx) :
    (rx r hr).overlay X w p = if r ≤ (p 2).val ∧ (p 2).val < r + 128 then T p else X p :=
  ov_gen (rx r hr) X w T (fun p => r ≤ (p 2).val ∧ (p 2).val < r + 128) (fun p => by
    rw [Rect.mem_set_unit]
    exact ⟨fun h => h 2, fun h a => match a with
      | ⟨0, _⟩ => ⟨Nat.zero_le _, by simpa using (p 0).isLt⟩
      | ⟨1, _⟩ => ⟨Nat.zero_le _, by simpa using (p 1).isLt⟩
      | ⟨2, _⟩ => h⟩) h p

/-! ## The goal of a point -/

/-- What a point reads: its six inputs, the rows' scales spread over the lanes, the rows' multipliers and scales found from the tile before, and the
    tile before itself. -/
structure Goal where
  x1 : S1x1x256.Idx → EReal
  x2 : S256x1664.Idx → EReal
  x3 : S1664x4352.Idx → EReal
  x4 : S1x4352.Idx → EReal
  x5 : S256x4352.Idx → EReal
  x6 : S1x4352.Idx → EReal
  xs : S256x128.Idx → EReal
  s : S256x128.Idx → EReal
  y : S1x1x256.Idx → EReal
  told : S256x4352.Idx → EReal

variable (G : Goal)

/-- The lane of a column. -/
def laneOf (j : Fin 4352) : Fin 128 := ⟨j.val % 128, Nat.mod_lt _ (by decide)⟩

/-- The matrix product. -/
def dotv (p : S256x4352.Idx) : EReal := ∑ k : Fin 1664, G.x2 (ix2 (p 0) k) * G.x3 (ix2 k (p 1))

/-- The residual output. -/
def outv (p : S256x4352.Idx) : EReal := dotv G p * G.xs (ix2 (p 0) (laneOf (p 1))) * G.x4 (ix2 (0 : Fin 1) (p 1)) + G.x5 p

/-- Its product with gamma. -/
def tv (p : S256x4352.Idx) : EReal := outv G p * G.x6 (ix2 (0 : Fin 1) (p 1))

/-- The code of the tile before. -/
def codev (p : S256x4352.Idx) : EReal :=
  min (Ideal.ofBits .f32 0x43E00000#32) (max (Ideal.ofBits .f32 0xC3E00000#32) (G.told p * G.s (ix2 (p 0) (laneOf (p 1)))))

def sqAt (i j : Nat) : EReal := if h : i < 256 ∧ j < 4352 then outv G (ix2 ⟨i, h.1⟩ ⟨j, h.2⟩) * outv G (ix2 ⟨i, h.1⟩ ⟨j, h.2⟩) else 0

def mxAt (i j : Nat) : EReal := if h : i < 256 ∧ j < 4352 then absf (F := Ideal) (φ := .f32) (tv G) (ix2 ⟨i, h.1⟩ ⟨j, h.2⟩) else 0

/-- The sum of the squares over the first `n` blocks of lanes. -/
def sqv (n : Nat) (p : S256x128.Idx) : EReal := ∑ b ∈ Finset.range n, sqAt G (p 0).val (128 * b + (p 1).val)

/-- The largest magnitude over the first `n` blocks of lanes. -/
def mxv (n : Nat) (p : S256x128.Idx) : EReal := (Finset.range n).sup fun b => mxAt G (p 0).val (128 * b + (p 1).val)

/-- The arrays other than the two of the statistics when `nb i` blocks of lanes of row `i` are projected and `mq i` blocks of it are quantised. -/
structure Inv0 (nb mq : Nat → Nat) (st : St Ideal) : Prop where
  i1 : st.x1 = G.x1
  i2 : st.x2 = G.x2
  i3 : st.x3 = G.x3
  i4 : st.x4 = G.x4
  i5 : st.x5 = G.x5
  i6 : st.x6 = G.x6
  h14 : st.x14 = G.xs
  h13 : st.x13 = G.s
  h9 : st.x9 = G.y
  h7 : ∀ p, (p 1).val < 128 * nb (p 0).val → st.x7 p = outv G p
  h10 : ∀ p, (p 1).val < 128 * nb (p 0).val → st.x10 p = tv G p
  hold : ∀ p, 128 * nb (p 0).val ≤ (p 1).val → st.x10 p = G.told p
  h8 : ∀ p, (p 1).val < 128 * mq (p 0).val → st.x8 p = codev G p

/-- All the arrays then. -/
structure Inv (nb mq : Nat → Nat) (st : St Ideal) : Prop extends Inv0 G nb mq st where
  h11 : ∀ p, 0 < nb (p 0).val → st.x11 p = sqv G (nb (p 0).val) p
  h12 : ∀ p, 0 < nb (p 0).val → st.x12 p = mxv G (nb (p 0).val) p

variable {G}

/-! ## A block of lanes -/

theorem emb_rt {r k : Nat} {hr : r + 32 ≤ 256} {hk : k + 128 ≤ 4352} (i : Fin 32) (j : Fin 128) :
    (rt r k hr hk).emb (ix2 i j) = ix2 (⟨r + i.val, by omega⟩ : Fin 256) (⟨k + j.val, by omega⟩ : Fin 4352) := by
  funext a; apply Fin.ext
  match a with
  | ⟨0, _⟩ => simp [Rect.emb_apply]
  | ⟨1, _⟩ => simp [Rect.emb_apply]

theorem emb_rl {r : Nat} {hr : r + 32 ≤ 256} (i : Fin 32) (j : Fin 128) :
    (rl r hr).emb (ix2 i j) = ix2 (⟨r + i.val, by omega⟩ : Fin 256) j := by
  funext a; apply Fin.ext
  match a with
  | ⟨0, _⟩ => simp [Rect.emb_apply]
  | ⟨1, _⟩ => simp [Rect.emb_apply]

theorem emb_rr {k : Nat} {hk : k + 128 ≤ 4352} (i : Fin 1) (j : Fin 128) :
    (rr k hk).emb (ix2 i j) = ix2 i (⟨k + j.val, by omega⟩ : Fin 4352) := by
  funext a; apply Fin.ext
  match a with
  | ⟨0, _⟩ => simp [Rect.emb_apply]
  | ⟨1, _⟩ => simp [Rect.emb_apply]

theorem laneOf_mk {b : Nat} (j : Fin 128) (h : 128 * b + j.val < 4352) : laneOf ⟨128 * b + j.val, h⟩ = j := by
  apply Fin.ext
  simp only [laneOf]
  omega

theorem stO_val {st : St Ideal} {v32 xs : FVec Ideal S32x128 .f32} {r b : Nat} {hr : r + 32 ≤ 256} {hk : 128 * b + 128 ≤ 4352}
    (h4 : st.x4 = G.x4) (h5 : st.x5 = G.x5) (hv : ∀ i, v32 i = dotv G ((rt r (128 * b) hr hk).emb i)) (hx : ∀ i, xs i = G.xs ((rl r hr).emb i))
    (i : S32x128.Idx) : stO st v32 xs r (128 * b) hr hk i = outv G ((rt r (128 * b) hr hk).emb i) := by
  obtain ⟨i0, i1, rfl⟩ : ∃ (a : Fin 32) (c : Fin 128), i = ix2 a c := ⟨i 0, i 1, eq_ix2 i⟩
  unfold stO laneO
  rw [truncf_apply, addf_apply, mulf_apply, mulf_apply, extf_apply, broadcastTo_1b_ab_apply, shapeCast_self, shapeCast_self, hv, hx, h4, h5,
    emb_rt, emb_rl, emb_rr]
  unfold outv
  rw [show laneOf ((ix2 (⟨r + i0.val, by omega⟩ : Fin 256) (⟨128 * b + i1.val, by omega⟩ : Fin 4352) : S256x4352.Idx) 1) = i1 from laneOf_mk i1 _]

theorem stT_val {st : St Ideal} {v32 xs : FVec Ideal S32x128 .f32} {r b : Nat} {hr : r + 32 ≤ 256} {hk : 128 * b + 128 ≤ 4352}
    (h4 : st.x4 = G.x4) (h5 : st.x5 = G.x5) (h6 : st.x6 = G.x6) (hv : ∀ i, v32 i = dotv G ((rt r (128 * b) hr hk).emb i))
    (hx : ∀ i, xs i = G.xs ((rl r hr).emb i)) (i : S32x128.Idx) :
    stT st v32 xs r (128 * b) hr hk i = tv G ((rt r (128 * b) hr hk).emb i) := by
  unfold stT laneT
  rw [mulf_apply, extf_apply, stO_val h4 h5 hv hx]
  obtain ⟨i0, i1, rfl⟩ : ∃ (a : Fin 32) (c : Fin 128), i = ix2 a c := ⟨i 0, i 1, eq_ix2 i⟩
  rw [broadcastTo_1b_ab_apply, shapeCast_self, h6, emb_rr, emb_rt]
  rfl

/-- The rows of the strip at `r` set to `m`. -/
def upd (nb : Nat → Nat) (r m : Nat) (i : Nat) : Nat := if r ≤ i ∧ i < r + 32 then m else nb i

theorem Inv0.congr {nb mq nb' mq' : Nat → Nat} {st : St Ideal} (h : Inv0 G nb mq st) (hn : ∀ i < 256, nb i = nb' i) (hm : ∀ i < 256, mq i = mq' i) :
    Inv0 G nb' mq' st :=
  { h with
    h7 := fun p hp => h.h7 p (by rw [hn _ (idx2_lt0 p)]; exact hp)
    h10 := fun p hp => h.h10 p (by rw [hn _ (idx2_lt0 p)]; exact hp)
    hold := fun p hp => h.hold p (by rw [hn _ (idx2_lt0 p)]; exact hp)
    h8 := fun p hp => h.h8 p (by rw [hm _ (idx2_lt0 p)]; exact hp) }

theorem Inv.congr {nb mq nb' mq' : Nat → Nat} {st : St Ideal} (h : Inv G nb mq st) (hn : ∀ i < 256, nb i = nb' i) (hm : ∀ i < 256, mq i = mq' i) :
    Inv G nb' mq' st where
  toInv0 := h.toInv0.congr hn hm
  h11 := fun p hp => by rw [← hn _ (idx2_lt0 p)] at hp ⊢; exact h.h11 p hp
  h12 := fun p hp => by rw [← hn _ (idx2_lt0 p)] at hp ⊢; exact h.h12 p hp

theorem upd_lt {nb : Nat → Nat} {r n a b : Nat} (hb : ∀ i, r ≤ i → i < r + 32 → nb i = n) (hp : b < 128 * upd nb r (n + 1) a)
    (hc : ¬((r ≤ a ∧ a < r + 32) ∧ (128 * n ≤ b ∧ b < 128 * n + 128))) : b < 128 * nb a := by
  have := hb a
  unfold upd at hp
  split_ifs at hp with h <;> omega

theorem upd_le {nb : Nat → Nat} {r n a b : Nat} (hb : ∀ i, r ≤ i → i < r + 32 → nb i = n) (hp : 128 * upd nb r (n + 1) a ≤ b) :
    ¬((r ≤ a ∧ a < r + 32) ∧ (128 * n ≤ b ∧ b < 128 * n + 128)) ∧ 128 * nb a ≤ b := by
  have := hb a
  unfold upd at hp
  split_ifs at hp with h <;> omega

theorem laneS_x7 {st : St Ideal} {v32 xs : FVec Ideal S32x128 .f32} {r b : Nat} {hr : r + 32 ≤ 256} {hk : 128 * b + 128 ≤ 4352}
    (h4 : st.x4 = G.x4) (h5 : st.x5 = G.x5) (hv : ∀ i, v32 i = dotv G ((rt r (128 * b) hr hk).emb i)) (hx : ∀ i, xs i = G.xs ((rl r hr).emb i))
    (p : S256x4352.Idx) : (laneS st v32 xs r (128 * b) hr hk).x7 p
      = if (r ≤ (p 0).val ∧ (p 0).val < r + 32) ∧ (128 * b ≤ (p 1).val ∧ (p 1).val < 128 * b + 128) then outv G p else st.x7 p := by
  unfold laneS
  exact ov_t st.x7 (stO st v32 xs r (128 * b) hr hk) (outv G) (stO_val h4 h5 hv hx) p

theorem laneS_x10 {st : St Ideal} {v32 xs : FVec Ideal S32x128 .f32} {r b : Nat} {hr : r + 32 ≤ 256} {hk : 128 * b + 128 ≤ 4352}
    (h4 : st.x4 = G.x4) (h5 : st.x5 = G.x5) (h6 : st.x6 = G.x6) (hv : ∀ i, v32 i = dotv G ((rt r (128 * b) hr hk).emb i))
    (hx : ∀ i, xs i = G.xs ((rl r hr).emb i)) (p : S256x4352.Idx) : (laneS st v32 xs r (128 * b) hr hk).x10 p
      = if (r ≤ (p 0).val ∧ (p 0).val < r + 32) ∧ (128 * b ≤ (p 1).val ∧ (p 1).val < 128 * b + 128) then tv G p else st.x10 p := by
  unfold laneS
  rw [shapeCast_self]
  exact ov_t st.x10 (stT st v32 xs r (128 * b) hr hk) (tv G) (stT_val h4 h5 h6 hv hx) p

theorem laneS_x11 {st : St Ideal} {v32 xs : FVec Ideal S32x128 .f32} {r k : Nat} {hr : r + 32 ≤ 256} {hk : k + 128 ≤ 4352} :
    (laneS st v32 xs r k hr hk).x11 = st.x11 := rfl

theorem laneS_x12 {st : St Ideal} {v32 xs : FVec Ideal S32x128 .f32} {r k : Nat} {hr : r + 32 ≤ 256} {hk : k + 128 ≤ 4352} :
    (laneS st v32 xs r k hr hk).x12 = st.x12 := rfl

theorem Inv0.lane {nb mq : Nat → Nat} {st : St Ideal} (h : Inv0 G nb mq st) {v32 xs : FVec Ideal S32x128 .f32} {r b : Nat} {hr : r + 32 ≤ 256}
    {hk : 128 * b + 128 ≤ 4352} (hb : ∀ i, r ≤ i → i < r + 32 → nb i = b) (hv : ∀ i, v32 i = dotv G ((rt r (128 * b) hr hk).emb i))
    (hx : ∀ i, xs i = G.xs ((rl r hr).emb i)) : Inv0 G (upd nb r (b + 1)) mq (laneS st v32 xs r (128 * b) hr hk) where
  i1 := h.i1
  i2 := h.i2
  i3 := h.i3
  i4 := h.i4
  i5 := h.i5
  i6 := h.i6
  h14 := h.h14
  h13 := h.h13
  h9 := h.h9
  h7 p hp := by
    rw [laneS_x7 h.i4 h.i5 hv hx]
    split
    · rfl
    · next c => exact h.h7 p (upd_lt hb hp c)
  h10 p hp := by
    rw [laneS_x10 h.i4 h.i5 h.i6 hv hx]
    split
    · rfl
    · next c => exact h.h10 p (upd_lt hb hp c)
  hold p hp := by
    rw [laneS_x10 h.i4 h.i5 h.i6 hv hx, if_neg (upd_le hb hp).1]
    exact h.hold p (upd_le hb hp).2
  h8 := h.h8

theorem Inv0.stats {nb mq : Nat → Nat} {st : St Ideal} (h : Inv0 G nb mq st) (a b : Vec Ideal S256x128 .f32) : Inv0 G nb mq { st with x11 := a, x12 := b } :=
  ⟨h.i1, h.i2, h.i3, h.i4, h.i5, h.i6, h.h14, h.h13, h.h9, h.h7, h.h10, h.hold, h.h8⟩

theorem qlane_val {st : St Ideal} {s : FVec Ideal S32x128 .f32} {r b : Nat} {hr : r + 32 ≤ 256} {hk : 128 * b + 128 ≤ 4352}
    (ht : ∀ i, st.x10 ((rt r (128 * b) hr hk).emb i) = G.told ((rt r (128 * b) hr hk).emb i)) (hs : ∀ i, s i = G.s ((rl r hr).emb i)) (i : S32x128.Idx) :
    qV (fun i => st.x10 ((rt r (128 * b) hr hk).emb i)) s i = codev G ((rt r (128 * b) hr hk).emb i) := by
  unfold qV
  rw [truncf_apply, minimumf_apply, maximumf_apply, mulf_apply, ht, hs]
  obtain ⟨i0, i1, rfl⟩ : ∃ (a : Fin 32) (c : Fin 128), i = ix2 a c := ⟨i 0, i 1, eq_ix2 i⟩
  rw [emb_rt, emb_rl]
  unfold codev
  rw [show laneOf ((ix2 (⟨r + i0.val, by omega⟩ : Fin 256) (⟨128 * b + i1.val, by omega⟩ : Fin 4352) : S256x4352.Idx) 1) = i1 from laneOf_mk i1 _]
  rfl

theorem Inv.qlane {nb mq : Nat → Nat} {st : St Ideal} (h : Inv G nb mq st) {s : FVec Ideal S32x128 .f32} {r b : Nat} {hr : r + 32 ≤ 256}
    {hk : 128 * b + 128 ≤ 4352} (hb : ∀ i, r ≤ i → i < r + 32 → mq i = b) (hnb : ∀ i, r ≤ i → i < r + 32 → nb i ≤ b)
    (hs : ∀ i, s i = G.s ((rl r hr).emb i)) : Inv G nb (upd mq r (b + 1)) (qlaneS st s r (128 * b) hr hk) := by
  have e8 : ∀ p, (qlaneS st s r (128 * b) hr hk).x8 p
      = if (r ≤ (p 0).val ∧ (p 0).val < r + 32) ∧ (128 * b ≤ (p 1).val ∧ (p 1).val < 128 * b + 128) then codev G p else st.x8 p := fun p => by
    unfold qlaneS
    refine ov_t st.x8 _ (codev G) (qlane_val (fun i => h.hold _ ?_) hs) p
    obtain ⟨i0, i1, rfl⟩ : ∃ (a : Fin 32) (c : Fin 128), i = ix2 a c := ⟨i 0, i 1, eq_ix2 i⟩
    rw [emb_rt]
    have := hnb (r + i0.val) (by omega) (by omega)
    show 128 * nb (r + i0.val) ≤ 128 * b + i1.val
    omega
  refine ⟨⟨h.i1, h.i2, h.i3, h.i4, h.i5, h.i6, h.h14, h.h13, h.h9, h.h7, h.h10, h.hold, fun p hp => ?_⟩, h.h11, h.h12⟩
  rw [e8]
  split
  · rfl
  · next c => exact h.h8 p (upd_lt hb hp c)

/-! ## The statistics of a strip -/

theorem laneQ_val {st : St Ideal} {v32 xs : FVec Ideal S32x128 .f32} {r b : Nat} {hr : r + 32 ≤ 256} {hk : 128 * b + 128 ≤ 4352}
    (h4 : st.x4 = G.x4) (h5 : st.x5 = G.x5) (hv : ∀ i, v32 i = dotv G ((rt r (128 * b) hr hk).emb i)) (hx : ∀ i, xs i = G.xs ((rl r hr).emb i))
    (i0 : Fin 32) (i1 : Fin 128) : laneQ (stO st v32 xs r (128 * b) hr hk) (ix2 i0 i1) = sqAt G (r + i0.val) (128 * b + i1.val) := by
  unfold laneQ sqAt
  rw [mulf_apply, extf_apply, stO_val h4 h5 hv hx, emb_rt, dif_pos ⟨by omega, by omega⟩]

theorem absT_val {st : St Ideal} {v32 xs : FVec Ideal S32x128 .f32} {r b : Nat} {hr : r + 32 ≤ 256} {hk : 128 * b + 128 ≤ 4352}
    (h4 : st.x4 = G.x4) (h5 : st.x5 = G.x5) (h6 : st.x6 = G.x6) (hv : ∀ i, v32 i = dotv G ((rt r (128 * b) hr hk).emb i))
    (hx : ∀ i, xs i = G.xs ((rl r hr).emb i)) (i0 : Fin 32) (i1 : Fin 128) :
    absf (stT st v32 xs r (128 * b) hr hk) (ix2 i0 i1) = mxAt G (r + i0.val) (128 * b + i1.val) := by
  unfold mxAt
  rw [dif_pos ⟨by omega, by omega⟩]
  have := stT_val h4 h5 h6 hv hx (ix2 i0 i1)
  rw [emb_rt] at this
  exact congrArg (FloatOps.absf (F := Ideal) (φ := .f32)) this

theorem upd_upd (nb : Nat → Nat) (r a b : Nat) : upd (upd nb r a) r b = upd nb r b := by
  funext i
  unfold upd
  split_ifs <;> rfl

theorem upd_in (nb : Nat → Nat) (r a : Nat) : ∀ i, r ≤ i → i < r + 32 → upd nb r a i = a := fun i h1 h2 => if_pos ⟨h1, h2⟩

theorem slice_val {c : Nat} {acc : FVec Ideal ⟨2, ![256, c]⟩ .f32} {n : Nat} {r o b : Nat} {hr : r + 32 ≤ 256} {hk : 128 * b + 128 ≤ 4352} (hc : 128 * n + c ≤ 4352)
    (hacc : ∀ (i : Fin 256) (j : Fin c), acc (ix2 i j) = dotv G (ix2 i (⟨128 * n + j.val, by omega⟩ : Fin 4352))) (ho : o + 128 ≤ c) (hb : 128 * n + o = 128 * b)
    (h : (⟨2, ![256, c]⟩ : Shape).Slices ![r, o] S32x128) (i : S32x128.Idx) :
    extractStridedSlice S32x128 ![r, o] acc h i = dotv G ((rt r (128 * b) hr hk).emb i) := by
  obtain ⟨i0, i1, rfl⟩ : ∃ (a : Fin 32) (c : Fin 128), i = ix2 a c := ⟨i 0, i 1, eq_ix2 i⟩
  rw [extractStridedSlice_apply _ _ _ _ (ix2 (⟨r + i0.val, by omega⟩ : Fin 256) (⟨o + i1.val, by omega⟩ : Fin c)) (fun a => match a with | ⟨0, _⟩ => rfl | ⟨1, _⟩ => rfl),
    hacc, emb_rt]
  congr 3
  simp only [Fin.mk.injEq]
  omega

end Cert.KernelIdeal.Gen
-- ==== Proof.IdealStrip.lean ====
/- A strip of the kernel over the extended reals. -/
module

public import proofs.«01_k».proof.Proof.IdealTile
public import Idealize.ShloMosaic.Lib.ValueIdx
public import Idealize.ShloMosaic.Lib.ValueLayout
public import Idealize.ShloMosaic.Lib.ValueLayoutCasts
public import Idealize.ShloMosaic.Lib.MatmulPlain

@[expose] public section

noncomputable section

namespace Cert.KernelIdeal.Gen

open Idealize.ShloMosaic Idealize.ShloMosaic.TcCoe Idealize.ShloMosaic.ValueIdx
open Facts₀

variable {G : Goal}

section
attribute [local irreducible] laneS stO stT laneQ

theorem sum_lanes {q0 q1 q2 q3 : FVec Ideal S32x128 .f32} {R n : Nat} {hR : R < 256} {i0 : Fin 32} {i1 : Fin 128} {z : EReal}
    (h0 : q0 (ix2 i0 i1) = sqAt G R (128 * n + i1.val)) (h1 : q1 (ix2 i0 i1) = sqAt G R (128 * (n + 1) + i1.val))
    (h2 : q2 (ix2 i0 i1) = sqAt G R (128 * (n + 2) + i1.val)) (h3 : q3 (ix2 i0 i1) = sqAt G R (128 * (n + 3) + i1.val))
    (old : sqv G n (ix2 (⟨R, hR⟩ : Fin 256) i1) = z) :
    (addf (addf (addf q0 q1) q2) q3) (ix2 i0 i1) + z = sqv G (n + 4) (ix2 (⟨R, hR⟩ : Fin 256) i1) := by
  rw [addf_apply, addf_apply, addf_apply, h0, h1, h2, h3, ← old]
  simp only [sqv, Finset.sum_range_succ]
  rw [add_comm, ← add_assoc, ← add_assoc, ← add_assoc]

theorem sum_lanes2 {q0 q1 : FVec Ideal S32x128 .f32} {R n : Nat} {hR : R < 256} {i0 : Fin 32} {i1 : Fin 128} {z : EReal}
    (h0 : q0 (ix2 i0 i1) = sqAt G R (128 * n + i1.val)) (h1 : q1 (ix2 i0 i1) = sqAt G R (128 * (n + 1) + i1.val))
    (old : sqv G n (ix2 (⟨R, hR⟩ : Fin 256) i1) = z) :
    (addf q0 q1) (ix2 i0 i1) + z = sqv G (n + 2) (ix2 (⟨R, hR⟩ : Fin 256) i1) := by
  rw [addf_apply, h0, h1, ← old]
  simp only [sqv, Finset.sum_range_succ]
  rw [add_comm, ← add_assoc]

theorem max_lanes {q0 q1 q2 q3 : FVec Ideal S32x128 .f32} {R n : Nat} {hR : R < 256} {i0 : Fin 32} {i1 : Fin 128} {z : EReal}
    (h0 : q0 (ix2 i0 i1) = mxAt G R (128 * n + i1.val)) (h1 : q1 (ix2 i0 i1) = mxAt G R (128 * (n + 1) + i1.val))
    (h2 : q2 (ix2 i0 i1) = mxAt G R (128 * (n + 2) + i1.val)) (h3 : q3 (ix2 i0 i1) = mxAt G R (128 * (n + 3) + i1.val))
    (old : mxv G n (ix2 (⟨R, hR⟩ : Fin 256) i1) = z) :
    max ((maximumf (maximumf (maximumf q0 q1) q2) q3) (ix2 i0 i1)) z = mxv G (n + 4) (ix2 (⟨R, hR⟩ : Fin 256) i1) := by
  rw [maximumf_apply, maximumf_apply, maximumf_apply, h0, h1, h2, h3, ← old]
  simp only [mxv, Finset.range_add_one, Finset.sup_insert]
  show max (max (max (max (mxAt G R _) (mxAt G R _)) (mxAt G R _)) (mxAt G R _)) _ = max (mxAt G R _) (max (mxAt G R _) (max (mxAt G R _) (max (mxAt G R _) _)))
  generalize mxAt G R (128 * n + i1.val) = a0
  generalize mxAt G R (128 * (n + 1) + i1.val) = a1
  generalize mxAt G R (128 * (n + 2) + i1.val) = a2
  generalize mxAt G R (128 * (n + 3) + i1.val) = a3
  rw [max_comm (max (max a0 a1) a2) a3, max_comm (max a0 a1) a2, max_comm a0 a1]
  simp only [max_assoc]

theorem max_lanes2 {q0 q1 : FVec Ideal S32x128 .f32} {R n : Nat} {hR : R < 256} {i0 : Fin 32} {i1 : Fin 128} {z : EReal}
    (h0 : q0 (ix2 i0 i1) = mxAt G R (128 * n + i1.val)) (h1 : q1 (ix2 i0 i1) = mxAt G R (128 * (n + 1) + i1.val))
    (old : mxv G n (ix2 (⟨R, hR⟩ : Fin 256) i1) = z) :
    max ((maximumf q0 q1) (ix2 i0 i1)) z = mxv G (n + 2) (ix2 (⟨R, hR⟩ : Fin 256) i1) := by
  rw [maximumf_apply, h0, h1, ← old]
  simp only [mxv, Finset.range_add_one, Finset.sup_insert]
  show max (max (mxAt G R _) (mxAt G R _)) _ = max (mxAt G R _) (max (mxAt G R _) _)
  rw [max_comm (mxAt G R (128 * n + i1.val)), max_assoc]

set_option maxHeartbeats 1000000 in
theorem Inv.stripF {nb mq : Nat → Nat} {st : St Ideal} (h : Inv G nb mq st) {acc : FVec Ideal S256x512 .f32} {n r k0 k1 k2 k3 : Nat} {hr : r + 32 ≤ 256} {hk0 : k0 + 128 ≤ 4352} {hk1 : k1 + 128 ≤ 4352} {hk2 : k2 + 128 ≤ 4352} {hk3 : k3 + 128 ≤ 4352}
    (hc : 128 * n + 512 ≤ 4352) (hacc : ∀ (i : Fin 256) (j : Fin 512), acc (ix2 i j) = dotv G (ix2 i (⟨128 * n + j.val, by omega⟩ : Fin 4352)))
    (hb : ∀ i, r ≤ i → i < r + 32 → nb i = n) (hn : n = 0) (e0 : k0 = 128 * n) (e1 : k1 = 128 * (n + 1)) (e2 : k2 = 128 * (n + 2)) (e3 : k3 = 128 * (n + 3)) :
    Inv G (upd nb r (n + 4)) mq (stripFS st acc r k0 k1 k2 k3 hr hk0 hk1 hk2 hk3) := by
  subst e0 e1 e2 e3
  have hx : ∀ i, (fun i => st.x14 ((rl r hr).emb i)) i = G.xs ((rl r hr).emb i) := fun i => by rw [← h.h14]
  have v0 : ∀ i, extractStridedSlice S32x128 ![r, 0] acc (sl5 hr (by decide)) i = dotv G ((rt r (128 * n) hr hk0).emb i) :=
    slice_val hc hacc (by decide) (by omega) _
  have v1 : ∀ i, extractStridedSlice S32x128 ![r, 128] acc (sl5 hr (by decide)) i = dotv G ((rt r (128 * (n + 1)) hr hk1).emb i) :=
    slice_val hc hacc (by decide) (by omega) _
  have v2 : ∀ i, extractStridedSlice S32x128 ![r, 256] acc (sl5 hr (by decide)) i = dotv G ((rt r (128 * (n + 2)) hr hk2).emb i) :=
    slice_val hc hacc (by decide) (by omega) _
  have v3 : ∀ i, extractStridedSlice S32x128 ![r, 384] acc (sl5 hr (by decide)) i = dotv G ((rt r (128 * (n + 3)) hr hk3).emb i) :=
    slice_val hc hacc (by decide) (by omega) _
  have s1 := Inv0.lane (hk := hk0) h.toInv0 hb v0 hx
  have s2 := Inv0.lane (hk := hk1) s1 (upd_in _ _ _) v1 hx
  rw [upd_upd] at s2
  have s3 := Inv0.lane (hk := hk2) s2 (upd_in _ _ _) v2 hx
  rw [upd_upd] at s3
  have s4 := Inv0.lane (hk := hk3) s3 (upd_in _ _ _) v3 hx
  rw [upd_upd] at s4
  have old11 : ∀ p : S256x128.Idx, r ≤ (p 0).val ∧ (p 0).val < r + 32 → sqv G n p = 0 := fun p hp => by
    subst hn; rfl
  have old12 : ∀ p : S256x128.Idx, r ≤ (p 0).val ∧ (p 0).val < r + 32 → mxv G n p = ⊥ := fun p hp => by
    subst hn; rfl
  have e11 : ∀ p, (stripFS st acc r (128 * n) (128 * (n + 1)) (128 * (n + 2)) (128 * (n + 3)) hr hk0 hk1 hk2 hk3).x11 p
      = if r ≤ (p 0).val ∧ (p 0).val < r + 32 then sqv G (n + 4) p else st.x11 p := fun p => by
    unfold stripFS
    simp only [laneS_x11, shapeCast_self]
    refine ov_l st.x11 _ (sqv G (n + 4)) (fun i => ?_) p
    obtain ⟨i0, i1, rfl⟩ : ∃ (a : Fin 32) (c : Fin 128), i = ix2 a c := ⟨i 0, i 1, eq_ix2 i⟩
    have old := old11 (ix2 (⟨r + i0.val, by omega⟩ : Fin 256) i1) ⟨Nat.le_add_right _ _, Nat.add_lt_add_left i0.isLt _⟩

    rw [emb_rl]
    refine (add_zero _).symm.trans ?_
    exact sum_lanes (laneQ_val h.toInv0.i4 h.toInv0.i5 v0 hx i0 i1) (laneQ_val s1.i4 s1.i5 v1 hx i0 i1) (laneQ_val s2.i4 s2.i5 v2 hx i0 i1) (laneQ_val s3.i4 s3.i5 v3 hx i0 i1) old
  have e12 : ∀ p, (stripFS st acc r (128 * n) (128 * (n + 1)) (128 * (n + 2)) (128 * (n + 3)) hr hk0 hk1 hk2 hk3).x12 p
      = if r ≤ (p 0).val ∧ (p 0).val < r + 32 then mxv G (n + 4) p else st.x12 p := fun p => by
    unfold stripFS
    simp only [laneS_x12, shapeCast_self]
    refine ov_l st.x12 _ (mxv G (n + 4)) (fun i => ?_) p
    obtain ⟨i0, i1, rfl⟩ : ∃ (a : Fin 32) (c : Fin 128), i = ix2 a c := ⟨i 0, i 1, eq_ix2 i⟩
    have old := old12 (ix2 (⟨r + i0.val, by omega⟩ : Fin 256) i1) ⟨Nat.le_add_right _ _, Nat.add_lt_add_left i0.isLt _⟩

    rw [emb_rl]
    refine (sup_bot_eq _).symm.trans ?_
    exact max_lanes (absT_val h.toInv0.i4 h.toInv0.i5 h.toInv0.i6 v0 hx i0 i1) (absT_val s1.i4 s1.i5 s1.i6 v1 hx i0 i1) (absT_val s2.i4 s2.i5 s2.i6 v2 hx i0 i1) (absT_val s3.i4 s3.i5 s3.i6 v3 hx i0 i1) old
  refine ⟨by unfold stripFS; exact s4.stats _ _, fun p hp => ?_, fun p hp => ?_⟩
  · rw [e11]
    unfold upd at hp ⊢
    split
    · rfl
    · next c => rw [if_neg c] at hp; exact h.h11 p hp
  · rw [e12]
    unfold upd at hp ⊢
    split
    · rfl
    · next c => rw [if_neg c] at hp; exact h.h12 p hp

set_option maxHeartbeats 1000000 in
theorem Inv.stripM {nb mq : Nat → Nat} {st : St Ideal} (h : Inv G nb mq st) {acc : FVec Ideal S256x512 .f32} {n r k0 k1 k2 k3 : Nat} {hr : r + 32 ≤ 256} {hk0 : k0 + 128 ≤ 4352} {hk1 : k1 + 128 ≤ 4352} {hk2 : k2 + 128 ≤ 4352} {hk3 : k3 + 128 ≤ 4352}
    (hc : 128 * n + 512 ≤ 4352) (hacc : ∀ (i : Fin 256) (j : Fin 512), acc (ix2 i j) = dotv G (ix2 i (⟨128 * n + j.val, by omega⟩ : Fin 4352)))
    (hb : ∀ i, r ≤ i → i < r + 32 → nb i = n) (hn : 0 < n) (e0 : k0 = 128 * n) (e1 : k1 = 128 * (n + 1)) (e2 : k2 = 128 * (n + 2)) (e3 : k3 = 128 * (n + 3)) :
    Inv G (upd nb r (n + 4)) mq (stripMS st acc r k0 k1 k2 k3 hr hk0 hk1 hk2 hk3) := by
  subst e0 e1 e2 e3
  have hx : ∀ i, (fun i => st.x14 ((rl r hr).emb i)) i = G.xs ((rl r hr).emb i) := fun i => by rw [← h.h14]
  have v0 : ∀ i, extractStridedSlice S32x128 ![r, 0] acc (sl5 hr (by decide)) i = dotv G ((rt r (128 * n) hr hk0).emb i) :=
    slice_val hc hacc (by decide) (by omega) _
  have v1 : ∀ i, extractStridedSlice S32x128 ![r, 128] acc (sl5 hr (by decide)) i = dotv G ((rt r (128 * (n + 1)) hr hk1).emb i) :=
    slice_val hc hacc (by decide) (by omega) _
  have v2 : ∀ i, extractStridedSlice S32x128 ![r, 256] acc (sl5 hr (by decide)) i = dotv G ((rt r (128 * (n + 2)) hr hk2).emb i) :=
    slice_val hc hacc (by decide) (by omega) _
  have v3 : ∀ i, extractStridedSlice S32x128 ![r, 384] acc (sl5 hr (by decide)) i = dotv G ((rt r (128 * (n + 3)) hr hk3).emb i) :=
    slice_val hc hacc (by decide) (by omega) _
  have s1 := Inv0.lane (hk := hk0) h.toInv0 hb v0 hx
  have s2 := Inv0.lane (hk := hk1) s1 (upd_in _ _ _) v1 hx
  rw [upd_upd] at s2
  have s3 := Inv0.lane (hk := hk2) s2 (upd_in _ _ _) v2 hx
  rw [upd_upd] at s3
  have s4 := Inv0.lane (hk := hk3) s3 (upd_in _ _ _) v3 hx
  rw [upd_upd] at s4
  have old11 : ∀ p : S256x128.Idx, r ≤ (p 0).val ∧ (p 0).val < r + 32 → sqv G n p = st.x11 p := fun p hp => by
    have e := hb _ hp.1 hp.2; have q := h.h11 p (by omega); rw [e] at q; exact q.symm
  have old12 : ∀ p : S256x128.Idx, r ≤ (p 0).val ∧ (p 0).val < r + 32 → mxv G n p = st.x12 p := fun p hp => by
    have e := hb _ hp.1 hp.2; have q := h.h12 p (by omega); rw [e] at q; exact q.symm
  have e11 : ∀ p, (stripMS st acc r (128 * n) (128 * (n + 1)) (128 * (n + 2)) (128 * (n + 3)) hr hk0 hk1 hk2 hk3).x11 p
      = if r ≤ (p 0).val ∧ (p 0).val < r + 32 then sqv G (n + 4) p else st.x11 p := fun p => by
    unfold stripMS
    simp only [laneS_x11, shapeCast_self]
    refine ov_l st.x11 _ (sqv G (n + 4)) (fun i => ?_) p
    obtain ⟨i0, i1, rfl⟩ : ∃ (a : Fin 32) (c : Fin 128), i = ix2 a c := ⟨i 0, i 1, eq_ix2 i⟩
    have old := old11 (ix2 (⟨r + i0.val, by omega⟩ : Fin 256) i1) ⟨Nat.le_add_right _ _, Nat.add_lt_add_left i0.isLt _⟩
    rw [addf_apply]
    rw [emb_rl]

    exact sum_lanes (laneQ_val h.toInv0.i4 h.toInv0.i5 v0 hx i0 i1) (laneQ_val s1.i4 s1.i5 v1 hx i0 i1) (laneQ_val s2.i4 s2.i5 v2 hx i0 i1) (laneQ_val s3.i4 s3.i5 v3 hx i0 i1) old
  have e12 : ∀ p, (stripMS st acc r (128 * n) (128 * (n + 1)) (128 * (n + 2)) (128 * (n + 3)) hr hk0 hk1 hk2 hk3).x12 p
      = if r ≤ (p 0).val ∧ (p 0).val < r + 32 then mxv G (n + 4) p else st.x12 p := fun p => by
    unfold stripMS
    simp only [laneS_x12, shapeCast_self]
    refine ov_l st.x12 _ (mxv G (n + 4)) (fun i => ?_) p
    obtain ⟨i0, i1, rfl⟩ : ∃ (a : Fin 32) (c : Fin 128), i = ix2 a c := ⟨i 0, i 1, eq_ix2 i⟩
    have old := old12 (ix2 (⟨r + i0.val, by omega⟩ : Fin 256) i1) ⟨Nat.le_add_right _ _, Nat.add_lt_add_left i0.isLt _⟩
    rw [maximumf_apply]
    rw [emb_rl]

    exact max_lanes (absT_val h.toInv0.i4 h.toInv0.i5 h.toInv0.i6 v0 hx i0 i1) (absT_val s1.i4 s1.i5 s1.i6 v1 hx i0 i1) (absT_val s2.i4 s2.i5 s2.i6 v2 hx i0 i1) (absT_val s3.i4 s3.i5 s3.i6 v3 hx i0 i1) old
  refine ⟨by unfold stripMS; exact s4.stats _ _, fun p hp => ?_, fun p hp => ?_⟩
  · rw [e11]
    unfold upd at hp ⊢
    split
    · rfl
    · next c => rw [if_neg c] at hp; exact h.h11 p hp
  · rw [e12]
    unfold upd at hp ⊢
    split
    · rfl
    · next c => rw [if_neg c] at hp; exact h.h12 p hp

set_option maxHeartbeats 1000000 in
theorem Inv.stripL {nb mq : Nat → Nat} {st : St Ideal} (h : Inv G nb mq st) {acc : FVec Ideal S256x256 .f32} {n r k0 k1 : Nat} {hr : r + 32 ≤ 256} {hk0 : k0 + 128 ≤ 4352} {hk1 : k1 + 128 ≤ 4352}
    (hc : 128 * n + 256 ≤ 4352) (hacc : ∀ (i : Fin 256) (j : Fin 256), acc (ix2 i j) = dotv G (ix2 i (⟨128 * n + j.val, by omega⟩ : Fin 4352)))
    (hb : ∀ i, r ≤ i → i < r + 32 → nb i = n) (hn : 0 < n) (e0 : k0 = 128 * n) (e1 : k1 = 128 * (n + 1)) :
    Inv G (upd nb r (n + 2)) mq (stripLS st acc r k0 k1 hr hk0 hk1) := by
  subst e0 e1
  have hx : ∀ i, (fun i => st.x14 ((rl r hr).emb i)) i = G.xs ((rl r hr).emb i) := fun i => by rw [← h.h14]
  have v0 : ∀ i, extractStridedSlice S32x128 ![r, 0] acc (sl2 hr (by decide)) i = dotv G ((rt r (128 * n) hr hk0).emb i) :=
    slice_val hc hacc (by decide) (by omega) _
  have v1 : ∀ i, extractStridedSlice S32x128 ![r, 128] acc (sl2 hr (by decide)) i = dotv G ((rt r (128 * (n + 1)) hr hk1).emb i) :=
    slice_val hc hacc (by decide) (by omega) _
  have s1 := Inv0.lane (hk := hk0) h.toInv0 hb v0 hx
  have s2 := Inv0.lane (hk := hk1) s1 (upd_in _ _ _) v1 hx
  rw [upd_upd] at s2
  have old11 : ∀ p : S256x128.Idx, r ≤ (p 0).val ∧ (p 0).val < r + 32 → sqv G n p = st.x11 p := fun p hp => by
    have e := hb _ hp.1 hp.2; have q := h.h11 p (by omega); rw [e] at q; exact q.symm
  have old12 : ∀ p : S256x128.Idx, r ≤ (p 0).val ∧ (p 0).val < r + 32 → mxv G n p = st.x12 p := fun p hp => by
    have e := hb _ hp.1 hp.2; have q := h.h12 p (by omega); rw [e] at q; exact q.symm
  have e11 : ∀ p, (stripLS st acc r (128 * n) (128 * (n + 1)) hr hk0 hk1).x11 p
      = if r ≤ (p 0).val ∧ (p 0).val < r + 32 then sqv G (n + 2) p else st.x11 p := fun p => by
    unfold stripLS
    simp only [laneS_x11, shapeCast_self]
    refine ov_l st.x11 _ (sqv G (n + 2)) (fun i => ?_) p
    obtain ⟨i0, i1, rfl⟩ : ∃ (a : Fin 32) (c : Fin 128), i = ix2 a c := ⟨i 0, i 1, eq_ix2 i⟩
    have old := old11 (ix2 (⟨r + i0.val, by omega⟩ : Fin 256) i1) ⟨Nat.le_add_right _ _, Nat.add_lt_add_left i0.isLt _⟩
    rw [addf_apply]
    rw [emb_rl]

    exact sum_lanes2 (laneQ_val h.toInv0.i4 h.toInv0.i5 v0 hx i0 i1) (laneQ_val s1.i4 s1.i5 v1 hx i0 i1) old
  have e12 : ∀ p, (stripLS st acc r (128 * n) (128 * (n + 1)) hr hk0 hk1).x12 p
      = if r ≤ (p 0).val ∧ (p 0).val < r + 32 then mxv G (n + 2) p else st.x12 p := fun p => by
    unfold stripLS
    simp only [laneS_x12, shapeCast_self]
    refine ov_l st.x12 _ (mxv G (n + 2)) (fun i => ?_) p
    obtain ⟨i0, i1, rfl⟩ : ∃ (a : Fin 32) (c : Fin 128), i = ix2 a c := ⟨i 0, i 1, eq_ix2 i⟩
    have old := old12 (ix2 (⟨r + i0.val, by omega⟩ : Fin 256) i1) ⟨Nat.le_add_right _ _, Nat.add_lt_add_left i0.isLt _⟩
    rw [maximumf_apply]
    rw [emb_rl]

    exact max_lanes2 (absT_val h.toInv0.i4 h.toInv0.i5 h.toInv0.i6 v0 hx i0 i1) (absT_val s1.i4 s1.i5 s1.i6 v1 hx i0 i1) old
  refine ⟨by unfold stripLS; exact s2.stats _ _, fun p hp => ?_, fun p hp => ?_⟩
  · rw [e11]
    unfold upd at hp ⊢
    split
    · rfl
    · next c => rw [if_neg c] at hp; exact h.h11 p hp
  · rw [e12]
    unfold upd at hp ⊢
    split
    · rfl
    · next c => rw [if_neg c] at hp; exact h.h12 p hp

end

end Cert.KernelIdeal.Gen
-- ==== Proof.IdealProj.lean ====
/- Exact arithmetic: what a whole projection step and a whole quantisation step leave, and the three branches, in closed form. -/
module

public import proofs.«01_k».proof.Proof.IdealStrip
public import Idealize.ShloMosaic.Lib.MatmulPlain

@[expose] public section

noncomputable section

namespace Cert.KernelIdeal.Gen

open Idealize.ShloMosaic Idealize.ShloMosaic.TcCoe Idealize.ShloMosaic.ValueIdx
open Facts₀

variable {G : Goal}

/-- `m` in the rows below `q`, `n` in the others. -/
def rows (n m q : Nat) (i : Nat) : Nat := if i < q then m else n

theorem rows_in (n m r : Nat) : ∀ i, r ≤ i → i < r + 32 → rows n m r i = n := fun i h _ => if_neg (by omega)

theorem upd_rows (n m r : Nat) (i : Nat) : upd (rows n m r) r m i = rows n m (r + 32) i := by
  unfold upd rows
  split_ifs <;> first | rfl | omega

theorem rows_zero (n m : Nat) (i : Nat) : n = rows n m 0 i := (if_neg (Nat.not_lt_zero i)).symm

theorem rows_all (n m : Nat) (i : Nat) (h : i < 256) : rows n m 256 i = m := if_pos h

/-! ## The projection -/

theorem projMA_val {st : St Ideal} {n k0 : Nat} {hc : k0 + 512 ≤ 4352} (h2 : st.x2 = G.x2) (h3 : st.x3 = G.x3) (e : k0 = 128 * n) (hn : 128 * n + 512 ≤ 4352)
    (i : Fin 256) (j : Fin 512) : projMA st k0 hc (ix2 i j) = dotv G (ix2 i (⟨128 * n + j.val, by omega⟩ : Fin 4352)) := by
  subst e
  unfold projMA dotv
  refine (Ideal.matmul_plain_apply none _ _ _ i j).trans ?_
  rw [constant_apply]
  refine (congrArg₂ (· + ·) (show (FloatOps.ofBits (F := Ideal) .f32 0x00000000#32 : EReal) = 0 from Ideal.ofBits_zero_f32) (Finset.sum_congr rfl fun k _ => ?_)).trans (zero_add _)
  have hx : ∀ p : S256x1664.Idx, (Rect.unit (s := S256x1664) ![0, 0] S256x1664.size inb_S256x1664_S256x1664_0_0).emb p = p := fun p => by
    funext a; apply Fin.ext
    match a with
    | ⟨0, _⟩ => simp [Rect.emb_apply]
    | ⟨1, _⟩ => simp [Rect.emb_apply]
  have hw : (Rect.unit (s := S1664x4352) ![0, 128 * n] S1664x512.size (inb_w hc)).emb (ix2 k j) = ix2 k (⟨128 * n + j.val, by omega⟩ : Fin 4352) := by
    funext a; apply Fin.ext
    match a with
    | ⟨0, _⟩ => simp [Rect.emb_apply]
    | ⟨1, _⟩ => simp [Rect.emb_apply]
  refine congrArg₂ (· * ·) ((congrFun (shapeCast_self _ _) _).trans ?_) ?_
  · show st.x2 _ = _
    rw [hx, h2]
  · show st.x3 _ = _
    rw [hw, h3]

theorem projFA_val {st : St Ideal} (h2 : st.x2 = G.x2) (h3 : st.x3 = G.x3) (i : Fin 256) (j : Fin 512) :
    projFA st (ix2 i j) = dotv G (ix2 i (⟨128 * 0 + j.val, by omega⟩ : Fin 4352)) :=
  projMA_val (n := 0) (k0 := 0) (hc := by decide) h2 h3 rfl (by decide) i j

theorem projLA_val {st : St Ideal} (h2 : st.x2 = G.x2) (h3 : st.x3 = G.x3)
    (i : Fin 256) (j : Fin 256) : projLA st (ix2 i j) = dotv G (ix2 i (⟨128 * 32 + j.val, by omega⟩ : Fin 4352)) := by
  unfold projLA dotv
  refine (Ideal.matmul_plain_apply none _ _ _ i j).trans ?_
  rw [constant_apply]
  refine (congrArg₂ (· + ·) (show (FloatOps.ofBits (F := Ideal) .f32 0x00000000#32 : EReal) = 0 from Ideal.ofBits_zero_f32) (Finset.sum_congr rfl fun k _ => ?_)).trans (zero_add _)
  have hx : ∀ p : S256x1664.Idx, (Rect.unit (s := S256x1664) ![0, 0] S256x1664.size inb_S256x1664_S256x1664_0_0).emb p = p := fun p => by
    funext a; apply Fin.ext
    match a with
    | ⟨0, _⟩ => simp [Rect.emb_apply]
    | ⟨1, _⟩ => simp [Rect.emb_apply]
  have hw : (Rect.unit (s := S1664x4352) ![0, 4096] S1664x256.size inb_S1664x4352_S1664x256_0_4096).emb (ix2 k j) = ix2 k (⟨128 * 32 + j.val, by omega⟩ : Fin 4352) := by
    funext a; apply Fin.ext
    match a with
    | ⟨0, _⟩ => simp [Rect.emb_apply]
    | ⟨1, _⟩ => simp [Rect.emb_apply]
  refine congrArg₂ (· * ·) ((congrFun (shapeCast_self _ _) _).trans ?_) ?_
  · show st.x2 _ = _
    rw [hx, h2]
  · show st.x3 _ = _
    rw [hw, h3]

theorem Inv.rowF {mq : Nat → Nat} {st : St Ideal} {n r k0 k1 k2 k3 : Nat} (h : Inv G (rows n (n + 4) r) mq st) {acc : FVec Ideal S256x512 .f32} {hr : r + 32 ≤ 256} {hk0 : k0 + 128 ≤ 4352} {hk1 : k1 + 128 ≤ 4352} {hk2 : k2 + 128 ≤ 4352} {hk3 : k3 + 128 ≤ 4352}
    (hc : 128 * n + 512 ≤ 4352) (hacc : ∀ (i : Fin 256) (j : Fin 512), acc (ix2 i j) = dotv G (ix2 i (⟨128 * n + j.val, by omega⟩ : Fin 4352)))
    (hn : n = 0) (e0 : k0 = 128 * n) (e1 : k1 = 128 * (n + 1)) (e2 : k2 = 128 * (n + 2)) (e3 : k3 = 128 * (n + 3)) : Inv G (rows n (n + 4) (r + 32)) mq (stripFS st acc r k0 k1 k2 k3 hr hk0 hk1 hk2 hk3) :=
  (h.stripF hc hacc (rows_in _ _ _) hn e0 e1 e2 e3).congr (fun i _ => upd_rows _ _ _ i) (fun _ _ => rfl)

theorem Inv.rowM {mq : Nat → Nat} {st : St Ideal} {n r k0 k1 k2 k3 : Nat} (h : Inv G (rows n (n + 4) r) mq st) {acc : FVec Ideal S256x512 .f32} {hr : r + 32 ≤ 256} {hk0 : k0 + 128 ≤ 4352} {hk1 : k1 + 128 ≤ 4352} {hk2 : k2 + 128 ≤ 4352} {hk3 : k3 + 128 ≤ 4352}
    (hc : 128 * n + 512 ≤ 4352) (hacc : ∀ (i : Fin 256) (j : Fin 512), acc (ix2 i j) = dotv G (ix2 i (⟨128 * n + j.val, by omega⟩ : Fin 4352)))
    (hn : 0 < n) (e0 : k0 = 128 * n) (e1 : k1 = 128 * (n + 1)) (e2 : k2 = 128 * (n + 2)) (e3 : k3 = 128 * (n + 3)) : Inv G (rows n (n + 4) (r + 32)) mq (stripMS st acc r k0 k1 k2 k3 hr hk0 hk1 hk2 hk3) :=
  (h.stripM hc hacc (rows_in _ _ _) hn e0 e1 e2 e3).congr (fun i _ => upd_rows _ _ _ i) (fun _ _ => rfl)

theorem Inv.rowL {mq : Nat → Nat} {st : St Ideal} {n r k0 k1 : Nat} (h : Inv G (rows n (n + 2) r) mq st) {acc : FVec Ideal S256x256 .f32} {hr : r + 32 ≤ 256} {hk0 : k0 + 128 ≤ 4352} {hk1 : k1 + 128 ≤ 4352}
    (hc : 128 * n + 256 ≤ 4352) (hacc : ∀ (i : Fin 256) (j : Fin 256), acc (ix2 i j) = dotv G (ix2 i (⟨128 * n + j.val, by omega⟩ : Fin 4352)))
    (hn : 0 < n) (e0 : k0 = 128 * n) (e1 : k1 = 128 * (n + 1)) : Inv G (rows n (n + 2) (r + 32)) mq (stripLS st acc r k0 k1 hr hk0 hk1) :=
  (h.stripL hc hacc (rows_in _ _ _) hn e0 e1).congr (fun i _ => upd_rows _ _ _ i) (fun _ _ => rfl)

section
attribute [local irreducible] stripFS stripMS stripLS projFA projMA projLA

theorem Inv.projM {mq : Nat → Nat} {st : St Ideal} {n k0 k1 k2 k3 : Nat} {hc : k0 + 512 ≤ 4352} {hk0 : k0 + 128 ≤ 4352} {hk1 : k1 + 128 ≤ 4352} {hk2 : k2 + 128 ≤ 4352} {hk3 : k3 + 128 ≤ 4352} (h : Inv G (fun _ => n) mq st) (hn : 0 < n) (e0 : k0 = 128 * n) (e1 : k1 = 128 * (n + 1)) (e2 : k2 = 128 * (n + 2)) (e3 : k3 = 128 * (n + 3)) :
    Inv G (fun _ => n + 4) mq (projMS st k0 k1 k2 k3 hc hk0 hk1 hk2 hk3) := by
  have hcn : 128 * n + 512 ≤ 4352 := by omega
  have ha := projMA_val (n := n) (hc := hc) h.i2 h.i3 e0 hcn
  unfold projMS
  have s0 : Inv G (rows n (n + 4) 0) mq st := h.congr (fun i _ => rows_zero _ _ i) (fun _ _ => rfl)
  exact ((((((((s0.rowM hcn ha hn e0 e1 e2 e3).rowM hcn ha hn e0 e1 e2 e3).rowM hcn ha hn e0 e1 e2 e3).rowM hcn ha hn e0 e1 e2 e3).rowM hcn ha hn e0 e1 e2 e3).rowM hcn ha hn e0 e1 e2 e3).rowM hcn ha hn e0 e1 e2 e3).rowM hcn ha hn e0 e1 e2 e3).congr (fun i hi => rows_all _ _ i hi) (fun _ _ => rfl)

theorem Inv.projF {mq : Nat → Nat} {st : St Ideal} (h : Inv G (fun _ => 0) mq st) : Inv G (fun _ => 4) mq (projFS st) := by
  have hcn : 128 * 0 + 512 ≤ 4352 := by decide
  have ha := projFA_val (G := G) h.i2 h.i3
  unfold projFS
  have s0 : Inv G (rows 0 (0 + 4) 0) mq st := h.congr (fun i _ => rows_zero _ _ i) (fun _ _ => rfl)
  exact ((((((((s0.rowF hcn ha rfl rfl rfl rfl rfl).rowF hcn ha rfl rfl rfl rfl rfl).rowF hcn ha rfl rfl rfl rfl rfl).rowF hcn ha rfl rfl rfl rfl rfl).rowF hcn ha rfl rfl rfl rfl rfl).rowF hcn ha rfl rfl rfl rfl rfl).rowF hcn ha rfl rfl rfl rfl rfl).rowF hcn ha rfl rfl rfl rfl rfl).congr (fun i hi => rows_all _ _ i hi) (fun _ _ => rfl)

theorem Inv.projL {mq : Nat → Nat} {st : St Ideal} (h : Inv G (fun _ => 32) mq st) : Inv G (fun _ => 34) mq (projLS st) := by
  have hcn : 128 * 32 + 256 ≤ 4352 := by decide
  have hn : 0 < 32 := by decide
  have ha := projLA_val (G := G) h.i2 h.i3
  unfold projLS
  have s0 : Inv G (rows 32 (32 + 2) 0) mq st := h.congr (fun i _ => rows_zero _ _ i) (fun _ _ => rfl)
  exact ((((((((s0.rowL hcn ha hn rfl rfl).rowL hcn ha hn rfl rfl).rowL hcn ha hn rfl rfl).rowL hcn ha hn rfl rfl).rowL hcn ha hn rfl rfl).rowL hcn ha hn rfl rfl).rowL hcn ha hn rfl rfl).rowL hcn ha hn rfl rfl).congr (fun i hi => rows_all _ _ i hi) (fun _ _ => rfl)

end

/-! ## The codes -/

section
attribute [local irreducible] qlaneS

theorem Inv.qstrip {nb : Nat → Nat} {st : St Ideal} {n r k0 k1 k2 k3 : Nat} (h : Inv G nb (rows n (n + 4) r) st) {hr : r + 32 ≤ 256} {hk0 : k0 + 128 ≤ 4352} {hk1 : k1 + 128 ≤ 4352} {hk2 : k2 + 128 ≤ 4352} {hk3 : k3 + 128 ≤ 4352}
    (hnb : ∀ i, nb i ≤ n) (e0 : k0 = 128 * n) (e1 : k1 = 128 * (n + 1)) (e2 : k2 = 128 * (n + 2)) (e3 : k3 = 128 * (n + 3)) : Inv G nb (rows n (n + 4) (r + 32)) (qstripS st r k0 k1 k2 k3 hr hk0 hk1 hk2 hk3) := by
  subst e0 e1 e2 e3
  have hs : ∀ i, (fun i => st.x13 ((rl r hr).emb i)) i = G.s ((rl r hr).emb i) := fun i => by rw [← h.h13]
  unfold qstripS
  have s1 := h.qlane (hk := hk0) (rows_in _ _ _) (fun i _ _ => hnb i) hs
  have s2 := s1.qlane (hk := hk1) (upd_in _ _ _) (fun i _ _ => (hnb i).trans (Nat.le_add_right _ _)) hs
  rw [upd_upd] at s2
  have s3 := s2.qlane (hk := hk2) (upd_in _ _ _) (fun i _ _ => (hnb i).trans (Nat.le_add_right _ _)) hs
  rw [upd_upd] at s3
  have s4 := s3.qlane (hk := hk3) (upd_in _ _ _) (fun i _ _ => (hnb i).trans (Nat.le_add_right _ _)) hs
  rw [upd_upd] at s4
  exact s4.congr (fun _ _ => rfl) (fun i _ => upd_rows _ _ _ i)

theorem Inv.qstripL {nb : Nat → Nat} {st : St Ideal} {n r k0 k1 : Nat} (h : Inv G nb (rows n (n + 2) r) st) {hr : r + 32 ≤ 256} {hk0 : k0 + 128 ≤ 4352} {hk1 : k1 + 128 ≤ 4352}
    (hnb : ∀ i, nb i ≤ n) (e0 : k0 = 128 * n) (e1 : k1 = 128 * (n + 1)) : Inv G nb (rows n (n + 2) (r + 32)) (qstripLS st r k0 k1 hr hk0 hk1) := by
  subst e0 e1
  have hs : ∀ i, (fun i => st.x13 ((rl r hr).emb i)) i = G.s ((rl r hr).emb i) := fun i => by rw [← h.h13]
  unfold qstripLS
  have s1 := h.qlane (hk := hk0) (rows_in _ _ _) (fun i _ _ => hnb i) hs
  have s2 := s1.qlane (hk := hk1) (upd_in _ _ _) (fun i _ _ => (hnb i).trans (Nat.le_add_right _ _)) hs
  rw [upd_upd] at s2
  exact s2.congr (fun _ _ => rfl) (fun i _ => upd_rows _ _ _ i)

end

section
attribute [local irreducible] qstripS qstripLS

theorem Inv.quant {nb : Nat → Nat} {st : St Ideal} {n k0 k1 k2 k3 : Nat} {hk0 : k0 + 128 ≤ 4352} {hk1 : k1 + 128 ≤ 4352} {hk2 : k2 + 128 ≤ 4352} {hk3 : k3 + 128 ≤ 4352} (h : Inv G nb (fun _ => n) st) (hnb : ∀ i, nb i ≤ n) (e0 : k0 = 128 * n) (e1 : k1 = 128 * (n + 1)) (e2 : k2 = 128 * (n + 2)) (e3 : k3 = 128 * (n + 3)) :
    Inv G nb (fun _ => n + 4) (quantS st k0 k1 k2 k3 hk0 hk1 hk2 hk3) := by
  unfold quantS
  have s0 : Inv G nb (rows n (n + 4) 0) st := h.congr (fun _ _ => rfl) (fun i _ => rows_zero _ _ i)
  exact ((((((((s0.qstrip hnb e0 e1 e2 e3).qstrip hnb e0 e1 e2 e3).qstrip hnb e0 e1 e2 e3).qstrip hnb e0 e1 e2 e3).qstrip hnb e0 e1 e2 e3).qstrip hnb e0 e1 e2 e3).qstrip hnb e0 e1 e2 e3).qstrip hnb e0 e1 e2 e3).congr (fun _ _ => rfl) (fun i hi => rows_all _ _ i hi)

theorem Inv.quantL {nb : Nat → Nat} {st : St Ideal} (h : Inv G nb (fun _ => 32) st) (hnb : ∀ i, nb i ≤ 32) : Inv G nb (fun _ => 34) (quantLS st) := by
  unfold quantLS
  have s0 : Inv G nb (rows 32 (32 + 2) 0) st := h.congr (fun _ _ => rfl) (fun i _ => rows_zero _ _ i)
  exact ((((((((s0.qstripL hnb rfl rfl).qstripL hnb rfl rfl).qstripL hnb rfl rfl).qstripL hnb rfl rfl).qstripL hnb rfl rfl).qstripL hnb rfl rfl).qstripL hnb rfl rfl).qstripL hnb rfl rfl).congr (fun _ _ => rfl) (fun i hi => rows_all _ _ i hi)

end

/-! ## The rows' scales -/

/-- A row's scale in every lane. -/
def spread (x : S1x1x256.Idx → EReal) : S256x128.Idx → EReal := fun p => x (ix3 (0 : Fin 1) (0 : Fin 1) (p 0))

theorem emb_rh {r : Nat} {hr : r + 128 ≤ 256} (i j : Fin 128) : (rh r hr).emb (ix2 i j) = ix2 (⟨r + i.val, by omega⟩ : Fin 256) j := by
  funext a; apply Fin.ext
  match a with
  | ⟨0, _⟩ => simp [Rect.emb_apply]
  | ⟨1, _⟩ => simp [Rect.emb_apply]

theorem emb_rx {r : Nat} {hr : r + 128 ≤ 256} (u v : Fin 1) (j : Fin 128) :
    (rx r hr).emb (ix3 u v j) = ix3 (0 : Fin 1) (0 : Fin 1) (⟨r + j.val, by omega⟩ : Fin 256) := by
  funext a; apply Fin.ext
  match a with
  | ⟨0, _⟩ => simp [Rect.emb_apply]
  | ⟨1, _⟩ => simp [Rect.emb_apply]
  | ⟨2, _⟩ => simp [Rect.emb_apply]

theorem xsV_val (x : S1x1x256.Idx → EReal) {r : Nat} {hr : r + 128 ≤ 256} (i : S128x128.Idx) :
    xsV (F := Ideal) (fun i => x ((rx r hr).emb i)) i = spread x ((rh r hr).emb i) := by
  obtain ⟨i0, i1, rfl⟩ : ∃ (a c : Fin 128), i = ix2 a c := ⟨i 0, i 1, eq_ix2 i⟩
  unfold xsV
  rw [shapeCast_self, transpose_ix2_apply, broadcastTo_1b_ab_apply, shapeCast_self, shapeCast_1ab_ab_apply, emb_rx, emb_rh]
  rfl

theorem loadXs_x14 (st : St Ideal) : (loadXsS st).x14 = spread st.x1 := by
  funext p
  unfold loadXsS loadXs1S
  refine (ov_h _ _ (spread st.x1) (xsV_val st.x1) p).trans ?_
  split
  · rfl
  · next c =>
    refine (ov_h _ _ (spread st.x1) (xsV_val st.x1) p).trans (if_pos ?_)
    have := idx2_lt0 p
    omega

/-! ## The statistics of a row -/

/-- The sum of a row's lanes. -/
def rowSq (X : S256x128.Idx → EReal) (i : Fin 256) : EReal := ∑ l : Fin 128, X (ix2 i l)

/-- The largest of a row's lanes. -/
def rowMx (X : S256x128.Idx → EReal) (i : Fin 256) : EReal :=
  Finset.univ.fold max (Ideal.ofBits .f32 0xFF800000#32) fun l : Fin 128 => X (ix2 i l)

/-- The reciprocal root of a row from its sum of squares. -/
def invR (q : EReal) : EReal :=
  Ideal.rsqrt (q * (Named.named κ "inv_n" 0x3970F0F1#32 : Ideal .f32) + Ideal.ofBits .f32 0x358637BD#32)

/-- The least scale of a row that keeps its codes in range. -/
def aR (q m : EReal) : EReal := m * invR q * Ideal.ofBits .f32 0x3B124925#32

/-- One step of the search for the exponent. -/
def bisR (a : EReal) (b s : BitVec 32) : BitVec 32 :=
  Scalar.select (FloatOps.cmpf (F := Ideal) (φ := .f32) .olt a (Ideal.ofBits .f32 (IntOp.shli .vector (b + s) 23#32))) b (b + s)

/-- The search for the exponent. -/
def bR (a : EReal) : BitVec 32 := bisR a (bisR a (bisR a (bisR a (bisR a (bisR a (bisR a (bisR a 0#32 128#32) 64#32) 32#32) 16#32) 8#32) 4#32) 2#32) 1#32

/-- The exponent of a row's scale, as a word. -/
def eR (a : EReal) : BitVec 32 :=
  Scalar.select (FloatOps.cmpf (F := Ideal) (φ := .f32) .oeq a (Ideal.ofBits .f32 0x00000000#32)) 0#32 (bR a - 126#32)

/-- A row's scale. -/
def upR (a : EReal) : EReal := Ideal.ofBits .f32 (IntOp.shli .vector (eR a + 127#32) 23#32)

/-- The reciprocal of a row's scale. -/
def downR (a : EReal) : EReal := Ideal.ofBits .f32 (IntOp.shli .vector (127#32 - eR a) 23#32)

theorem bis_val (a : FVec Ideal S128x128 .f32) (b : IVec S128x128 32) (s : BitVec 32) (i : S128x128.Idx) : bis a b s i = bisR (a i) (b i) s := by
  unfold bis bisR
  rw [select_apply, cmpf_apply]
  rfl

theorem finB_val (a : FVec Ideal S128x128 .f32) (i : S128x128.Idx) : finB a i = bR (a i) := by
  unfold finB bR
  rw [bis_val, bis_val, bis_val, bis_val, bis_val, bis_val, bis_val, bis_val]
  rfl

section
attribute [local irreducible] finB bR

theorem finE_val (a : FVec Ideal S128x128 .f32) (i : S128x128.Idx) : finE a i = eR (a i) := by
  have h : finE a i = Scalar.select (FloatOps.cmpf (F := Ideal) (φ := .f32) .oeq (a i) (Ideal.ofBits .f32 0x00000000#32)) 0#32 (finB a i - 126#32) := rfl
  rw [h, finB_val]
  rfl

end

section
attribute [local irreducible] finE eR

theorem finUp_val (a : FVec Ideal S128x128 .f32) (i : S128x128.Idx) : finUp a i = upR (a i) := by
  have h : finUp a i = Ideal.ofBits .f32 (IntOp.shli .vector (finE a i + 127#32) 23#32) := rfl
  rw [h, finE_val]
  rfl

theorem finDown_val (a : FVec Ideal S128x128 .f32) (i : S128x128.Idx) : finDown a i = downR (a i) := by
  have h : finDown a i = Ideal.ofBits .f32 (IntOp.shli .vector (127#32 - finE a i) 23#32) := rfl
  rw [h, finE_val]
  rfl

end

theorem bcol_val (v : FVec Ideal S128 .f32) (i j : Fin 128) :
    broadcastTo S128x128 (shapeCast S128x1 (shapeCast S128x1 v shapeCasts_S128_S128x1) shapeCasts_S128x1_S128x1) broadcasts_S128x1_S128x128 (ix2 i j) = v (ix1 i) := by
  refine (broadcastTo_apply (s := S128x1) (t := S128x128) _ _ _ (ix2 i (0 : Fin 1)) fun ax => ?_).trans ?_
  · match ax with
    | ⟨0, _⟩ => rfl
    | ⟨1, _⟩ => rfl
  · rw [shapeCast_self]
    exact shapeCast_a_a1_apply _ _ _ _

theorem lift128 (i k : Fin 128) : reduces_S128x128_S128.lift (ix1 i) k = (ix2 i k : S128x128.Idx) := by
  funext a; apply Fin.ext
  match a with
  | ⟨0, _⟩ => rfl
  | ⟨1, _⟩ => rfl

theorem finSq_val (v : FVec Ideal S128x128 .f32) (i j : Fin 128) : finSq v (ix2 i j) = ∑ l : Fin 128, v (ix2 i l) := by
  unfold finSq
  rw [bcol_val]
  refine (Ideal.multiReduction_add_single _ _ _ _ _ _).trans (Finset.sum_congr rfl fun k _ => ?_)
  exact congrArg v (lift128 i k)

theorem finMx_val (v : FVec Ideal S128x128 .f32) (i j : Fin 128) :
    finMx v (ix2 i j) = Finset.univ.fold max (Ideal.ofBits .f32 0xFF800000#32) fun l : Fin 128 => v (ix2 i l) := by
  unfold finMx
  rw [bcol_val]
  refine (Ideal.multiReduction_maximumf_single _ _ _ _ _ _).trans (congrArg (Finset.univ.fold max _) (funext fun k => ?_))
  exact congrArg v (lift128 i k)

theorem finInv_val (X : S256x128.Idx → EReal) {r : Nat} {hr : r + 128 ≤ 256} (i j : Fin 128) :
    finInv (F := Ideal) (fun i => X ((rh r hr).emb i)) (ix2 i j) = invR (rowSq X (⟨r + i.val, by omega⟩ : Fin 256)) := by
  unfold invR rowSq
  have h : finInv (F := Ideal) (fun i => X ((rh r hr).emb i)) (ix2 i j) = Ideal.rsqrt (finSq (F := Ideal) (fun i => X ((rh r hr).emb i)) (ix2 i j) * (Named.named κ "inv_n" 0x3970F0F1#32 : Ideal .f32) + Ideal.ofBits .f32 0x358637BD#32) := rfl
  rw [h, finSq_val]
  simp only [emb_rh]

theorem finA_val (X Y : S256x128.Idx → EReal) {r : Nat} {hr : r + 128 ≤ 256} (i j : Fin 128) :
    finA (F := Ideal) (fun i => X ((rh r hr).emb i)) (fun i => Y ((rh r hr).emb i)) (ix2 i j) =
      aR (rowSq X (⟨r + i.val, by omega⟩ : Fin 256)) (rowMx Y (⟨r + i.val, by omega⟩ : Fin 256)) := by
  unfold aR rowMx
  have h : finA (F := Ideal) (fun i => X ((rh r hr).emb i)) (fun i => Y ((rh r hr).emb i)) (ix2 i j) =
    finMx (F := Ideal) (fun i => Y ((rh r hr).emb i)) (ix2 i j) * finInv (F := Ideal) (fun i => X ((rh r hr).emb i)) (ix2 i j) * Ideal.ofBits .f32 0x3B124925#32 := rfl
  rw [h, finMx_val, finInv_val]
  simp only [emb_rh]

/-- The multiplier of a row from its statistics. -/
def sR (q m : EReal) : EReal := invR q * downR (aR q m)

/-- The scale of a row from its statistics. -/
def yR (q m : EReal) : EReal := upR (aR q m)

/-- The rows' multipliers in every lane. -/
def sOf (X Y : S256x128.Idx → EReal) : S256x128.Idx → EReal := fun p => sR (rowSq X (p 0)) (rowMx Y (p 0))

/-- The rows' scales. -/
def yOf (X Y : S256x128.Idx → EReal) : S1x1x256.Idx → EReal := fun p => yR (rowSq X (p 2)) (rowMx Y (p 2))

theorem finS_val (X Y : S256x128.Idx → EReal) {r : Nat} {hr : r + 128 ≤ 256} (i : S128x128.Idx) :
    shapeCast S128x128 (finS (F := Ideal) (fun i => X ((rh r hr).emb i)) (fun i => Y ((rh r hr).emb i))) shapeCasts_S128x128_S128x128 i = sOf X Y ((rh r hr).emb i) := by
  obtain ⟨i0, i1, rfl⟩ : ∃ (a c : Fin 128), i = ix2 a c := ⟨i 0, i 1, eq_ix2 i⟩
  rw [shapeCast_self]
  unfold finS
  rw [mulf_apply, finDown_val, finInv_val, finA_val, emb_rh]
  rfl

theorem finY_val (X Y : S256x128.Idx → EReal) {r : Nat} {hr : r + 128 ≤ 256} (i : S1x1x128.Idx) :
    finY (F := Ideal) (fun i => X ((rh r hr).emb i)) (fun i => Y ((rh r hr).emb i)) i = yOf X Y ((rx r hr).emb i) := by
  obtain ⟨i0, i1, i2, rfl⟩ : ∃ (a b : Fin 1) (c : Fin 128), i = ix3 a b c := ⟨i 0, i 1, i 2, eq_ix3 i⟩
  unfold finY
  rw [emb_rx]
  obtain rfl : i0 = 0 := Subsingleton.elim _ _
  rw [shapeCast_ab_1ab_apply]
  refine (extractStridedSlice_apply _ _ _ _ (ix2 (0 : Fin 128) i2 : S128x128.Idx) fun ax => ?_).trans ?_
  · match ax with
    | ⟨0, _⟩ => have := i1.isLt; simp
    | ⟨1, _⟩ => simp
  rw [transpose_ix2_apply, finUp_val, finA_val]
  rfl

theorem finAll_x13 (st : St Ideal) : (finAllS st).x13 = sOf st.x11 st.x12 := by
  funext p
  unfold finAllS fin1S
  refine (ov_h _ _ (sOf st.x11 st.x12) (finS_val st.x11 st.x12) p).trans ?_
  split
  · rfl
  · next c =>
    refine (ov_h _ _ (sOf st.x11 st.x12) (finS_val st.x11 st.x12) p).trans (if_pos ?_)
    have := idx2_lt0 p
    omega

theorem finAll_x9 (st : St Ideal) : (finAllS st).x9 = yOf st.x11 st.x12 := by
  funext p
  unfold finAllS fin1S
  refine (ov_x _ _ (yOf st.x11 st.x12) (finY_val st.x11 st.x12) p).trans ?_
  split
  · rfl
  · next c =>
    refine (ov_x _ _ (yOf st.x11 st.x12) (finY_val st.x11 st.x12) p).trans (if_pos ?_)
    have : (p 2).val < 256 := (p 2).isLt
    omega

/-! ## The branches -/

/-- The goal of a point that starts in `st` and whose scales and multipliers are as given. -/
def goalOf (st : St Ideal) (xs s : S256x128.Idx → EReal) (y : S1x1x256.Idx → EReal) : Goal where
  x1 := st.x1
  x2 := st.x2
  x3 := st.x3
  x4 := st.x4
  x5 := st.x5
  x6 := st.x6
  xs := xs
  s := s
  y := y
  told := st.x10

theorem Inv.start (st : St Ideal) : Inv (goalOf st st.x14 st.x13 st.x9) (fun _ => 0) (fun _ => 0) st where
  i1 := rfl
  i2 := rfl
  i3 := rfl
  i4 := rfl
  i5 := rfl
  i6 := rfl
  h14 := rfl
  h13 := rfl
  h9 := rfl
  h7 := fun p hp => absurd hp (Nat.not_lt_zero _)
  h10 := fun p hp => absurd hp (Nat.not_lt_zero _)
  hold := fun p hp => rfl
  h8 := fun p hp => absurd hp (Nat.not_lt_zero _)
  h11 := fun p hp => absurd hp (Nat.lt_irrefl _)
  h12 := fun p hp => absurd hp (Nat.lt_irrefl _)

theorem goal_loadXs (st : St Ideal) : goalOf (loadXsS st) (loadXsS st).x14 (loadXsS st).x13 (loadXsS st).x9 = goalOf st (spread st.x1) st.x13 st.x9 := by
  rw [loadXs_x14]
  rfl

theorem goal_fin (st : St Ideal) : goalOf (finAllS st) (finAllS st).x14 (finAllS st).x13 (finAllS st).x9 = goalOf st st.x14 (sOf st.x11 st.x12) (yOf st.x11 st.x12) := by
  rw [finAll_x13, finAll_x9]
  rfl

theorem goal_finLoad (st : St Ideal) : goalOf (loadXsS (finAllS st)) (loadXsS (finAllS st)).x14 (loadXsS (finAllS st)).x13 (loadXsS (finAllS st)).x9 = goalOf st (spread st.x1) (sOf st.x11 st.x12) (yOf st.x11 st.x12) := by
  rw [goal_loadXs, finAll_x13, finAll_x9]
  rfl

section
attribute [local irreducible] projFS projMS projLS quantS quantLS loadXsS finAllS

theorem brA_inv (st : St Ideal) : Inv (goalOf st (spread st.x1) st.x13 st.x9) (fun _ => 34) (fun _ => 0) (brAS st) := by
  have s0 := Inv.start (loadXsS st)
  rw [goal_loadXs] at s0
  unfold brAS
  exact ((((((((s0.projF).projM (n := 4) (by decide) rfl rfl rfl rfl).projM (n := 8) (by decide) rfl rfl rfl rfl).projM (n := 12) (by decide) rfl rfl rfl rfl).projM (n := 16) (by decide) rfl rfl rfl rfl).projM (n := 20) (by decide) rfl rfl rfl rfl).projM (n := 24) (by decide) rfl rfl rfl rfl).projM (n := 28) (by decide) rfl rfl rfl rfl).projL

theorem brB_inv (st : St Ideal) : Inv (goalOf st (spread st.x1) (sOf st.x11 st.x12) (yOf st.x11 st.x12)) (fun _ => 34) (fun _ => 34) (brBS st) := by
  have s0 := Inv.start (loadXsS (finAllS st))
  rw [goal_finLoad] at s0
  unfold brBS
  exact ((((((((((((((((((s0.quant (n := 0) (fun _ => by decide) rfl rfl rfl rfl).projF).quant (n := 4) (fun _ => by decide) rfl rfl rfl rfl).projM (n := 4) (by decide) rfl rfl rfl rfl).quant (n := 8) (fun _ => by decide) rfl rfl rfl rfl).projM (n := 8) (by decide) rfl rfl rfl rfl).quant (n := 12) (fun _ => by decide) rfl rfl rfl rfl).projM (n := 12) (by decide) rfl rfl rfl rfl).quant (n := 16) (fun _ => by decide) rfl rfl rfl rfl).projM (n := 16) (by decide) rfl rfl rfl rfl).quant (n := 20) (fun _ => by decide) rfl rfl rfl rfl).projM (n := 20) (by decide) rfl rfl rfl rfl).quant (n := 24) (fun _ => by decide) rfl rfl rfl rfl).projM (n := 24) (by decide) rfl rfl rfl rfl).quant (n := 28) (fun _ => by decide) rfl rfl rfl rfl).projM (n := 28) (by decide) rfl rfl rfl rfl).quantL (fun _ => by decide)).projL)

theorem brC_inv (st : St Ideal) : Inv (goalOf st st.x14 (sOf st.x11 st.x12) (yOf st.x11 st.x12)) (fun _ => 0) (fun _ => 34) (brCS st) := by
  have s0 := Inv.start (finAllS st)
  rw [goal_fin] at s0
  unfold brCS
  exact ((((((((s0.quant (n := 0) (fun _ => by decide) rfl rfl rfl rfl).quant (n := 4) (fun _ => by decide) rfl rfl rfl rfl).quant (n := 8) (fun _ => by decide) rfl rfl rfl rfl).quant (n := 12) (fun _ => by decide) rfl rfl rfl rfl).quant (n := 16) (fun _ => by decide) rfl rfl rfl rfl).quant (n := 20) (fun _ => by decide) rfl rfl rfl rfl).quant (n := 24) (fun _ => by decide) rfl rfl rfl rfl).quant (n := 28) (fun _ => by decide) rfl rfl rfl rfl).quantL (fun _ => by decide)

end

end Cert.KernelIdeal.Gen
-- ==== Proof.IdealStep.lean ====
/- What each point of the grid leaves, over the extended reals: the residual output, the product with gamma and the statistics of its own tile, and the
   codes and the scales of the tile before. -/
module

public import proofs.«01_k».proof.Proof.IdealProj
public import proofs.«01_k».proof.Proof.IdealFrame
public import Idealize.ShloMosaic.Lib.Pipeline.TableIdle

@[expose] public section

set_option maxRecDepth 16384

noncomputable section

namespace Cert.KernelIdeal.Gen

open Idealize.ShloMosaic Idealize.ShloMosaic.TcCoe Idealize.ShloMosaic.ValueIdx
open Idealize.SL Idealize.SL.RA
open Idealize.ShloMosaic.Pipeline (Dat Cfg Window BodyObligation cellOf)
open Facts₀

/-! ## The tables of the windows -/

theorem flush0_6 : ∀ t : Fin cfg0.N, (cfg0.win 6).flush t = decide (t.val ≠ 63) := fun t => by
  rw [Pipeline.Window.flush_eq_flushF]
  exact (by decide +kernel : ∀ t : Fin grid0.N, win0_6.flushF t = decide (t.val ≠ 63)) t

theorem flush0_7 : ∀ t : Fin cfg0.N, (cfg0.win 7).flush t = decide (t.val ≠ 0) := fun t => by
  rw [Pipeline.Window.flush_eq_flushF]
  exact (by decide +kernel : ∀ t : Fin grid0.N, win0_7.flushF t = decide (t.val ≠ 0)) t

theorem flush0_8 : ∀ t : Fin cfg0.N, (cfg0.win 8).flush t = decide (t.val ≠ 0) := fun t => by
  rw [Pipeline.Window.flush_eq_flushF]
  exact (by decide +kernel : ∀ t : Fin grid0.N, win0_8.flushF t = decide (t.val ≠ 0)) t

theorem idle0_6 : ∀ t : Fin cfg0.N, cfg0.idle 6 (cfg0.grid.coords t) = decide (t.val = 64) :=
  (by decide +kernel : ∀ t : Fin grid0.N, cfg0.idle 6 (grid0.coords t) = decide (t.val = 64))

theorem idle0_7 : ∀ t : Fin cfg0.N, cfg0.idle 7 (cfg0.grid.coords t) = decide (t.val = 0) :=
  (by decide +kernel : ∀ t : Fin grid0.N, cfg0.idle 7 (grid0.coords t) = decide (t.val = 0))

theorem idle0_8 : ∀ t : Fin cfg0.N, cfg0.idle 8 (cfg0.grid.coords t) = decide (t.val = 0) :=
  (by decide +kernel : ∀ t : Fin grid0.N, cfg0.idle 8 (grid0.coords t) = decide (t.val = 0))

/-! ## The last point leaves the residual output alone -/

section

theorem qlane_x7 (st : St Ideal) (s) (r k) (hr) (hk) : (qlaneS st s r k hr hk).x7 = st.x7 := rfl

theorem qstrip_x7 (st : St Ideal) (r k0 k1 k2 k3) (hr) (hk0) (hk1) (hk2) (hk3) : (qstripS st r k0 k1 k2 k3 hr hk0 hk1 hk2 hk3).x7 = st.x7 := by
  unfold qstripS
  rw [qlane_x7, qlane_x7, qlane_x7, qlane_x7]

theorem qstripL_x7 (st : St Ideal) (r k0 k1) (hr) (hk0) (hk1) : (qstripLS st r k0 k1 hr hk0 hk1).x7 = st.x7 := by
  unfold qstripLS
  rw [qlane_x7, qlane_x7]

theorem quant_x7 (st : St Ideal) (k0 k1 k2 k3) (hk0) (hk1) (hk2) (hk3) : (quantS st k0 k1 k2 k3 hk0 hk1 hk2 hk3).x7 = st.x7 := by
  unfold quantS
  rw [qstrip_x7, qstrip_x7, qstrip_x7, qstrip_x7, qstrip_x7, qstrip_x7, qstrip_x7, qstrip_x7]

theorem quantL_x7 (st : St Ideal) : (quantLS st).x7 = st.x7 := by
  unfold quantLS
  rw [qstripL_x7, qstripL_x7, qstripL_x7, qstripL_x7, qstripL_x7, qstripL_x7, qstripL_x7, qstripL_x7]

theorem brC_x7 (st : St Ideal) : (brCS st).x7 = st.x7 := by
  unfold brCS
  rw [quantL_x7, quant_x7, quant_x7, quant_x7, quant_x7, quant_x7, quant_x7, quant_x7, quant_x7]
  rfl

end

/-! ## A tile -/

variable (m : (ℓ : Loc nD τ sig) → Buf (Elt Ideal) ℓ)

/-- What the point `t` reads of its inputs. -/
def goalT (c : Dev nD) (t : Fin cfg0.N) : Goal where
  x1 := iblk m c 0 t
  x2 := iblk m c 1 t
  x3 := iblk m c 2 t
  x4 := iblk m c 3 t
  x5 := iblk m c 4 t
  x6 := iblk m c 5 t
  xs := spread (iblk m c 0 t)
  s := fun _ => 0
  y := fun _ => 0
  told := fun _ => 0

/-- The residual output of the tile. -/
def outT (c : Dev nD) (t : Fin cfg0.N) : S256x4352.Idx → EReal := outv (goalT m c t)

/-- Its product with gamma. -/
def tT (c : Dev nD) (t : Fin cfg0.N) : S256x4352.Idx → EReal := tv (goalT m c t)

/-- The sums of the squares in the lanes. -/
def qT (c : Dev nD) (t : Fin cfg0.N) : S256x128.Idx → EReal := sqv (goalT m c t) 34

/-- The largest magnitudes in the lanes. -/
def mT (c : Dev nD) (t : Fin cfg0.N) : S256x128.Idx → EReal := mxv (goalT m c t) 34

/-- The code of an entry from a tile and its multipliers. -/
def codeOf (told : S256x4352.Idx → EReal) (s : S256x128.Idx → EReal) : S256x4352.Idx → EReal := fun p =>
  min (Ideal.ofBits .f32 0x43E00000#32) (max (Ideal.ofBits .f32 0xC3E00000#32) (told p * s (ix2 (p 0) (laneOf (p 1)))))

/-- The tile's codes. -/
def codeT (c : Dev nD) (t : Fin cfg0.N) : S256x4352.Idx → EReal := codeOf (tT m c t) (sOf (qT m c t) (mT m c t))

/-- The tile's scales. -/
def ysT (c : Dev nD) (t : Fin cfg0.N) : S1x1x256.Idx → EReal := yOf (qT m c t) (mT m c t)

variable {m}

/-- The state reads the blocks of the point. -/
structure Reads (c : Dev nD) (t : Fin cfg0.N) (st : St Ideal) : Prop where
  r1 : st.x1 = iblk m c 0 t
  r2 : st.x2 = iblk m c 1 t
  r3 : st.x3 = iblk m c 2 t
  r4 : st.x4 = iblk m c 3 t
  r5 : st.x5 = iblk m c 4 t
  r6 : st.x6 = iblk m c 5 t

theorem goal_out {c : Dev nD} {t : Fin cfg0.N} {st : St Ideal} (h : Reads (m := m) c t st) (s y) : outv (goalOf st (spread st.x1) s y) = outv (goalT m c t) := by
  unfold goalOf
  rw [h.r1, h.r2, h.r3, h.r4, h.r5, h.r6]
  rfl

theorem goal_t {c : Dev nD} {t : Fin cfg0.N} {st : St Ideal} (h : Reads (m := m) c t st) (s y) : tv (goalOf st (spread st.x1) s y) = tv (goalT m c t) := by
  funext p
  unfold tv
  rw [goal_out h]
  exact congrArg (outv (goalT m c t) p * ·) (congrFun h.r6 _)

theorem goal_q {c : Dev nD} {t : Fin cfg0.N} {st : St Ideal} (h : Reads (m := m) c t st) (s y) (n) : sqv (goalOf st (spread st.x1) s y) n = sqv (goalT m c t) n := by
  funext p
  unfold sqv sqAt
  rw [goal_out h]

theorem goal_m {c : Dev nD} {t : Fin cfg0.N} {st : St Ideal} (h : Reads (m := m) c t st) (s y) (n) : mxv (goalOf st (spread st.x1) s y) n = mxv (goalT m c t) n := by
  funext p
  unfold mxv mxAt
  rw [goal_t h]

/-- A tile is projected. -/
structure Done (c : Dev nD) (t : Fin cfg0.N) (st : St Ideal) : Prop where
  d10 : st.x10 = tT m c t
  d11 : st.x11 = qT m c t
  d12 : st.x12 = mT m c t

theorem lt_all (n : Nat) (h : n = 34) (p : S256x4352.Idx) : (p 1).val < 128 * n := by
  subst h
  exact (p 1).isLt

theorem Inv.done {c : Dev nD} {t : Fin cfg0.N} {st st' : St Ideal} {s y} {mq} (hr : Reads (m := m) c t st)
    (h : Inv (goalOf st (spread st.x1) s y) (fun _ => 34) mq st') : Done (m := m) c t st' ∧ st'.x7 = outT m c t := by
  refine ⟨⟨funext fun p => ?_, funext fun p => ?_, funext fun p => ?_⟩, funext fun p => ?_⟩
  · rw [h.h10 p (lt_all _ rfl p), goal_t hr]; rfl
  · rw [h.h11 p (by decide), goal_q hr]; rfl
  · rw [h.h12 p (by decide), goal_m hr]; rfl
  · rw [h.h7 p (lt_all _ rfl p), goal_out hr]; rfl

theorem Inv.coded {c : Dev nD} {t : Fin cfg0.N} {st st' : St Ideal} {xs} {nb} (hd : Done (m := m) c t st)
    (h : Inv (goalOf st xs (sOf st.x11 st.x12) (yOf st.x11 st.x12)) nb (fun _ => 34) st') : st'.x8 = codeT m c t ∧ st'.x9 = ysT m c t := by
  refine ⟨funext fun p => ?_, ?_⟩
  · rw [h.h8 p (lt_all _ rfl p)]
    unfold codeT
    rw [← hd.d10, ← hd.d11, ← hd.d12]
    rfl
  · rw [h.h9]
    unfold ysT
    rw [← hd.d11, ← hd.d12]
    rfl

theorem step_first {c : Dev nD} {t : Fin cfg0.N} {st : St Ideal} (ht : t.val = 0) (hr : Reads (m := m) c t st) :
    Done (m := m) c t (stepS t st) ∧ (stepS t st).x7 = outT m c t := by
  unfold stepS
  rw [if_pos ht]
  exact (brA_inv st).done hr

theorem step_mid {c : Dev nD} {t u : Fin cfg0.N} {st : St Ideal} (h0 : t.val ≠ 0) (h1 : t.val ≠ 64) (hr : Reads (m := m) c t st) (hd : Done (m := m) c u st) :
    (Done (m := m) c t (stepS t st) ∧ (stepS t st).x7 = outT m c t) ∧ ((stepS t st).x8 = codeT m c u ∧ (stepS t st).x9 = ysT m c u) := by
  unfold stepS
  rw [if_neg h0, if_neg h1]
  exact ⟨(brB_inv st).done hr, (brB_inv st).coded hd⟩

theorem step_last {c : Dev nD} {t u : Fin cfg0.N} {st : St Ideal} (h1 : t.val = 64) (hd : Done (m := m) c u st) :
    (stepS t st).x7 = st.x7 ∧ ((stepS t st).x8 = codeT m c u ∧ (stepS t st).x9 = ysT m c u) := by
  unfold stepS
  rw [if_neg (by omega), if_pos h1]
  exact ⟨brC_x7 st, (brC_inv st).coded hd⟩

end Cert.KernelIdeal.Gen
-- ==== Proof.IdealRun.lean ====
/- The run of the kernel over the extended reals with its results named: each tile's residual output, codes and scales. -/
module

public import proofs.«01_k».proof.Proof.IdealStep

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

/-- The tile before the point's. -/
def prd (t : Fin cfg0.N) : Fin cfg0.N := ⟨t.val - 1, Nat.lt_of_le_of_lt (Nat.sub_le _ _) t.isLt⟩

/-- The point's tile; the last tile at the point after it. -/
def cap (t : Fin cfg0.N) : Fin cfg0.N := ⟨min t.val 63, Nat.lt_of_le_of_lt (Nat.min_le_left _ _) t.isLt⟩

/-- The scratch arrays after the tile `u`. -/
def PhiT (c : Dev nD) (u : Fin cfg0.N) : sProp 𝕄 :=
  iprop(iprop(owns (c : Thread nD τ) scM0_0 fullShare (tT m c u) ∗ owns (c : Thread nD τ) scM0_1 fullShare (qT m c u) ∗ owns (c : Thread nD τ) scM0_2 fullShare (mT m c u) ∗ (∃ d, owns (c : Thread nD τ) scM0_3 fullShare d) ∗ (∃ d, owns (c : Thread nD τ) scM0_4 fullShare d)) ∗ (∃ r, prngReg c r))

/-- The invariant before the point `n`. -/
def PhiV (c : Dev nD) (n : Nat) : sProp 𝕄 :=
  if h : 1 ≤ n ∧ n ≤ 64 then PhiT m c ⟨n - 1, by have : cfg0.N = 65 := N_0; omega⟩ else Pipeline.ΦA spec0 c

/-- The proof data. -/
def datsV (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => outT m c (cap t)
    | ⟨7, _⟩ => codeT m c (prd t)
    | ⟨8, _⟩ => ysT m c (prd t)
  Φ n := PhiV m c n.val
  q _ := fullShare
  owed _ := 0

theorem A_eqV (c : Dev nD) (w : Fin cfg0.W) : (datsV m 0 c).A w = V m c (Pipeline.arrRef spec0 w) := by
  dsimp only [datsV]

theorem afterV_0 (c : Dev nD) (t : Fin cfg0.N) : (datsV m 0 c).after 0 t = iblk m c 0 t := by dsimp only [datsV]
theorem afterV_1 (c : Dev nD) (t : Fin cfg0.N) : (datsV m 0 c).after 1 t = iblk m c 1 t := by dsimp only [datsV]
theorem afterV_2 (c : Dev nD) (t : Fin cfg0.N) : (datsV m 0 c).after 2 t = iblk m c 2 t := by dsimp only [datsV]
theorem afterV_3 (c : Dev nD) (t : Fin cfg0.N) : (datsV m 0 c).after 3 t = iblk m c 3 t := by dsimp only [datsV]
theorem afterV_4 (c : Dev nD) (t : Fin cfg0.N) : (datsV m 0 c).after 4 t = iblk m c 4 t := by dsimp only [datsV]
theorem afterV_5 (c : Dev nD) (t : Fin cfg0.N) : (datsV m 0 c).after 5 t = iblk m c 5 t := by dsimp only [datsV]
theorem afterV_6 (c : Dev nD) (t : Fin cfg0.N) : (datsV m 0 c).after 6 t = outT m c (cap t) := by dsimp only [datsV]
theorem afterV_7 (c : Dev nD) (t : Fin cfg0.N) : (datsV m 0 c).after 7 t = codeT m c (prd t) := by dsimp only [datsV]
theorem afterV_8 (c : Dev nD) (t : Fin cfg0.N) : (datsV m 0 c).after 8 t = ysT m c (prd t) := by dsimp only [datsV]
theorem beforeV_0 (c : Dev nD) (t : Fin cfg0.N) (d) : (datsV m 0 c).before 0 t d = iblk m c 0 t :=
  before0_0_of m (datsV m 0 c) (A_eqV m c 0) (afterV_0 m c) t d
theorem beforeV_1 (c : Dev nD) (t : Fin cfg0.N) (d) : (datsV m 0 c).before 1 t d = iblk m c 1 t :=
  before0_1_of m (datsV m 0 c) (A_eqV m c 1) (afterV_1 m c) t d
theorem beforeV_2 (c : Dev nD) (t : Fin cfg0.N) (d) : (datsV m 0 c).before 2 t d = iblk m c 2 t :=
  before0_2_of m (datsV m 0 c) (A_eqV m c 2) (afterV_2 m c) t d
theorem beforeV_3 (c : Dev nD) (t : Fin cfg0.N) (d) : (datsV m 0 c).before 3 t d = iblk m c 3 t :=
  before0_3_of m (datsV m 0 c) (A_eqV m c 3) (afterV_3 m c) t d
theorem beforeV_4 (c : Dev nD) (t : Fin cfg0.N) (d) : (datsV m 0 c).before 4 t d = iblk m c 4 t :=
  before0_4_of m (datsV m 0 c) (A_eqV m c 4) (afterV_4 m c) t d
theorem beforeV_5 (c : Dev nD) (t : Fin cfg0.N) (d) : (datsV m 0 c).before 5 t d = iblk m c 5 t :=
  before0_5_of m (datsV m 0 c) (A_eqV m c 5) (afterV_5 m c) t d

theorem fetch0_out (w : Fin cfg0.W) (h : (cfg0.win w).isOut = true) (t : Fin cfg0.N) : (cfg0.win w).fetch t = false := by
  unfold Pipeline.Window.fetch
  rw [h]
  rfl

theorem before_first (c : Dev nD) (w : Fin cfg0.W) (h : (cfg0.win w).isOut = true) (t : Fin cfg0.N) (ht : t.val = 0) (d) : (datsV m 0 c).before w t d = d := by
  unfold Dat.before
  rw [fetch0_out w h, if_neg Bool.false_ne_true, if_pos ht]

theorem before_last (c : Dev nD) (t : Fin cfg0.N) (ht : t.val = 64) (d) : (datsV m 0 c).before 6 t d = outT m c (cap t) := by
  rw [Dat.before_of_pos _ _ _ (by omega) (fetch0_out 6 rfl t), flush0_6]
  rw [if_neg (by simp [ht])]
  unfold Dat.left
  rw [idle0_6]
  have h : decide ((⟨t.val - 1, Nat.lt_of_le_of_lt (Nat.sub_le _ _) t.isLt⟩ : Fin cfg0.N).val = 64) = false := by simp [ht]
  rw [h]
  have e : cap (⟨t.val - 1, Nat.lt_of_le_of_lt (Nat.sub_le _ _) t.isLt⟩ : Fin cfg0.N) = cap t := Fin.ext (by simp [cap, ht])
  exact (afterV_6 m c _).trans (by rw [e])

def bodyPreV (c : Dev nD) (t : Fin cfg0.N) : sProp 𝕄 :=
  iprop((datsV m 0 c).Φ t.castSucc ∗ (datsV m 0 c).owesAt () t.castSucc
    ∗ (∃ d, owns (c : Thread nD τ) (ms0_0 t) fullShare ((datsV m 0 c).before 0 t d))
    ∗ (∃ d, owns (c : Thread nD τ) (ms0_1 t) fullShare ((datsV m 0 c).before 1 t d))
    ∗ (∃ d, owns (c : Thread nD τ) (ms0_2 t) fullShare ((datsV m 0 c).before 2 t d))
    ∗ (∃ d, owns (c : Thread nD τ) (ms0_3 t) fullShare ((datsV m 0 c).before 3 t d))
    ∗ (∃ d, owns (c : Thread nD τ) (ms0_4 t) fullShare ((datsV m 0 c).before 4 t d))
    ∗ (∃ d, owns (c : Thread nD τ) (ms0_5 t) fullShare ((datsV m 0 c).before 5 t d))
    ∗ (∃ d, owns (c : Thread nD τ) (ms0_6 t) fullShare ((datsV m 0 c).before 6 t d))
    ∗ (∃ d, owns (c : Thread nD τ) (ms0_7 t) fullShare ((datsV m 0 c).before 7 t d))
    ∗ (∃ d, owns (c : Thread nD τ) (ms0_8 t) fullShare ((datsV m 0 c).before 8 t d)))

def bodyPostV (c : Dev nD) (t : Fin cfg0.N) : sProp 𝕄 :=
  iprop((datsV m 0 c).Φ t.succ ∗ (datsV m 0 c).owesAt () t.succ
    ∗ (datsV m 0 c).leavesExact 0 t
    ∗ (datsV m 0 c).leavesExact 1 t
    ∗ (datsV m 0 c).leavesExact 2 t
    ∗ (datsV m 0 c).leavesExact 3 t
    ∗ (datsV m 0 c).leavesExact 4 t
    ∗ (datsV m 0 c).leavesExact 5 t
    ∗ (datsV m 0 c).leavesExact 6 t
    ∗ (datsV m 0 c).leavesExact 7 t
    ∗ (datsV m 0 c).leavesExact 8 t)

theorem leavesV_0 (c : Dev nD) (t : Fin cfg0.N) : (datsV m 0 c).leavesExact 0 t = owns (c : Thread nD τ) (ms0_0 t) fullShare (iblk m c 0 t) := by
  rw [← afterV_0]

theorem leavesV_1 (c : Dev nD) (t : Fin cfg0.N) : (datsV m 0 c).leavesExact 1 t = owns (c : Thread nD τ) (ms0_1 t) fullShare (iblk m c 1 t) := by
  rw [← afterV_1]

theorem leavesV_2 (c : Dev nD) (t : Fin cfg0.N) : (datsV m 0 c).leavesExact 2 t = owns (c : Thread nD τ) (ms0_2 t) fullShare (iblk m c 2 t) := by
  rw [← afterV_2]

theorem leavesV_3 (c : Dev nD) (t : Fin cfg0.N) : (datsV m 0 c).leavesExact 3 t = owns (c : Thread nD τ) (ms0_3 t) fullShare (iblk m c 3 t) := by
  rw [← afterV_3]

theorem leavesV_4 (c : Dev nD) (t : Fin cfg0.N) : (datsV m 0 c).leavesExact 4 t = owns (c : Thread nD τ) (ms0_4 t) fullShare (iblk m c 4 t) := by
  rw [← afterV_4]

theorem leavesV_5 (c : Dev nD) (t : Fin cfg0.N) : (datsV m 0 c).leavesExact 5 t = owns (c : Thread nD τ) (ms0_5 t) fullShare (iblk m c 5 t) := by
  rw [← afterV_5]

theorem leavesV_6 (c : Dev nD) (t : Fin cfg0.N) : (datsV m 0 c).leavesExact 6 t = owns (c : Thread nD τ) (ms0_6 t) fullShare (outT m c (cap t)) := by
  rw [← afterV_6]; unfold Dat.leavesExact; rw [idle0_6 t, flush0_6 t]
  by_cases h : t.val = 64
  · rw [decide_eq_true h, decide_eq_true (by omega)]
  · rw [decide_eq_false h]

theorem leavesV_7 (c : Dev nD) (t : Fin cfg0.N) (ht : t.val ≠ 0) : (datsV m 0 c).leavesExact 7 t = owns (c : Thread nD τ) (ms0_7 t) fullShare (codeT m c (prd t)) := by
  rw [← afterV_7]; unfold Dat.leavesExact; rw [idle0_7 t, decide_eq_false ht]

theorem leavesV_8 (c : Dev nD) (t : Fin cfg0.N) (ht : t.val ≠ 0) : (datsV m 0 c).leavesExact 8 t = owns (c : Thread nD τ) (ms0_8 t) fullShare (ysT m c (prd t)) := by
  rw [← afterV_8]; unfold Dat.leavesExact; rw [idle0_8 t, decide_eq_false ht]

theorem leavesV_7' (c : Dev nD) (t : Fin cfg0.N) (ht : t.val = 0) : (datsV m 0 c).leavesExact 7 t = iprop(∃ d, owns (c : Thread nD τ) (ms0_7 t) fullShare d) := by
  rw [Dat.leavesExact_idle _ _ _ (by rw [idle0_7, decide_eq_true ht]) (by rw [flush0_7]; simp [ht])]
  simp only [before_first m c 7 rfl t ht]
  rfl

theorem leavesV_8' (c : Dev nD) (t : Fin cfg0.N) (ht : t.val = 0) : (datsV m 0 c).leavesExact 8 t = iprop(∃ d, owns (c : Thread nD τ) (ms0_8 t) fullShare d) := by
  rw [Dat.leavesExact_idle _ _ _ (by rw [idle0_8, decide_eq_true ht]) (by rw [flush0_8]; simp [ht])]
  simp only [before_first m c 8 rfl t ht]
  rfl

theorem PhiV_tile (c : Dev nD) (n : Nat) (u : Fin cfg0.N) (h1 : n = u.val + 1) (h2 : n ≤ 64) : PhiV m c n = PhiT m c u := by
  unfold PhiV
  rw [dif_pos ⟨by omega, h2⟩]
  exact congrArg (PhiT m c) (Fin.ext (by simp [h1]))

theorem PhiV_any (c : Dev nD) (n : Nat) (h : n = 0 ∨ n = 65) : PhiV m c n = Pipeline.ΦA spec0 c := by
  unfold PhiV
  rw [dif_neg (by omega)]

set_option maxHeartbeats 1000000 in
theorem sound_first (c : Dev nD) (t : Fin cfg0.N) (ht : t.val = 0) :
    bodyPreV m c t ⊢ wp frame (wpE (defs₀ (F := Ideal)) Variants.none c none) Set.univ (bodyAt0 t) (fun _ => bodyPostV m c t) := by
  have hN : t.val < 65 := lt_of_lt_of_eq t.isLt (show cfg0.N = 65 from N_0)
  unfold bodyPreV bodyPostV
  simp only [beforeV_0, beforeV_1, beforeV_2, beforeV_3, beforeV_4, beforeV_5]
  rw [show (datsV m 0 c).owesAt () t.succ = (datsV m 0 c).owesAt () t.castSucc from rfl]
  rw [show (datsV m 0 c).Φ t.succ = PhiV m c (t.val + 1) from rfl, show (datsV m 0 c).Φ t.castSucc = PhiV m c t.val from rfl]
  rw [leavesV_0, leavesV_1, leavesV_2, leavesV_3, leavesV_4, leavesV_5, leavesV_6]
  rw [leavesV_7' m c t ht, leavesV_8' m c t ht, PhiV_any m c t.val (.inl ht), PhiV_tile m c (t.val + 1) t rfl (by omega), PhiA0_eq]
  have hcap : cap t = t := Fin.ext (by simp [cap]; omega)
  rw [hcap]
  unfold PhiT
  iintro ⟨⟨⟨⟨%e0, HS0⟩, ⟨%e1, HS1⟩, ⟨%e2, HS2⟩, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := Keep.step t (⟨iblk m c 0 t, iblk m c 1 t, iblk m c 2 t, iblk m c 3 t, iblk m c 4 t, iblk m c 5 t, (datsV m 0 c).before 6 t d6, (datsV m 0 c).before 7 t d7, (datsV m 0 c).before 8 t d8, e0, e1, e2, e3, e4⟩ : St Ideal)
  have hr : Reads (m := m) c t (⟨iblk m c 0 t, iblk m c 1 t, iblk m c 2 t, iblk m c 3 t, iblk m c 4 t, iblk m c 5 t, (datsV m 0 c).before 6 t d6, (datsV m 0 c).before 7 t d7, (datsV m 0 c).before 8 t d8, e0, e1, e2, e3, e4⟩ : St Ideal) := ⟨rfl, rfl, rfl, rfl, rfl, rfl⟩
  obtain ⟨⟨f10, f11, f12⟩, f7⟩ := step_first ht hr
  iapply (runs_at t (⟨iblk m c 0 t, iblk m c 1 t, iblk m c 2 t, iblk m c 3 t, iblk m c 4 t, iblk m c 5 t, (datsV m 0 c).before 6 t d6, (datsV m 0 c).before 7 t d7, (datsV m 0 c).before 8 t d8, e0, e1, e2, e3, e4⟩ : St Ideal) c _)
  generalize stepS t (⟨iblk m c 0 t, iblk m c 1 t, iblk m c 2 t, iblk m c 3 t, iblk m c 4 t, iblk m c 5 t, (datsV m 0 c).before 6 t d6, (datsV m 0 c).before 7 t d7, (datsV m 0 c).before 8 t d8, e0, e1, e2, e3, e4⟩ : St Ideal) = st at hk f10 f11 f12 f7
  obtain ⟨k1, k2, k3, k4, k5, k6⟩ := hk
  unfold Own
  rw [k1, k2, k3, k4, k5, k6, f10, f11, f12, f7]
  dsimp only
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexists _; iexact H7
    iexists _; iexact H8

set_option maxHeartbeats 1000000 in
theorem sound_mid (c : Dev nD) (t : Fin cfg0.N) (h0 : t.val ≠ 0) (h1 : t.val ≠ 64) :
    bodyPreV m c t ⊢ wp frame (wpE (defs₀ (F := Ideal)) Variants.none c none) Set.univ (bodyAt0 t) (fun _ => bodyPostV m c t) := by
  have hN : t.val < 65 := lt_of_lt_of_eq t.isLt (show cfg0.N = 65 from N_0)
  unfold bodyPreV bodyPostV
  simp only [beforeV_0, beforeV_1, beforeV_2, beforeV_3, beforeV_4, beforeV_5]
  rw [show (datsV m 0 c).owesAt () t.succ = (datsV m 0 c).owesAt () t.castSucc from rfl]
  rw [show (datsV m 0 c).Φ t.succ = PhiV m c (t.val + 1) from rfl, show (datsV m 0 c).Φ t.castSucc = PhiV m c t.val from rfl]
  rw [leavesV_0, leavesV_1, leavesV_2, leavesV_3, leavesV_4, leavesV_5, leavesV_6]
  rw [leavesV_7 m c t h0, leavesV_8 m c t h0, PhiV_tile m c t.val (prd t) (by simp [prd]; omega) (by omega), PhiV_tile m c (t.val + 1) t rfl (by omega)]
  have hcap : cap t = t := Fin.ext (by simp [cap]; omega)
  rw [hcap]
  unfold PhiT
  iintro ⟨⟨⟨HS0, HS1, HS2, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := Keep.step t (⟨iblk m c 0 t, iblk m c 1 t, iblk m c 2 t, iblk m c 3 t, iblk m c 4 t, iblk m c 5 t, (datsV m 0 c).before 6 t d6, (datsV m 0 c).before 7 t d7, (datsV m 0 c).before 8 t d8, tT m c (prd t), qT m c (prd t), mT m c (prd t), e3, e4⟩ : St Ideal)
  have hr : Reads (m := m) c t (⟨iblk m c 0 t, iblk m c 1 t, iblk m c 2 t, iblk m c 3 t, iblk m c 4 t, iblk m c 5 t, (datsV m 0 c).before 6 t d6, (datsV m 0 c).before 7 t d7, (datsV m 0 c).before 8 t d8, tT m c (prd t), qT m c (prd t), mT m c (prd t), e3, e4⟩ : St Ideal) := ⟨rfl, rfl, rfl, rfl, rfl, rfl⟩
  have hd : Done (m := m) c (prd t) (⟨iblk m c 0 t, iblk m c 1 t, iblk m c 2 t, iblk m c 3 t, iblk m c 4 t, iblk m c 5 t, (datsV m 0 c).before 6 t d6, (datsV m 0 c).before 7 t d7, (datsV m 0 c).before 8 t d8, tT m c (prd t), qT m c (prd t), mT m c (prd t), e3, e4⟩ : St Ideal) := ⟨rfl, rfl, rfl⟩
  obtain ⟨⟨⟨f10, f11, f12⟩, f7⟩, f8, f9⟩ := step_mid h0 h1 hr hd
  iapply (runs_at t (⟨iblk m c 0 t, iblk m c 1 t, iblk m c 2 t, iblk m c 3 t, iblk m c 4 t, iblk m c 5 t, (datsV m 0 c).before 6 t d6, (datsV m 0 c).before 7 t d7, (datsV m 0 c).before 8 t d8, tT m c (prd t), qT m c (prd t), mT m c (prd t), e3, e4⟩ : St Ideal) c _)
  generalize stepS t (⟨iblk m c 0 t, iblk m c 1 t, iblk m c 2 t, iblk m c 3 t, iblk m c 4 t, iblk m c 5 t, (datsV m 0 c).before 6 t d6, (datsV m 0 c).before 7 t d7, (datsV m 0 c).before 8 t d8, tT m c (prd t), qT m c (prd t), mT m c (prd t), e3, e4⟩ : St Ideal) = st at hk f10 f11 f12 f7 f8 f9
  obtain ⟨k1, k2, k3, k4, k5, k6⟩ := hk
  unfold Own
  rw [k1, k2, k3, k4, k5, k6, f10, f11, f12, f7, f8, f9]
  dsimp only
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexact HS0
        isplitl [HS1]; · iexact HS1
        isplitl [HS2]; · iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

set_option maxHeartbeats 1000000 in
theorem sound_last (c : Dev nD) (t : Fin cfg0.N) (h1 : t.val = 64) :
    bodyPreV m c t ⊢ wp frame (wpE (defs₀ (F := Ideal)) Variants.none c none) Set.univ (bodyAt0 t) (fun _ => bodyPostV m c t) := by
  have hN : t.val < 65 := lt_of_lt_of_eq t.isLt (show cfg0.N = 65 from N_0)
  unfold bodyPreV bodyPostV
  simp only [beforeV_0, beforeV_1, beforeV_2, beforeV_3, beforeV_4, beforeV_5]
  rw [show (datsV m 0 c).owesAt () t.succ = (datsV m 0 c).owesAt () t.castSucc from rfl]
  rw [show (datsV m 0 c).Φ t.succ = PhiV m c (t.val + 1) from rfl, show (datsV m 0 c).Φ t.castSucc = PhiV m c t.val from rfl]
  rw [leavesV_0, leavesV_1, leavesV_2, leavesV_3, leavesV_4, leavesV_5, leavesV_6]
  rw [leavesV_7 m c t (by omega), leavesV_8 m c t (by omega), PhiV_tile m c t.val (prd t) (by simp [prd]; omega) (by omega), PhiV_any m c (t.val + 1) (.inr (by omega)), PhiA0_eq]
  simp only [before_last m c t h1]
  unfold PhiT
  iintro ⟨⟨⟨HS0, HS1, HS2, ⟨%e3, HS3⟩, ⟨%e4, HS4⟩⟩, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
  have hk := Keep.step t (⟨iblk m c 0 t, iblk m c 1 t, iblk m c 2 t, iblk m c 3 t, iblk m c 4 t, iblk m c 5 t, outT m c (cap t), (datsV m 0 c).before 7 t d7, (datsV m 0 c).before 8 t d8, tT m c (prd t), qT m c (prd t), mT m c (prd t), e3, e4⟩ : St Ideal)
  have hr : Reads (m := m) c t (⟨iblk m c 0 t, iblk m c 1 t, iblk m c 2 t, iblk m c 3 t, iblk m c 4 t, iblk m c 5 t, outT m c (cap t), (datsV m 0 c).before 7 t d7, (datsV m 0 c).before 8 t d8, tT m c (prd t), qT m c (prd t), mT m c (prd t), e3, e4⟩ : St Ideal) := ⟨rfl, rfl, rfl, rfl, rfl, rfl⟩
  have hd : Done (m := m) c (prd t) (⟨iblk m c 0 t, iblk m c 1 t, iblk m c 2 t, iblk m c 3 t, iblk m c 4 t, iblk m c 5 t, outT m c (cap t), (datsV m 0 c).before 7 t d7, (datsV m 0 c).before 8 t d8, tT m c (prd t), qT m c (prd t), mT m c (prd t), e3, e4⟩ : St Ideal) := ⟨rfl, rfl, rfl⟩
  obtain ⟨f7, f8, f9⟩ := step_last h1 hd
  iapply (runs_at t (⟨iblk m c 0 t, iblk m c 1 t, iblk m c 2 t, iblk m c 3 t, iblk m c 4 t, iblk m c 5 t, outT m c (cap t), (datsV m 0 c).before 7 t d7, (datsV m 0 c).before 8 t d8, tT m c (prd t), qT m c (prd t), mT m c (prd t), e3, e4⟩ : St Ideal) c _)
  generalize stepS t (⟨iblk m c 0 t, iblk m c 1 t, iblk m c 2 t, iblk m c 3 t, iblk m c 4 t, iblk m c 5 t, outT m c (cap t), (datsV m 0 c).before 7 t d7, (datsV m 0 c).before 8 t d8, tT m c (prd t), qT m c (prd t), mT m c (prd t), e3, e4⟩ : St Ideal) = st at hk f7 f8 f9
  obtain ⟨k1, k2, k3, k4, k5, k6⟩ := hk
  unfold Own
  rw [k1, k2, k3, k4, k5, k6, f7, f8, f9]
  dsimp only
  isplitl [H0 H1 H2 H3 H4 H5 H6 H7 H8 HS0 HS1 HS2 HS3 HS4]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [HS0]; · iexact HS0
    isplitl [HS1]; · iexact HS1
    isplitl [HS2]; · iexact HS2
    isplitl [HS3]; · iexact HS3
    iexact HS4
  · iintro ⟨H0, H1, H2, H3, H4, H5, H6, H7, H8, HS0, HS1, HS2, HS3, HS4⟩
    isplitl [HS0 HS1 HS2 HS3 HS4 Hg]
    · isplitl [HS0 HS1 HS2 HS3 HS4]
      · isplitl [HS0]; · iexists _; iexact HS0
        isplitl [HS1]; · iexists _; iexact HS1
        isplitl [HS2]; · iexists _; iexact HS2
        isplitl [HS3]; · iexists _; iexact HS3
        iexists _; iexact HS4
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    iexact H8

theorem sound_bodyV (c : Dev nD) (t : Fin cfg0.N) :
    bodyPreV m c t ⊢ wp frame (wpE (defs₀ (F := Ideal)) Variants.none c none) Set.univ (bodyAt0 t) (fun _ => bodyPostV m c t) := by
  by_cases h0 : t.val = 0
  · exact sound_first m c t h0
  · by_cases h1 : t.val = 64
    · exact sound_last m c t h1
    · exact sound_mid m c t h0 h1

theorem body_obligationV (c : Dev nD) : BodyObligation (datsV m 0 c) (defs₀ (F := Ideal)) Variants.none () Set.univ := fun t => by
  rw [bigSep_W0, bigSep_W0, defs₀_row]
  exact triple_restated (sound_bodyV m c t) rfl .rfl fun _ => .rfl

theorem hinV (c : Dev nD) : Pipeline.ΦA spec0 c ⊢ (datsV m 0 c).Φ 0 := by
  rw [show (datsV m 0 c).Φ 0 = PhiV m c 0 from rfl, PhiV_any m c 0 (.inl rfl)]

theorem houtV (c : Dev nD) : (datsV m 0 c).Φ (Fin.last cfg0.N) ⊢ Pipeline.ΦA spec0 c := by
  rw [show (datsV m 0 c).Φ (Fin.last cfg0.N) = PhiV m c 65 from rfl, PhiV_any m c 65 (.inr rfl)]

set_option backward.isDefEq.respectTransparency.types false in
set_option maxHeartbeats 800000 in
theorem run_mainV : θ_run defs (onTc (τ := τ) (main (F := Ideal))) (s₀ m ρ)
    (fun r => Pipeline.FramePost cfgs (datsV m) (0 : Fin 1) (Pipeline.afterTail₀ cfgs (datsV m) 0 (V0 m) [hostOps1]) r ∧ r.2.sem = fun _ => 0) :=
  Pipeline.θ_run_frame_around_track (Q' := _) cfgs (datsV m) (0 : Fin 1) launch0 defs₀ Variants.none m ρ main
    (hbody := fun c => (body_obligationV m c).loose) (hshare := fun c => (datsV m 0 c).share_full fun _ => rfl)
    (howed := fun _ _ => rfl) (V₀ := V0 m) (opss := [hostOps1]) (hsub := sfx_sub) (hfresh := sfx_fresh) (hkeep := sfx_keeps)
    (hmain := hmain m Variants.none) (hA := A_eqV m) (hin := hinV m) (hout := houtV m)

end Cert.KernelIdeal.Gen
-- ==== Proof.IdealArrays.lean ====
/- The result arrays of the kernel over the extended reals, entry by entry, as functions of the argument arrays. -/
module

public import proofs.«01_k».proof.Proof.IdealRun
public import Idealize.ShloMosaic.Lib.Pipeline.ValueKit
public import Idealize.ShloMosaic.Lib.StableHlo.Run

@[expose] public section

set_option maxRecDepth 16384

noncomputable section

namespace Cert.KernelIdeal.Gen

open Idealize.ShloMosaic hiding ix1 ix2 ix3
open Idealize.ShloMosaic.TcCoe Idealize.ShloMosaic.ValueIdx
open Idealize.SL.Sem
open Idealize.ShloMosaic.Pipeline (Dat)
open Facts₀

variable (m : (ℓ : Loc nD τ sig) → Buf (Elt Ideal) ℓ) (ρ : Dev nD → PrngReg)

/-! ## The arrays the region finds -/

theorem V_v0 (c : Dev nD) : V m c main_v0 = shapeCast S64x1x256 (m ((c : Thread nD τ).loc main_arg1)) shapeCasts_S2x8192x1_S64x1x256 := by
  show StableHlo.after (List.flatten [hostOps0]) _ (Proc.devRef .tc main_v0) = _
  simp only [hostOps0, List.flatten_cons, List.flatten_nil, List.append_nil]
  after_results
  rfl

theorem V_v1 (c : Dev nD) : V m c main_v1 = shapeCast S16384x1664 (m ((c : Thread nD τ).loc main_arg0)) shapeCasts_S2x8192x1664_S16384x1664 := by
  show StableHlo.after (List.flatten [hostOps0]) _ (Proc.devRef .tc main_v1) = _
  simp only [hostOps0, List.flatten_cons, List.flatten_nil, List.append_nil]
  after_results
  rfl

theorem V_v2 (c : Dev nD) : V m c main_v2 = shapeCast S1x4352 (m ((c : Thread nD τ).loc main_arg3)) shapeCasts_S4352_S1x4352 := by
  show StableHlo.after (List.flatten [hostOps0]) _ (Proc.devRef .tc main_v2) = _
  simp only [hostOps0, List.flatten_cons, List.flatten_nil, List.append_nil]
  after_results
  rfl

theorem V_v3 (c : Dev nD) : V m c main_v3 = shapeCast S16384x4352 (m ((c : Thread nD τ).loc main_arg4)) shapeCasts_S2x8192x4352_S16384x4352 := by
  show StableHlo.after (List.flatten [hostOps0]) _ (Proc.devRef .tc main_v3) = _
  simp only [hostOps0, List.flatten_cons, List.flatten_nil, List.append_nil]
  after_results
  rfl

theorem V_v5 (c : Dev nD) : V m c main_v5 = shapeCast S1x4352 (m ((c : Thread nD τ).loc main_arg5)) shapeCasts_S4352_S1x4352 := by
  show StableHlo.after (List.flatten [hostOps0]) _ (Proc.devRef .tc main_v5) = _
  simp only [hostOps0, List.flatten_cons, List.flatten_nil, List.append_nil]
  after_results
  rfl

/-! ## The blocks of a tile, entry by entry -/

/-- The row of the whole problem that is row `i` of the tile `t`. -/
def rowAt (t : Fin cfg0.N) (i : Fin 256) : Fin 16384 := ⟨min t.val 63 * 256 + i.val, by omega⟩

/-- The batch of a row. -/
def batchOf (R : Fin 16384) : Fin 2 := ⟨R.val / 8192, by omega⟩

/-- The position of a row in its batch. -/
def posOf (R : Fin 16384) : Fin 8192 := ⟨R.val % 8192, by omega⟩

theorem index0_0 : ∀ t : Fin cfg0.N, win0_0.index t (0 : Fin 3) = min t.val 63 ∧ win0_0.index t (1 : Fin 3) = 0 ∧ win0_0.index t (2 : Fin 3) = 0 :=
  (by decide +kernel : ∀ t : Fin grid0.N, win0_0.index t (0 : Fin 3) = min t.val 63 ∧ win0_0.index t (1 : Fin 3) = 0 ∧ win0_0.index t (2 : Fin 3) = 0)

theorem index0_1 : ∀ t : Fin cfg0.N, win0_1.index t (0 : Fin 2) = min t.val 63 ∧ win0_1.index t (1 : Fin 2) = 0 :=
  (by decide +kernel : ∀ t : Fin grid0.N, win0_1.index t (0 : Fin 2) = min t.val 63 ∧ win0_1.index t (1 : Fin 2) = 0)

theorem index0_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)

theorem index0_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)

theorem index0_4 : ∀ t : Fin cfg0.N, win0_4.index t (0 : Fin 2) = min t.val 63 ∧ win0_4.index t (1 : Fin 2) = 0 :=
  (by decide +kernel : ∀ t : Fin grid0.N, win0_4.index t (0 : Fin 2) = min t.val 63 ∧ win0_4.index t (1 : Fin 2) = 0)

theorem index0_5 : ∀ t : Fin cfg0.N, win0_5.index t (0 : Fin 2) = 0 ∧ win0_5.index t (1 : Fin 2) = 0 :=
  (by decide +kernel : ∀ t : Fin grid0.N, win0_5.index t (0 : Fin 2) = 0 ∧ win0_5.index t (1 : Fin 2) = 0)

theorem index0_6 : ∀ t : Fin cfg0.N, win0_6.index t (0 : Fin 2) = min t.val 63 ∧ win0_6.index t (1 : Fin 2) = 0 :=
  (by decide +kernel : ∀ t : Fin grid0.N, win0_6.index t (0 : Fin 2) = min t.val 63 ∧ win0_6.index t (1 : Fin 2) = 0)

theorem index0_7 : ∀ t : Fin cfg0.N, win0_7.index t (0 : Fin 2) = t.val - 1 ∧ win0_7.index t (1 : Fin 2) = 0 :=
  (by decide +kernel : ∀ t : Fin grid0.N, win0_7.index t (0 : Fin 2) = t.val - 1 ∧ win0_7.index t (1 : Fin 2) = 0)

theorem index0_8 : ∀ t : Fin cfg0.N, win0_8.index t (0 : Fin 3) = t.val - 1 ∧ win0_8.index t (1 : Fin 3) = 0 ∧ win0_8.index t (2 : Fin 3) = 0 :=
  (by decide +kernel : ∀ t : Fin grid0.N, win0_8.index t (0 : Fin 3) = t.val - 1 ∧ win0_8.index t (1 : Fin 3) = 0 ∧ win0_8.index t (2 : Fin 3) = 0)

theorem blk0_at (c : Dev nD) (t : Fin cfg0.N) (i : Fin 256) :
    iblk m c 0 t (ix3 (0 : Fin 1) (0 : Fin 1) i : S1x1x256.Idx) = (m ((c : Thread nD τ).loc main_arg1) : S2x8192x1.Idx → EReal) (ix3 (batchOf (rowAt t i)) (posOf (rowAt t i)) (0 : Fin 1)) := by
  have e : ((cfg0.win 0).blk t).view.emb (ix3 (0 : Fin 1) (0 : Fin 1) i : S1x1x256.Idx) = (ix3 (⟨min t.val 63, by omega⟩ : Fin 64) (0 : Fin 1) i : S64x1x256.Idx) := by
    obtain ⟨e0, e1, e2⟩ := index0_0 t
    funext a; apply Fin.ext
    match a with
    | ⟨0, _⟩ => show win0_0.index t (0 : Fin 3) * 1 + 1 * 0 = min t.val 63; omega
    | ⟨1, _⟩ => show win0_0.index t (1 : Fin 3) * 1 + 1 * 0 = 0; omega
    | ⟨2, _⟩ => show win0_0.index t (2 : Fin 3) * 256 + 1 * i.val = i.val; omega
  show V m c main_v0 (((cfg0.win 0).blk t).view.emb (ix3 (0 : Fin 1) (0 : Fin 1) i : S1x1x256.Idx)) = _
  rw [e, V_v0]
  refine shapeCast_apply (s := S2x8192x1) _ _ _ _ ?_
  rw [Shape.rowMajor_val_three, Shape.rowMajor_val_three]
  show ((min t.val 63 * 256 + i.val) / 8192 * 8192 + (min t.val 63 * 256 + i.val) % 8192) * 1 + 0 = (min t.val 63 * 1 + 0) * 256 + i.val
  omega

theorem blk1_at (c : Dev nD) (t : Fin cfg0.N) (i : Fin 256) (k : Fin 1664) :
    iblk m c 1 t (ix2 i k : S256x1664.Idx) = (m ((c : Thread nD τ).loc main_arg0) : S2x8192x1664.Idx → EReal) (ix3 (batchOf (rowAt t i)) (posOf (rowAt t i)) k) := by
  have e : ((cfg0.win 1).blk t).view.emb (ix2 i k : S256x1664.Idx) = (ix2 (rowAt t i) k : S16384x1664.Idx) := by
    obtain ⟨e0, e1⟩ := index0_1 t
    funext a; apply Fin.ext
    match a with
    | ⟨0, _⟩ => show win0_1.index t (0 : Fin 2) * 256 + 1 * i.val = min t.val 63 * 256 + i.val; omega
    | ⟨1, _⟩ => show win0_1.index t (1 : Fin 2) * 1664 + 1 * k.val = k.val; omega
  show V m c main_v1 (((cfg0.win 1).blk t).view.emb (ix2 i k : S256x1664.Idx)) = _
  rw [e, V_v1]
  refine shapeCast_apply (s := S2x8192x1664) _ _ _ _ ?_
  rw [Shape.rowMajor_val_three, Shape.rowMajor_val_two]
  show ((min t.val 63 * 256 + i.val) / 8192 * 8192 + (min t.val 63 * 256 + i.val) % 8192) * 1664 + k.val = (min t.val 63 * 256 + i.val) * 1664 + k.val
  omega

theorem blk2_at (c : Dev nD) (t : Fin cfg0.N) (k : Fin 1664) (j : Fin 4352) :
    iblk m c 2 t (ix2 k j : S1664x4352.Idx) = (m ((c : Thread nD τ).loc main_arg2) : S1664x4352.Idx → EReal) (ix2 k j) := by
  have e : ((cfg0.win 2).blk t).view.emb (ix2 k j : S1664x4352.Idx) = (ix2 k j : S1664x4352.Idx) := by
    obtain ⟨e0, e1⟩ := index0_2 t
    funext a; apply Fin.ext
    match a with
    | ⟨0, _⟩ => show win0_2.index t (0 : Fin 2) * 1664 + 1 * k.val = k.val; omega
    | ⟨1, _⟩ => show win0_2.index t (1 : Fin 2) * 4352 + 1 * j.val = j.val; omega
  show V m c main_arg2 (((cfg0.win 2).blk t).view.emb (ix2 k j : S1664x4352.Idx)) = _
  rw [e, V_main_arg2]

theorem blk3_at (c : Dev nD) (t : Fin cfg0.N) (j : Fin 4352) :
    iblk m c 3 t (ix2 (0 : Fin 1) j : S1x4352.Idx) = (m ((c : Thread nD τ).loc main_arg3) : S4352.Idx → EReal) (ix1 j) := by
  have e : ((cfg0.win 3).blk t).view.emb (ix2 (0 : Fin 1) j : S1x4352.Idx) = (ix2 (0 : Fin 1) j : S1x4352.Idx) := by
    obtain ⟨e0, e1⟩ := index0_3 t
    funext a; apply Fin.ext
    match a with
    | ⟨0, _⟩ => show win0_3.index t (0 : Fin 2) * 1 + 1 * 0 = 0; omega
    | ⟨1, _⟩ => show win0_3.index t (1 : Fin 2) * 4352 + 1 * j.val = j.val; omega
  show V m c main_v2 (((cfg0.win 3).blk t).view.emb (ix2 (0 : Fin 1) j : S1x4352.Idx)) = _
  rw [e, V_v2]
  refine shapeCast_apply (s := S4352) _ _ _ _ ?_
  rw [Shape.rowMajor_val_one, Shape.rowMajor_val_two]
  show j.val = 0 * 4352 + j.val
  omega

theorem blk4_at (c : Dev nD) (t : Fin cfg0.N) (i : Fin 256) (j : Fin 4352) :
    iblk m c 4 t (ix2 i j : S256x4352.Idx) = (m ((c : Thread nD τ).loc main_arg4) : S2x8192x4352.Idx → EReal) (ix3 (batchOf (rowAt t i)) (posOf (rowAt t i)) j) := by
  have e : ((cfg0.win 4).blk t).view.emb (ix2 i j : S256x4352.Idx) = (ix2 (rowAt t i) j : S16384x4352.Idx) := by
    obtain ⟨e0, e1⟩ := index0_4 t
    funext a; apply Fin.ext
    match a with
    | ⟨0, _⟩ => show win0_4.index t (0 : Fin 2) * 256 + 1 * i.val = min t.val 63 * 256 + i.val; omega
    | ⟨1, _⟩ => show win0_4.index t (1 : Fin 2) * 4352 + 1 * j.val = j.val; omega
  show V m c main_v3 (((cfg0.win 4).blk t).view.emb (ix2 i j : S256x4352.Idx)) = _
  rw [e, V_v3]
  refine shapeCast_apply (s := S2x8192x4352) _ _ _ _ ?_
  rw [Shape.rowMajor_val_three, Shape.rowMajor_val_two]
  show ((min t.val 63 * 256 + i.val) / 8192 * 8192 + (min t.val 63 * 256 + i.val) % 8192) * 4352 + j.val = (min t.val 63 * 256 + i.val) * 4352 + j.val
  omega

theorem blk5_at (c : Dev nD) (t : Fin cfg0.N) (j : Fin 4352) :
    iblk m c 5 t (ix2 (0 : Fin 1) j : S1x4352.Idx) = (m ((c : Thread nD τ).loc main_arg5) : S4352.Idx → EReal) (ix1 j) := by
  have e : ((cfg0.win 5).blk t).view.emb (ix2 (0 : Fin 1) j : S1x4352.Idx) = (ix2 (0 : Fin 1) j : S1x4352.Idx) := by
    obtain ⟨e0, e1⟩ := index0_5 t
    funext a; apply Fin.ext
    match a with
    | ⟨0, _⟩ => show win0_5.index t (0 : Fin 2) * 1 + 1 * 0 = 0; omega
    | ⟨1, _⟩ => show win0_5.index t (1 : Fin 2) * 4352 + 1 * j.val = j.val; omega
  show V m c main_v5 (((cfg0.win 5).blk t).view.emb (ix2 (0 : Fin 1) j : S1x4352.Idx)) = _
  rw [e, V_v5]
  refine shapeCast_apply (s := S4352) _ _ _ _ ?_
  rw [Shape.rowMajor_val_one, Shape.rowMajor_val_two]
  show j.val = 0 * 4352 + j.val
  omega

/-! ## The result arrays, tile by tile -/

/-- The tile of a row. -/
def tileOf (R : Fin 16384) : Fin cfg0.N := ⟨R.val / 256, by have : cfg0.N = 65 := N_0; omega⟩

/-- The row of a row in its tile. -/
def innerOf (R : Fin 16384) : Fin 256 := ⟨R.val % 256, by omega⟩

theorem rowAt_tile (R : Fin 16384) : rowAt (tileOf R) (innerOf R) = R :=
  Fin.ext (by show min (R.val / 256) 63 * 256 + R.val % 256 = R.val; omega)

/-- The residual output of every row. -/
def arr6 (c : Dev nD) : S16384x4352.Idx → EReal := fun p => outT m c (tileOf (p 0)) (ix2 (innerOf (p 0)) (p 1))

/-- The codes of every row. -/
def arr7 (c : Dev nD) : S16384x4352.Idx → EReal := fun p => codeT m c (tileOf (p 0)) (ix2 (innerOf (p 0)) (p 1))

/-- The scales of every row, tile by tile. -/
def arr8 (c : Dev nD) : S64x1x256.Idx → EReal := fun p => ysT m c ⟨(p 0).val, by have : cfg0.N = 65 := N_0; have : (p 0).val < 64 := (p 0).isLt; omega⟩ (ix3 (0 : Fin 1) (0 : Fin 1) (p 2))

theorem final6 (c : Dev nD) : (datsV m 0 c).arrAt 6 cfg0.N = arr6 m c := by
  refine (datsV m 0 c).arrAt_eq_of_covers 6 _ (by decide +kernel) fun t hf y => ?_
  have ht : t.val < 65 := lt_of_lt_of_eq t.isLt N_0
  obtain ⟨e0, e1⟩ := index0_6 t
  have hy0 : (y 0).val < 256 := (y 0).isLt
  have E0 : ((((cfg0.win 6).blk t).view.emb y : S16384x4352.Idx) 0).val = min t.val 63 * 256 + (y 0).val := by
    show win0_6.index t (0 : Fin 2) * 256 + 1 * (y 0).val = _
    omega
  have E1 : ((((cfg0.win 6).blk t).view.emb y : S16384x4352.Idx) 1).val = (y 1).val := by
    show win0_6.index t (1 : Fin 2) * 4352 + 1 * (y 1).val = _
    omega
  show (datsV m 0 c).after 6 t y = outT m c (tileOf ((((cfg0.win 6).blk t).view.emb y : S16384x4352.Idx) 0)) (ix2 (innerOf ((((cfg0.win 6).blk t).view.emb y : S16384x4352.Idx) 0)) ((((cfg0.win 6).blk t).view.emb y : S16384x4352.Idx) 1))
  rw [afterV_6]
  have eT : tileOf ((((cfg0.win 6).blk t).view.emb y : S16384x4352.Idx) 0) = cap t := Fin.ext (by show _ / 256 = min t.val 63; rw [E0]; omega)
  have eI : (ix2 (innerOf ((((cfg0.win 6).blk t).view.emb y : S16384x4352.Idx) 0)) ((((cfg0.win 6).blk t).view.emb y : S16384x4352.Idx) 1) : S256x4352.Idx) = y := by
    funext a; apply Fin.ext
    match a with
    | ⟨0, _⟩ => show _ % 256 = (y 0).val; rw [E0]; omega
    | ⟨1, _⟩ => exact E1
  rw [eT, eI]

theorem final7 (c : Dev nD) : (datsV m 0 c).arrAt 7 cfg0.N = arr7 m c := by
  refine (datsV m 0 c).arrAt_eq_of_covers 7 _ (by decide +kernel) fun t hf y => ?_
  have ht : t.val < 65 := lt_of_lt_of_eq t.isLt N_0
  obtain ⟨e0, e1⟩ := index0_7 t
  have hy0 : (y 0).val < 256 := (y 0).isLt
  have E0 : ((((cfg0.win 7).blk t).view.emb y : S16384x4352.Idx) 0).val = (t.val - 1) * 256 + (y 0).val := by
    show win0_7.index t (0 : Fin 2) * 256 + 1 * (y 0).val = _
    omega
  have E1 : ((((cfg0.win 7).blk t).view.emb y : S16384x4352.Idx) 1).val = (y 1).val := by
    show win0_7.index t (1 : Fin 2) * 4352 + 1 * (y 1).val = _
    omega
  show (datsV m 0 c).after 7 t y = codeT m c (tileOf ((((cfg0.win 7).blk t).view.emb y : S16384x4352.Idx) 0)) (ix2 (innerOf ((((cfg0.win 7).blk t).view.emb y : S16384x4352.Idx) 0)) ((((cfg0.win 7).blk t).view.emb y : S16384x4352.Idx) 1))
  rw [afterV_7]
  have eT : tileOf ((((cfg0.win 7).blk t).view.emb y : S16384x4352.Idx) 0) = prd t := Fin.ext (by show _ / 256 = t.val - 1; rw [E0]; omega)
  have eI : (ix2 (innerOf ((((cfg0.win 7).blk t).view.emb y : S16384x4352.Idx) 0)) ((((cfg0.win 7).blk t).view.emb y : S16384x4352.Idx) 1) : S256x4352.Idx) = y := by
    funext a; apply Fin.ext
    match a with
    | ⟨0, _⟩ => show _ % 256 = (y 0).val; rw [E0]; omega
    | ⟨1, _⟩ => exact E1
  rw [eT, eI]

theorem final8 (c : Dev nD) : (datsV m 0 c).arrAt 8 cfg0.N = arr8 m c := by
  refine (datsV m 0 c).arrAt_eq_of_covers 8 _ (by decide +kernel) fun t hf y => ?_
  have ht : t.val < 65 := lt_of_lt_of_eq t.isLt N_0
  obtain ⟨e0, e1, e2⟩ := index0_8 t
  have hy0 : (y 0).val < 1 := (y 0).isLt
  have hy1 : (y 1).val < 1 := (y 1).isLt
  have E0 : ((((cfg0.win 8).blk t).view.emb y : S64x1x256.Idx) 0).val = t.val - 1 := by
    show win0_8.index t (0 : Fin 3) * 1 + 1 * (y 0).val = _
    omega
  have E2 : ((((cfg0.win 8).blk t).view.emb y : S64x1x256.Idx) 2).val = (y 2).val := by
    show win0_8.index t (2 : Fin 3) * 256 + 1 * (y 2).val = _
    omega
  show (datsV m 0 c).after 8 t y = arr8 m c ((((cfg0.win 8).blk t).view.emb y : S64x1x256.Idx))
  rw [afterV_8]
  unfold arr8
  have eT : (⟨((((cfg0.win 8).blk t).view.emb y : S64x1x256.Idx) 0).val, by have : cfg0.N = 65 := N_0; omega⟩ : Fin cfg0.N) = prd t := Fin.ext E0
  have eI : (ix3 (0 : Fin 1) (0 : Fin 1) ((((cfg0.win 8).blk t).view.emb y : S64x1x256.Idx) 2) : S1x1x256.Idx) = y := by
    funext a; apply Fin.ext
    match a with
    | ⟨0, _⟩ => show 0 = (y 0).val; omega
    | ⟨1, _⟩ => show 0 = (y 1).val; omega
    | ⟨2, _⟩ => exact E2
  rw [eT, eI]

/-! ## The results of the program -/

/-- The row of a batch and a position in it. -/
def rowOf (b : Fin 2) (s : Fin 8192) : Fin 16384 := ⟨b.val * 8192 + s.val, by omega⟩

/-- The program's first result. -/
def res0 (c : Dev nD) : S2x8192x4352.Idx → EReal := fun p => arr6 m c (ix2 (rowOf (p 0) (p 1)) (p 2))

/-- The program's second result. -/
def res1 (c : Dev nD) : S2x8192x4352.Idx → EReal := fun p => arr7 m c (ix2 (rowOf (p 0) (p 1)) (p 2))

/-- The program's third result. -/
def res2 (c : Dev nD) : S2x8192x1.Idx → EReal := fun p => ysT m c (tileOf (rowOf (p 0) (p 1))) (ix3 (0 : Fin 1) (0 : Fin 1) (innerOf (rowOf (p 0) (p 1))))

theorem cast_rows (X : S16384x4352.Idx → EReal) (p : S2x8192x4352.Idx) :
    shapeCast S2x8192x4352 X shapeCasts_S16384x4352_S2x8192x4352 p = X (ix2 (rowOf (p 0) (p 1)) (p 2)) := by
  refine shapeCast_apply _ _ _ _ ?_
  rw [Shape.rowMajor_val_three, Shape.rowMajor_val_two]
  rfl

theorem cast_scales (c : Dev nD) (p : S2x8192x1.Idx) :
    shapeCast S2x8192x1 (arr8 m c) shapeCasts_S64x1x256_S2x8192x1 p = res2 m c p := by
  refine (shapeCast_apply (arr8 m c) _ p (ix3 (⟨(rowOf (p 0) (p 1)).val / 256, by omega⟩ : Fin 64) (0 : Fin 1) (innerOf (rowOf (p 0) (p 1)))) ?_).trans rfl
  rw [Shape.rowMajor_val_three, Shape.rowMajor_val_three]
  have h2 : (p 2).val < 1 := (p 2).isLt
  show (((p 0).val * 8192 + (p 1).val) / 256 * 1 + 0) * 256 + ((p 0).val * 8192 + (p 1).val) % 256 = ((p 0).val * 8192 + (p 1).val) * 1 + (p 2).val
  omega

theorem W_v7 (c : Dev nD) : Pipeline.afterTail₀ cfgs (datsV m) 0 (V0 m) [hostOps1] c main_v7 = res0 m c := by
  unfold Pipeline.afterTail₀
  show StableHlo.after (List.flatten [hostOps1]) _ (Proc.devRef .tc main_v7) = _
  simp only [hostOps1, List.flatten_cons, List.flatten_nil, List.append_nil]
  after_results
  funext p
  refine (cast_rows _ p).trans ?_
  have h := Pipeline.withArrays_arr spec0 launch0.win.arr_inj c (V0 m c) (fun w => (datsV m 0 c).arrAt w cfg0.N) 6
  exact (congrFun (h.trans (final6 m c)) _)

theorem W_v8 (c : Dev nD) : Pipeline.afterTail₀ cfgs (datsV m) 0 (V0 m) [hostOps1] c main_v8 = res1 m c := by
  unfold Pipeline.afterTail₀
  show StableHlo.after (List.flatten [hostOps1]) _ (Proc.devRef .tc main_v8) = _
  simp only [hostOps1, List.flatten_cons, List.flatten_nil, List.append_nil]
  after_results
  funext p
  refine (cast_rows _ p).trans ?_
  have h := Pipeline.withArrays_arr spec0 launch0.win.arr_inj c (V0 m c) (fun w => (datsV m 0 c).arrAt w cfg0.N) 7
  exact (congrFun (h.trans (final7 m c)) _)

theorem W_v9 (c : Dev nD) : Pipeline.afterTail₀ cfgs (datsV m) 0 (V0 m) [hostOps1] c main_v9 = res2 m c := by
  unfold Pipeline.afterTail₀
  show StableHlo.after (List.flatten [hostOps1]) _ (Proc.devRef .tc main_v9) = _
  simp only [hostOps1, List.flatten_cons, List.flatten_nil, List.append_nil]
  after_results
  have h := Pipeline.withArrays_arr spec0 launch0.win.arr_inj c (V0 m c) (fun w => (datsV m 0 c).arrAt w cfg0.N) 8
  funext p
  refine Eq.trans ?_ (cast_scales m c p)
  exact congrFun (congrArg (fun X : S64x1x256.Idx → EReal => shapeCast S2x8192x1 X shapeCasts_S64x1x256_S2x8192x1) (h.trans (final8 m c))) p

/-- The run of the kernel over the extended reals with its results named. -/
theorem run_results : θ_run defs (onTc (τ := τ) (main (F := Ideal))) ⟨m, fun _ => 0, ρ⟩ fun r => ∀ c : Dev nD,
      r.2.mem ((c.tc : Thread nD τ).loc main_v7) = res0 m c
      ∧ r.2.mem ((c.tc : Thread nD τ).loc main_v8) = res1 m c
      ∧ r.2.mem ((c.tc : Thread nD τ).loc main_v9) = res2 m c
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) :=
  (θ_run defs _ _).mono (fun r h c => ⟨((h.1 c).2 main_v7 (Pipeline.mem_restRefs_of main_v7 (by decide) (by decide))).trans (W_v7 m c),
      ((h.1 c).2 main_v8 (Pipeline.mem_restRefs_of main_v8 (by decide) (by decide))).trans (W_v8 m c),
      ((h.1 c).2 main_v9 (Pipeline.mem_restRefs_of main_v9 (by decide) (by decide))).trans (W_v9 m c),
      ((h.1 c).2 main_arg0 (Pipeline.mem_restRefs_of main_arg0 (by decide) (by decide))).trans (W_main_arg0 m (datsV m) c),
      ((h.1 c).2 main_arg1 (Pipeline.mem_restRefs_of main_arg1 (by decide) (by decide))).trans (W_main_arg1 m (datsV m) c),
      ((h.1 c).1 2).trans (((datsV m 0 c).arrAt_in 2 rfl _).trans ((A_eqV m c 2).trans (V_main_arg2 m c))),
      ((h.1 c).2 main_arg3 (Pipeline.mem_restRefs_of main_arg3 (by decide) (by decide))).trans (W_main_arg3 m (datsV m) c),
      ((h.1 c).2 main_arg4 (Pipeline.mem_restRefs_of main_arg4 (by decide) (by decide))).trans (W_main_arg4 m (datsV m) c),
      ((h.1 c).2 main_arg5 (Pipeline.mem_restRefs_of main_arg5 (by decide) (by decide))).trans (W_main_arg5 m (datsV m) c)⟩)
    (run_mainV m ρ)

end Cert.KernelIdeal.Gen

end
-- ==== Proof.RowMath.lean ====
/- Exact arithmetic of one row: the search over exponent words finds the exponent that the logarithm gives. -/
module

public import proofs.«01_k».proof.Proof.IdealProj

@[expose] public section

noncomputable section

namespace Cert.KernelIdeal.Gen

open Idealize.ShloMosaic Idealize.ShloMosaic.TcCoe Idealize.ShloMosaic.ValueIdx

/-! ## Powers of two as words -/

/-- The float whose exponent field is `n`, whose sign and fraction are zero. -/
def pw (n : Nat) : EReal := Ideal.ofBits .f32 (IntOp.shli .vector (BitVec.ofNat 32 n) 23#32)

theorem word_toNat (n : Nat) (h : n ≤ 255) : (IntOp.shli .vector (BitVec.ofNat 32 n) 23#32).toNat = n * 2 ^ 23 := by
  unfold IntOp.shli
  rw [if_pos (by decide)]
  rw [show (BitVec.ofNat 32 n <<< 23#32) = BitVec.ofNat 32 n <<< 23 from rfl, BitVec.toNat_shiftLeft, BitVec.toNat_ofNat, Nat.shiftLeft_eq]
  omega

theorem pw_fields (n : Nat) (h : n ≤ 255) : pw n =
    if n = 255 then ⊤ else if n = 0 then 0 else (((2 : ℝ) ^ ((n : Int) - 127) : ℝ) : EReal) := by
  have hb := word_toNat n h
  unfold pw
  generalize IntOp.shli .vector (BitVec.ofNat 32 n) 23#32 = b at hb
  show Ideal.ieee 8 23 b = _
  have e1 : (b.extractLsb' 23 8).toNat = n := by
    rw [BitVec.extractLsb'_toNat, Nat.shiftRight_eq_div_pow, hb]; omega
  have e2 : (b.extractLsb' 0 23).toNat = 0 := by
    rw [BitVec.extractLsb'_toNat, Nat.shiftRight_eq_div_pow, hb]; omega
  have e3 : (b.extractLsb' (8 + 23) 1 == 1#1) = false := by
    rw [beq_eq_false_iff_ne]
    intro he
    have := congrArg BitVec.toNat he
    rw [BitVec.extractLsb'_toNat, Nat.shiftRight_eq_div_pow, hb] at this
    simp at this
    omega
  unfold Ideal.ieee
  simp only [e1, e2, e3]
  by_cases h255 : n = 255
  · simp [h255]
  · by_cases h0 : n = 0
    · simp [h0]
    · rw [if_neg h255, if_neg h0, if_neg (by simpa using h255), if_neg h0]
      refine congrArg (fun x : ℝ => (x : EReal)) ?_
      have : ((2 : ℝ) ^ ((n : Int) - (2 ^ (8 - 1) - 1) - (23 : Nat)) : ℝ) = 2 ^ ((n : Int) - 127) * (2 ^ 23)⁻¹ := by
        rw [show ((n : Int) - (2 ^ (8 - 1) - 1) - ((23 : Nat) : Int)) = ((n : Int) - 127) - 23 by norm_num, zpow_sub₀ (by norm_num)]
        rfl
      rw [this]
      norm_num
      ring

theorem pw_zero : pw 0 = 0 := by rw [pw_fields 0 (by omega)]; simp

theorem pw_top : pw 255 = ⊤ := by rw [pw_fields 255 (by omega)]; simp

theorem pw_mid (n : Nat) (h1 : 1 ≤ n) (h2 : n ≤ 254) : pw n = (((2 : ℝ) ^ ((n : Int) - 127) : ℝ) : EReal) := by
  rw [pw_fields n (by omega), if_neg (by omega), if_neg (by omega)]

/-! ## The search -/

theorem select_olt (a x : EReal) (p q : BitVec 32) :
    Scalar.select (FloatOps.cmpf (F := Ideal) (φ := .f32) .olt a x) p q = if a < x then p else q := by
  show Scalar.select (BitVec.ofBool (decide (a < x))) p q = _
  by_cases h : a < x
  · rw [if_pos h, decide_eq_true h]; rfl
  · rw [if_neg h, decide_eq_false h]; rfl

theorem select_oeq {α : Type} (a x : EReal) (p q : α) :
    Scalar.select (FloatOps.cmpf (F := Ideal) (φ := .f32) .oeq a x) p q = if a = x then p else q := by
  show Scalar.select (BitVec.ofBool (decide (a = x))) p q = _
  by_cases h : a = x
  · rw [if_pos h, decide_eq_true h]; rfl
  · rw [if_neg h, decide_eq_false h]; rfl

theorem bisR_eq (a : EReal) (n s : Nat) :
    bisR a (BitVec.ofNat 32 n) (BitVec.ofNat 32 s) = if a < pw (n + s) then BitVec.ofNat 32 n else BitVec.ofNat 32 (n + s) := by
  unfold bisR pw
  rw [BitVec.ofNat_add, select_olt]

/-- The exponent sought lies in the `w` words from `n` on. -/
def Within (a : EReal) (n w : Nat) : Prop := n + w ≤ 256 ∧ pw n ≤ a ∧ (n + w = 256 ∨ a < pw (n + w))

theorem bisR_within (a : EReal) (b : BitVec 32) (s : Nat) (h : ∃ n, b = BitVec.ofNat 32 n ∧ Within a n (s + s)) :
    ∃ n, bisR a b (BitVec.ofNat 32 s) = BitVec.ofNat 32 n ∧ Within a n s := by
  obtain ⟨n, rfl, h1, h2, h3⟩ := h
  rw [bisR_eq]
  by_cases hc : a < pw (n + s)
  · exact ⟨n, if_pos hc, by omega, h2, Or.inr hc⟩
  · refine ⟨n + s, if_neg hc, by omega, not_lt.mp hc, ?_⟩
    rw [Nat.add_assoc]
    exact h3

theorem bR_within (a : EReal) (h : 0 ≤ a) : ∃ n, bR a = BitVec.ofNat 32 n ∧ Within a n 1 := by
  unfold bR
  refine bisR_within a _ 1 (bisR_within a _ 2 (bisR_within a _ 4 (bisR_within a _ 8 (bisR_within a _ 16 (bisR_within a _ 32 (bisR_within a _ 64 (bisR_within a _ 128 ?_)))))))
  exact ⟨0, rfl, by omega, by rw [pw_zero]; exact h, Or.inl rfl⟩

theorem two_zpow_le {p q : Int} (h : p ≤ q) : (2 : ℝ) ^ p ≤ 2 ^ q := zpow_le_zpow_right₀ (by norm_num) h

theorem bR_found (a : ℝ) (h0 : 0 ≤ a) (h1 : a < 2 ^ (126 : Int)) : ∃ n : Nat, n ≤ 252 ∧ bR (a : EReal) = BitVec.ofNat 32 n
    ∧ a < 2 ^ ((n : Int) - 126) ∧ (n = 0 ∨ (2 : ℝ) ^ ((n : Int) - 127) ≤ a) := by
  obtain ⟨n, e, hw, hl, hu⟩ := bR_within (a : EReal) (by exact_mod_cast h0)
  have hn : n ≤ 252 := by
    by_contra hc
    by_cases h255 : n = 255
    · rw [h255, pw_top] at hl
      exact absurd (le_antisymm le_top hl) (EReal.coe_ne_top a)
    · rw [pw_mid n (by omega) (by omega)] at hl
      have hl' : (2 : ℝ) ^ ((n : Int) - 127) ≤ a := by exact_mod_cast hl
      exact absurd (lt_of_lt_of_le h1 ((two_zpow_le (by omega)).trans hl')) (lt_irrefl _)
  refine ⟨n, hn, e, ?_, ?_⟩
  · rcases hu with hu | hu
    · omega
    · rw [pw_mid (n + 1) (by omega) (by omega)] at hu
      have hu' : a < (2 : ℝ) ^ (((n + 1 : Nat) : Int) - 127) := by exact_mod_cast hu
      rwa [show (((n + 1 : Nat) : Int) - 127) = (n : Int) - 126 by push_cast; omega] at hu'
  · by_cases hz : n = 0
    · exact Or.inl hz
    · rw [pw_mid n (by omega) (by omega)] at hl
      exact Or.inr (by exact_mod_cast hl)

/-! ## The exponent by the logarithm -/

/-- The exponent of a row's scale by the logarithm. -/
def refE (a : EReal) : EReal :=
  if a = 0 then 0 else max (Ideal.liftRound Int.floor (Ideal.div (Ideal.log a) ((Real.log 2 : ℝ) : EReal)) + 1) ((-126 : ℝ) : EReal)

theorem log_div (a : ℝ) (h : 0 < a) : Ideal.div (Ideal.log (a : EReal)) ((Real.log 2 : ℝ) : EReal) = (((Real.log a / Real.log 2) : ℝ) : EReal) := by
  have hl : Real.log 2 ≠ 0 := (Real.log_pos (by norm_num)).ne'
  have e : Ideal.log (a : EReal) = ((Real.log a : ℝ) : EReal) := if_neg (not_le.mpr h)
  rw [e, Ideal.div_coe hl, ← EReal.coe_mul]
  refine congrArg (fun x : ℝ => (x : EReal)) ?_
  rw [mul_one_div]

/-- The word search and the logarithm find one exponent. -/
theorem exponent (a : ℝ) (h0 : 0 ≤ a) (h1 : a < 2 ^ (126 : Int)) : ∃ z : Int, refE (a : EReal) = ((z : ℝ) : EReal)
    ∧ upR (a : EReal) = (((2 : ℝ) ^ z : ℝ) : EReal) ∧ downR (a : EReal) = (((2 : ℝ) ^ (-z) : ℝ) : EReal) := by
  have hz : (Ideal.ofBits .f32 0x00000000#32 : EReal) = 0 := Ideal.ofBits_zero_f32
  by_cases ha : a = 0
  · subst ha
    have he : eR ((0 : ℝ) : EReal) = 0#32 := by
      unfold eR
      rw [select_oeq, hz, if_pos (by simp)]
    refine ⟨0, ?_, ?_, ?_⟩
    · unfold refE
      rw [if_pos (by simp)]
      simp
    · unfold upR
      rw [he]
      exact (pw_mid 127 (by omega) (by omega)).trans (by norm_num)
    · unfold downR
      rw [he]
      exact (pw_mid 127 (by omega) (by omega)).trans (by norm_num)
  · have hlp : (0 : ℝ) < Real.log 2 := Real.log_pos (by norm_num)
    have hp : 0 < a := lt_of_le_of_ne h0 (Ne.symm ha)
    have hne : (a : EReal) ≠ 0 := by exact_mod_cast ha
    obtain ⟨n, hn, hb, hu, hl⟩ := bR_found a h0 h1
    have he : eR (a : EReal) = BitVec.ofNat 32 n - 126#32 := by
      unfold eR
      rw [select_oeq, hz, if_neg hne, hb]
    refine ⟨(n : Int) - 126, ?_, ?_, ?_⟩
    · unfold refE
      rw [if_neg hne, log_div a hp, Ideal.liftRound_coe]
      have hul : (Real.log a / Real.log 2) < ((n : Int) - 126 : Int) := by
        rw [div_lt_iff₀ hlp, ← Real.log_zpow]
        exact Real.log_lt_log hp hu
      have hfu : ⌊(Real.log a / Real.log 2)⌋ < (n : Int) - 126 := Int.floor_lt.mpr hul
      have hcoe : (((⌊(Real.log a / Real.log 2)⌋ : Int) : ℝ) : EReal) + 1 = (((⌊(Real.log a / Real.log 2)⌋ + 1 : Int) : ℝ) : EReal) := by
        push_cast
        rfl
      have hmax : (max (((⌊(Real.log a / Real.log 2)⌋ + 1 : Int) : ℝ) : EReal) ((-126 : ℝ) : EReal)) = (((max (⌊(Real.log a / Real.log 2)⌋ + 1) (-126) : Int) : ℝ) : EReal) := by
        rw [show ((-126 : ℝ) : EReal) = (((-126 : Int) : ℝ) : EReal) by norm_num]
        rw [Int.cast_max]
        exact (EReal.coe_strictMono.monotone.map_max).symm
      rw [hcoe, hmax]
      refine congrArg (fun x : Int => ((x : ℝ) : EReal)) ?_
      rcases hl with hl | hl
      · subst hl
        omega
      · have hll : (((n : Int) - 127 : Int) : ℝ) ≤ (Real.log a / Real.log 2) := by
          rw [le_div_iff₀ hlp, ← Real.log_zpow]
          exact Real.log_le_log (zpow_pos (by norm_num) _) hl
        have hfl : (n : Int) - 127 ≤ ⌊(Real.log a / Real.log 2)⌋ := Int.le_floor.mpr hll
        omega
    · unfold upR
      rw [he]
      have hw : BitVec.ofNat 32 n - 126#32 + 127#32 = BitVec.ofNat 32 (n + 1) := by
        apply BitVec.eq_of_toNat_eq
        simp
        omega
      rw [hw]
      refine (pw_mid (n + 1) (by omega) (by omega)).trans ?_
      rw [show (((n + 1 : Nat) : Int) - 127) = (n : Int) - 126 by push_cast; omega]
    · unfold downR
      rw [he]
      have hw : 127#32 - (BitVec.ofNat 32 n - 126#32) = BitVec.ofNat 32 (253 - n) := by
        apply BitVec.eq_of_toNat_eq
        simp
        omega
      rw [hw]
      refine (pw_mid (253 - n) (by omega) (by omega)).trans ?_
      rw [show (((253 - n : Nat) : Int) - 127) = -((n : Int) - 126) by omega]

theorem exp2_int (z : Int) : Ideal.exp2 (((z : ℝ)) : EReal) = (((2 : ℝ) ^ z : ℝ) : EReal) := by
  show ((Real.rpow 2 (z : ℝ) : ℝ) : EReal) = _
  exact congrArg (fun x : ℝ => (x : EReal)) (Real.rpow_intCast 2 z)

/-- The scale by the logarithm is the one of the search. -/
theorem scale_up (a : ℝ) (h0 : 0 ≤ a) (h1 : a < 2 ^ (126 : Int)) : Ideal.exp2 (refE (a : EReal)) = upR (a : EReal) := by
  obtain ⟨z, e1, e2, e3⟩ := exponent a h0 h1
  rw [e1, e2, exp2_int]

/-- So is its reciprocal. -/
theorem scale_down (a : ℝ) (h0 : 0 ≤ a) (h1 : a < 2 ^ (126 : Int)) : Ideal.exp2 (0 - refE (a : EReal)) = downR (a : EReal) := by
  obtain ⟨z, e1, e2, e3⟩ := exponent a h0 h1
  rw [e1, e3, zero_sub, ← EReal.coe_neg, ← Int.cast_neg, exp2_int]

/-! ## A row -/

theorem bot_word : (Ideal.ofBits .f32 0xFF800000#32 : EReal) = ⊥ := by simp [Ideal.ofBits, Ideal.ieee]

theorem eps_word : (Ideal.ofBits .f32 0x358637BD#32 : EReal) = ((8796093 * (2 ^ 43)⁻¹ : ℝ) : EReal) := by
  simp [Ideal.ofBits, Ideal.ieee, -EReal.coe_mul]

theorem max_word : (Ideal.ofBits .f32 0x3B124925#32 : EReal) = ((9586981 * (2 ^ 32)⁻¹ : ℝ) : EReal) := by
  simp [Ideal.ofBits, Ideal.ieee, -EReal.coe_mul]

theorem big_word : (Ideal.ofBits .f32 0x7F7F0000#32 : EReal) = ((16711680 * 2 ^ 104 : ℝ) : EReal) := by
  simp [Ideal.ofBits, Ideal.ieee, -EReal.coe_mul]

theorem inv_n_word : (Named.named κ "inv_n" 0x3970F0F1#32 : Ideal .f32) = ((1 / 4352 : ℝ) : EReal) :=
  IdealRules.named_const.ideal_named_scalar (φ := .f32) κ "inv_n" 0x3970F0F1#32 ((1 / 4352 : ℝ) : EReal) rfl

/-- The magnitude of an extended real. -/
def absE (x : EReal) : EReal := max x (-x)

theorem absE_coe (x : ℝ) : absE (x : EReal) = ((|x| : ℝ) : EReal) := by
  unfold absE
  rw [← EReal.coe_neg]
  exact (EReal.coe_strictMono.monotone.map_max).symm

theorem absE_mul (x i : EReal) (h : 0 ≤ i) : absE (x * i) = absE x * i := by
  unfold absE
  rw [← EReal.neg_mul]
  have hm : Monotone fun x : EReal => x * i := fun p q hpq => mul_le_mul_of_nonneg_right hpq h
  exact hm.map_max.symm

theorem absE_nonneg (x : EReal) : 0 ≤ absE x := by
  unfold absE
  rcases le_total 0 x with h | h
  · exact le_max_of_le_left h
  · exact le_max_of_le_right (by simpa using h)

theorem sq_nonneg' (x : EReal) : 0 ≤ x * x := by
  induction x using EReal.rec with
  | bot => simp
  | top => simp
  | coe x => exact_mod_cast mul_self_nonneg x

/-- The sum of a row's squares. -/
def sumSq (r : Fin 4352 → EReal) : EReal := ∑ j, r j * r j

/-- The largest magnitude of a row. -/
def maxAbs (f : Fin 4352 → EReal) : EReal := Finset.univ.fold max (Ideal.ofBits .f32 0xFF800000#32) fun j => absE (f j)

theorem maxAbs_eq (f : Fin 4352 → EReal) : maxAbs f = Finset.univ.sup fun j => absE (f j) := by
  unfold maxAbs
  rw [bot_word]
  rfl

theorem le_maxAbs (f : Fin 4352 → EReal) (j : Fin 4352) : absE (f j) ≤ maxAbs f := by
  rw [maxAbs_eq]
  exact Finset.le_sup (f := fun j => absE (f j)) (Finset.mem_univ j)

theorem exists_maxAbs (f : Fin 4352 → EReal) : ∃ j, maxAbs f = absE (f j) := by
  rw [maxAbs_eq]
  obtain ⟨j, _, h⟩ := Finset.exists_mem_eq_sup Finset.univ ⟨(0 : Fin 4352), Finset.mem_univ _⟩ fun j => absE (f j)
  exact ⟨j, h⟩

theorem sumSq_nonneg (r : Fin 4352 → EReal) : 0 ≤ sumSq r := Finset.sum_nonneg fun j _ => sq_nonneg' (r j)

theorem le_sumSq (r : Fin 4352 → EReal) (j : Fin 4352) : r j * r j ≤ sumSq r :=
  Finset.single_le_sum (f := fun j => r j * r j) (fun j _ => sq_nonneg' (r j)) (Finset.mem_univ j)

/-- The reciprocal root is a nonnegative real, and it is small against the square root of the sum. -/
theorem invR_real (q : EReal) (h : 0 ≤ q) : ∃ i : ℝ, invR q = (i : EReal) ∧ 0 ≤ i ∧ (q = ⊤ → i = 0)
    ∧ ∀ x : ℝ, ((x * x : ℝ) : EReal) ≤ q → q ≠ ⊤ → |x| * i ≤ 66 := by
  unfold invR
  rw [inv_n_word, eps_word]
  induction q using EReal.rec with
  | bot => exact absurd h (by simp)
  | top =>
    refine ⟨0, ?_, le_refl _, fun _ => rfl, fun _ _ hq => absurd rfl hq⟩
    rw [EReal.top_mul_coe_of_pos (by norm_num), EReal.top_add_coe]
    rfl
  | coe q =>
    have hq : 0 ≤ q := by exact_mod_cast h
    have hp : 0 < q * (1 / 4352) + 8796093 * (2 ^ 43)⁻¹ := by positivity
    rw [← EReal.coe_mul, ← EReal.coe_add]
    refine ⟨(Real.sqrt (q * (1 / 4352) + 8796093 * (2 ^ 43)⁻¹))⁻¹, ?_, by positivity, fun hc => absurd hc (EReal.coe_ne_top q), fun x hx _ => ?_⟩
    · generalize q * (1 / 4352) + 8796093 * (2 ^ 43)⁻¹ = u at hp
      show (if u < 0 then ⊥ else if u = 0 then ⊤ else (((Real.sqrt u)⁻¹ : ℝ) : EReal)) = _
      rw [if_neg (not_lt.mpr hp.le), if_neg hp.ne']
    · have hx' : x * x ≤ q := by exact_mod_cast hx
      have hs : 0 < Real.sqrt (q * (1 / 4352) + 8796093 * (2 ^ 43)⁻¹) := Real.sqrt_pos.mpr hp
      rw [← div_eq_mul_inv, div_le_iff₀ hs]
      refine abs_le_of_sq_le_sq ?_ (by positivity)
      rw [mul_pow, Real.sq_sqrt hp.le]
      nlinarith

/-- The row before its quantisation. -/
def normed (r g : Fin 4352 → EReal) : Fin 4352 → EReal := fun j => r j * invR (sumSq r) * g j

theorem normed_eq (r g : Fin 4352 → EReal) (j : Fin 4352) : normed r g j = r j * g j * invR (sumSq r) := by
  unfold normed
  rw [mul_assoc, mul_comm (invR _) (g j), ← mul_assoc]

/-- The largest magnitude of the normalised row is the one of the products, normalised. -/
theorem maxAbs_normed (r g : Fin 4352 → EReal) : maxAbs (normed r g) = maxAbs (fun j => r j * g j) * invR (sumSq r) := by
  obtain ⟨i, hi, h0, -⟩ := invR_real _ (sumSq_nonneg r)
  have hn : 0 ≤ invR (sumSq r) := by rw [hi]; exact_mod_cast h0
  have he : ∀ j, absE (normed r g j) = absE (r j * g j) * invR (sumSq r) := fun j => by rw [normed_eq, absE_mul _ _ hn]
  apply le_antisymm
  · obtain ⟨j, hj⟩ := exists_maxAbs (normed r g)
    rw [hj, he]
    exact mul_le_mul_of_nonneg_right (le_maxAbs (fun j => r j * g j) j) hn
  · obtain ⟨j, hj⟩ := exists_maxAbs (fun j => r j * g j)
    rw [hj, ← he]
    exact le_maxAbs _ j

theorem real_of_sumSq (r : Fin 4352 → EReal) (h : sumSq r ≠ ⊤) (j : Fin 4352) : ∃ x : ℝ, r j = (x : EReal) := by
  have hle := le_sumSq r j
  generalize r j = z at hle
  induction z using EReal.rec with
  | bot => exact absurd (top_le_iff.mp (by simpa using hle)) h
  | top => exact absurd (top_le_iff.mp (by simpa using hle)) h
  | coe x => exact ⟨x, rfl⟩

theorem real_of_absE (z : EReal) (b : ℝ) (h : absE z ≤ (b : EReal)) : ∃ x : ℝ, z = (x : EReal) ∧ |x| ≤ b := by
  induction z using EReal.rec with
  | bot => exact absurd (top_le_iff.mp (by simpa [absE] using h)) (EReal.coe_ne_top b)
  | top => exact absurd (top_le_iff.mp (by simpa [absE] using h)) (EReal.coe_ne_top b)
  | coe x => exact ⟨x, rfl, by rw [absE_coe] at h; exact_mod_cast h⟩

/-- The least scale of a row is a real that the search covers. -/
theorem aR_real (r g : Fin 4352 → EReal) (hg : ∀ j, absE (g j) ≤ Ideal.ofBits .f32 0x7F7F0000#32) :
    ∃ a : ℝ, aR (sumSq r) (maxAbs fun j => r j * g j) = (a : EReal) ∧ 0 ≤ a ∧ a < 2 ^ (126 : Int) := by
  obtain ⟨i, hi, h0, ht, hb⟩ := invR_real _ (sumSq_nonneg r)
  unfold aR
  rw [hi, max_word]
  by_cases hq : sumSq r = ⊤
  · refine ⟨0, ?_, le_refl _, by positivity⟩
    rw [ht hq]
    simp
  · obtain ⟨j, hj⟩ := exists_maxAbs (fun j => r j * g j)
    obtain ⟨x, hx⟩ := real_of_sumSq r hq j
    obtain ⟨y, hy, hyb⟩ := real_of_absE (g j) _ ((hg j).trans_eq big_word)
    have hsq : ((x * x : ℝ) : EReal) ≤ sumSq r := by
      have := le_sumSq r j
      rw [hx] at this
      exact_mod_cast this
    have hxi : |x| * i ≤ 66 := hb x hsq hq
    refine ⟨|x * y| * i * (9586981 * (2 ^ 32)⁻¹), ?_, by positivity, ?_⟩
    · rw [hj]
      show absE (r j * g j) * _ * _ = _
      rw [hx, hy, ← EReal.coe_mul, absE_coe, ← EReal.coe_mul, ← EReal.coe_mul]
    · rw [abs_mul]
      have e : |x| * |y| * i * (9586981 * (2 ^ 32)⁻¹) = (|x| * i) * |y| * (9586981 * (2 ^ 32)⁻¹) := by ring
      rw [e]
      have h2 : (|x| * i) * |y| ≤ 66 * (16711680 * 2 ^ 104) := mul_le_mul hxi hyb (abs_nonneg _) (by norm_num)
      calc (|x| * i) * |y| * (9586981 * (2 ^ 32)⁻¹) ≤ 66 * (16711680 * 2 ^ 104) * (9586981 * (2 ^ 32)⁻¹) := mul_le_mul_of_nonneg_right h2 (by norm_num)
        _ < 2 ^ (126 : Int) := by norm_num

/-- The exponent of a row's scale by the logarithm of its largest normalised magnitude. -/
def rowE (r g : Fin 4352 → EReal) : EReal := refE (maxAbs (normed r g) * Ideal.ofBits .f32 0x3B124925#32)

theorem rowE_eq (r g : Fin 4352 → EReal) : rowE r g = refE (aR (sumSq r) (maxAbs fun j => r j * g j)) := by
  unfold rowE aR
  rw [maxAbs_normed]

/-- The scale of a row. -/
theorem row_scale (r g : Fin 4352 → EReal) (hg : ∀ j, absE (g j) ≤ Ideal.ofBits .f32 0x7F7F0000#32) :
    Ideal.exp2 (rowE r g) = yR (sumSq r) (maxAbs fun j => r j * g j) := by
  obtain ⟨a, ha, h0, h1⟩ := aR_real r g hg
  unfold yR
  rw [rowE_eq, ha, scale_up a h0 h1]

/-- The quantity that a row's code rounds. -/
theorem row_code (r g : Fin 4352 → EReal) (hg : ∀ j, absE (g j) ≤ Ideal.ofBits .f32 0x7F7F0000#32) (j : Fin 4352) :
    normed r g j * Ideal.exp2 (0 - rowE r g) = r j * g j * sR (sumSq r) (maxAbs fun j => r j * g j) := by
  obtain ⟨a, ha, h0, h1⟩ := aR_real r g hg
  unfold sR
  rw [rowE_eq, ha, scale_down a h0 h1, normed_eq, mul_assoc]

end Cert.KernelIdeal.Gen

end
-- ==== Proof.IdealRead.lean ====
/- The kernel's results over the extended reals, entry by entry: each as a function of one row of the argument arrays. -/
module

public import proofs.«01_k».proof.Proof.IdealArrays
public import proofs.«01_k».proof.Proof.RowMath

@[expose] public section

noncomputable section

namespace Cert.KernelIdeal.Gen

open Idealize.ShloMosaic hiding ix1 ix2 ix3
open Idealize.ShloMosaic.TcCoe Idealize.ShloMosaic.ValueIdx
open Facts₀

/-! ## The two statistics of a row of a tile -/

/-- The blocks of 128 lanes together are the first lanes. -/
theorem sum_blocks (f : Nat → EReal) (n : Nat) : ∑ l : Fin 128, ∑ b ∈ Finset.range n, f (128 * b + l.val) = ∑ j ∈ Finset.range (128 * n), f j := by
  rw [Finset.sum_comm]
  induction n with
  | zero => simp
  | succ n ih =>
    rw [Finset.sum_range_succ, ih, Nat.mul_succ, Finset.sum_range_add]
    exact congrArg _ (Finset.sum_range fun l => f (128 * n + l)).symm

theorem rowSq_tile (G : Goal) (i : Fin 256) : rowSq (sqv G 34) i = sumSq fun j => outv G (ix2 i j) := by
  unfold rowSq sqv sumSq
  refine (sum_blocks (fun j => sqAt G i.val j) 34).trans ?_
  rw [show 128 * 34 = 4352 from rfl, Finset.sum_range]
  refine Finset.sum_congr rfl fun j _ => ?_
  unfold sqAt
  rw [dif_pos ⟨i.isLt, j.isLt⟩]

theorem mxAt_eq (G : Goal) (i : Fin 256) (j : Fin 4352) : mxAt G i.val j.val = absE (tv G (ix2 i j)) := by
  unfold mxAt
  rw [dif_pos ⟨i.isLt, j.isLt⟩]
  rfl

theorem rowMx_sup (X : S256x128.Idx → EReal) (i : Fin 256) : rowMx X i = Finset.univ.sup fun l : Fin 128 => X (ix2 i l) := by
  unfold rowMx
  rw [bot_word]
  rfl

theorem rowMx_tile (G : Goal) (i : Fin 256) : rowMx (mxv G 34) i = maxAbs fun j => tv G (ix2 i j) := by
  rw [rowMx_sup, maxAbs_eq]
  apply le_antisymm
  · refine Finset.sup_le fun l _ => ?_
    unfold mxv
    refine Finset.sup_le fun b hb => ?_
    have hb' := Finset.mem_range.mp hb
    have hl := l.isLt
    have e := mxAt_eq G i (⟨128 * b + l.val, by omega⟩ : Fin 4352)
    refine (le_of_eq e).trans ?_
    exact Finset.le_sup (f := fun j => absE (tv G (ix2 i j))) (Finset.mem_univ _)
  · refine Finset.sup_le fun j _ => ?_
    have hj := j.isLt
    have e : mxAt G i.val (128 * (j.val / 128) + (laneOf j).val) = absE (tv G (ix2 i j)) := by
      rw [← mxAt_eq]
      exact congrArg _ (by show 128 * (j.val / 128) + j.val % 128 = j.val; omega)
    refine (le_of_eq e.symm).trans ?_
    refine le_trans ?_ (Finset.le_sup (f := fun l : Fin 128 => mxv G 34 (ix2 i l)) (Finset.mem_univ (laneOf j)))
    unfold mxv
    exact Finset.le_sup (f := fun b => mxAt G i.val (128 * b + (laneOf j).val)) (Finset.mem_range.mpr (by omega))

variable (m : (ℓ : Loc nD τ sig) → Buf (Elt Ideal) ℓ) (ρ : Dev nD → PrngReg)

/-! ## The row of the residual output -/

/-- The argument arrays as extended reals. -/
def argX (c : Dev nD) : S2x8192x1664.Idx → EReal := m ((c : Thread nD τ).loc main_arg0)
def argXs (c : Dev nD) : S2x8192x1.Idx → EReal := m ((c : Thread nD τ).loc main_arg1)
def argW (c : Dev nD) : S1664x4352.Idx → EReal := m ((c : Thread nD τ).loc main_arg2)
def argWs (c : Dev nD) : S4352.Idx → EReal := m ((c : Thread nD τ).loc main_arg3)
def argRes (c : Dev nD) : S2x8192x4352.Idx → EReal := m ((c : Thread nD τ).loc main_arg4)
def argG (c : Dev nD) : S4352.Idx → EReal := m ((c : Thread nD τ).loc main_arg5)

/-- An entry of the residual output, from the argument arrays. -/
def outAt (c : Dev nD) (b : Fin 2) (s : Fin 8192) (j : Fin 4352) : EReal :=
  (∑ k : Fin 1664, argX m c (ix3 b s k) * argW m c (ix2 k j)) * argXs m c (ix3 b s (0 : Fin 1)) * argWs m c (ix1 j) + argRes m c (ix3 b s j)

/-- An entry of gamma. -/
def gammaAt (c : Dev nD) (j : Fin 4352) : EReal := argG m c (ix1 j)

theorem outT_at (c : Dev nD) (t : Fin cfg0.N) (i : Fin 256) (j : Fin 4352) :
    outT m c t (ix2 i j) = outAt m c (batchOf (rowAt t i)) (posOf (rowAt t i)) j := by
  unfold outT outv dotv
  unfold outAt
  refine congrArg₂ (fun x y : EReal => x + y) (congrArg₂ (fun x y : EReal => x * y) (congrArg₂ (fun x y : EReal => x * y) (Finset.sum_congr rfl fun k _ => ?_) (blk0_at m c t i)) (blk3_at m c t j)) (blk4_at m c t i j)
  exact congrArg₂ (fun x y : EReal => x * y) (blk1_at m c t i k) (blk2_at m c t k j)

theorem tT_at (c : Dev nD) (t : Fin cfg0.N) (i : Fin 256) (j : Fin 4352) :
    tT m c t (ix2 i j) = outAt m c (batchOf (rowAt t i)) (posOf (rowAt t i)) j * gammaAt m c j := by
  unfold tT tv
  exact congrArg₂ (fun x y : EReal => x * y) (outT_at m c t i j) (blk5_at m c t j)

theorem q_at (c : Dev nD) (t : Fin cfg0.N) (i : Fin 256) : rowSq (qT m c t) i = sumSq (outAt m c (batchOf (rowAt t i)) (posOf (rowAt t i))) :=
  (rowSq_tile (goalT m c t) i).trans (congrArg sumSq (funext fun j => outT_at m c t i j))

theorem m_at (c : Dev nD) (t : Fin cfg0.N) (i : Fin 256) :
    rowMx (mT m c t) i = maxAbs fun j => outAt m c (batchOf (rowAt t i)) (posOf (rowAt t i)) j * gammaAt m c j :=
  (rowMx_tile (goalT m c t) i).trans (congrArg maxAbs (funext fun j => tT_at m c t i j))

theorem batch_row (b : Fin 2) (s : Fin 8192) : batchOf (rowOf b s) = b :=
  Fin.ext (by show (b.val * 8192 + s.val) / 8192 = b.val; omega)

theorem pos_row (b : Fin 2) (s : Fin 8192) : posOf (rowOf b s) = s :=
  Fin.ext (by show (b.val * 8192 + s.val) % 8192 = s.val; omega)

/-! ## The three results -/

theorem res0_at (c : Dev nD) (b : Fin 2) (s : Fin 8192) (j : Fin 4352) : res0 m c (ix3 b s j) = outAt m c b s j := by
  show outT m c (tileOf (rowOf b s)) (ix2 (innerOf (rowOf b s)) j) = _
  rw [outT_at, rowAt_tile, batch_row, pos_row]

theorem res2_at (c : Dev nD) (b : Fin 2) (s : Fin 8192) (hg : ∀ j, absE (gammaAt m c j) ≤ Ideal.ofBits .f32 0x7F7F0000#32) :
    res2 m c (ix3 b s (0 : Fin 1)) = Ideal.exp2 (rowE (outAt m c b s) (gammaAt m c)) := by
  show yR (rowSq (qT m c (tileOf (rowOf b s))) (innerOf (rowOf b s))) (rowMx (mT m c (tileOf (rowOf b s))) (innerOf (rowOf b s))) = _
  rw [q_at, m_at, rowAt_tile, batch_row, pos_row, row_scale _ _ hg]

theorem res1_at (c : Dev nD) (b : Fin 2) (s : Fin 8192) (j : Fin 4352) (hg : ∀ j, absE (gammaAt m c j) ≤ Ideal.ofBits .f32 0x7F7F0000#32) :
    res1 m c (ix3 b s j) = min (Ideal.ofBits .f32 0x43E00000#32) (max (Ideal.ofBits .f32 0xC3E00000#32)
      (normed (outAt m c b s) (gammaAt m c) j * Ideal.exp2 (0 - rowE (outAt m c b s) (gammaAt m c)))) := by
  show min _ (max _ (tT m c (tileOf (rowOf b s)) (ix2 (innerOf (rowOf b s)) j)
    * sR (rowSq (qT m c (tileOf (rowOf b s))) (innerOf (rowOf b s))) (rowMx (mT m c (tileOf (rowOf b s))) (innerOf (rowOf b s))))) = _
  rw [tT_at, q_at, m_at, rowAt_tile, batch_row, pos_row, row_code _ _ hg]

end Cert.KernelIdeal.Gen

end
-- ==== Proof.RefValue.lean ====
/- The run of the reference over the extended reals with its results named: each result array as one function of the argument arrays. -/
module

public import proofs.«01_k».proof.Proof.Gen.ReferenceIdeal.Frame
public import Idealize.ShloMosaic.Lib.Pipeline.Value

@[expose] public section

noncomputable section

namespace Cert.ReferenceIdeal.Value

open Cert.ReferenceIdeal Cert.ReferenceIdeal.Gen Idealize.ShloMosaic Idealize.ShloMosaic.TcCoe Idealize.SL.Sem
open Idealize.ShloMosaic.Pipeline (Dat)

variable {F : FTy → Type} [FloatOps F] [Named F]
variable (m : (ℓ : Loc nD τ sig) → Buf (Elt F) ℓ) (ρ : Dev nD → PrngReg)

/-! ## Blockwise: what each point writes back, and the final array block by block -/

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t) (iblk m c 4 t) (iblk m c 5 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- An index that no flushing point's block covers keeps output window 6's array contents at region entry. -/
theorem entry6 (c : Dev nD) (i : S2x8192x4352.Idx) (h : ∀ t : Fin cfg0.N, (cfg0.win 6).flush t = true → i ∉ ((cfg0.win 6).blk t).view.set) :
    (dats m 0 c).arrAt 6 cfg0.N i = V m c (Pipeline.arrRef spec0 6) i := by
  rw [(dats m 0 c).arrAt_apply_of_forall_not_mem 6 cfg0.N i (fun t _ hf => h t hf), A_eq]

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t) (iblk m c 4 t) (iblk m c 5 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- An index that no flushing point's block covers keeps output window 7's array contents at region entry. -/
theorem entry7 (c : Dev nD) (i : S2x8192x4352.Idx) (h : ∀ t : Fin cfg0.N, (cfg0.win 7).flush t = true → i ∉ ((cfg0.win 7).blk t).view.set) :
    (dats m 0 c).arrAt 7 cfg0.N i = V m c (Pipeline.arrRef spec0 7) i := by
  rw [(dats m 0 c).arrAt_apply_of_forall_not_mem 7 cfg0.N i (fun t _ hf => h t hf), A_eq]

/-- WHAT POINT `t` WRITES BACK to output window 8's array: the body's result for that window (`Gen.out0_8`: its stores
    as pieces over the input windows' blocks), read through the window's block. -/
theorem flushed8 (c : Dev nD) (t : Fin cfg0.N) :
    (dats m 0 c).flushed 8 t = (cfg0.win 8).cut (grid0.coords t) (out0_8 (iblk m c 0 t) (iblk m c 1 t) (iblk m c 2 t) (iblk m c 3 t) (iblk m c 4 t) (iblk m c 5 t)) := by
  show (cfg0.win 8).cut (grid0.coords t) ((dats m 0 c).after 8 t) = _
  rw [after0_8]

/-- The index map sends distinct grid points to distinct block indices (decided over the 1 point). -/
theorem idx_inj8 : ∀ t t' : Fin cfg0.N, win0_8.index t = win0_8.index t' → t = t' :=
  (by decide +kernel : ∀ t t' : Fin grid0.N, win0_8.index t = win0_8.index t' → t = t')

/-- So two flushing points' blocks share no array index (Lib/Pipeline/Cells.lean `Window.disjoint_blk`). -/
theorem disjoint8 : ∀ t t' : Fin cfg0.N, (cfg0.win 8).flush t = true → (cfg0.win 8).flush t' = true → t ≠ t' →
    Disjoint ((cfg0.win 8).blk t).view.set ((cfg0.win 8).blk t').view.set :=
  fun t t' _ _ hne => (cfg0.win 8).disjoint_blk fun h => hne (idx_inj8 t t' h)

/-- BLOCK `t` OF THE FINAL ARRAY, read back through the window, is what point `t` wrote back (`flushed8`), for every
    point that writes back: no other point's block meets it. -/
theorem blocks8 (c : Dev nD) (t : Fin cfg0.N) (hf : (cfg0.win 8).flush t = true) :
    ((cfg0.win 8).blk t).view.read (Elt F) ((dats m 0 c).arrAt 8 cfg0.N) = (dats m 0 c).flushed 8 t :=
  (dats m 0 c).read_blk_arrAt_eq_flushed 8 disjoint8 cfg0.N t t.isLt hf

/-- An index that no flushing point's block covers keeps output window 8's array contents at region entry. -/
theorem entry8 (c : Dev nD) (i : S2x8192x1.Idx) (h : ∀ t : Fin cfg0.N, (cfg0.win 8).flush t = true → i ∉ ((cfg0.win 8).blk t).view.set) :
    (dats m 0 c).arrAt 8 cfg0.N i = V m c (Pipeline.arrRef spec0 8) i := by
  rw [(dats m 0 c).arrAt_apply_of_forall_not_mem 8 cfg0.N i (fun t _ hf => h t hf), A_eq]

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v0_0) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v0_1) = (dats m 0 c).arrAt 7 cfg0.N :=
  (h c).1 7

/-- After the frame run, output window 8's array is `(dats m 0 c).arrAt 8 N`. -/
theorem post8 (r : PUnit × MemSt nD τ sig (Elt F)) (h : Pipeline.FramePost cfgs (dats m) 0 (V m) r) (c : Dev nD) :
    r.2.mem ((c : Thread nD τ).loc main_v0_2) = (dats m 0 c).arrAt 8 cfg0.N :=
  (h c).1 8

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: input window 2 stages it and never writes it back. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).1 2).trans (((dats m 0 c).arrAt_in 2 rfl _).trans ((A_eq m c 2).trans (V_main_arg2 m c)))

/-- After the frame run, argument `main_arg3` is as launched: input window 3 stages it and never writes it back. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).1 3).trans (((dats m 0 c).arrAt_in 3 rfl _).trans ((A_eq m c 3).trans (V_main_arg3 m c)))

/-- After the frame run, argument `main_arg4` is as launched: input window 4 stages it and never writes it back. -/
theorem kept_main_arg4 (r : PUnit × MemSt nD τ sig (Elt F)) (h : Pipeline.FramePost cfgs (dats m) 0 (V m) r) (c : Dev nD) :
    r.2.mem ((c : Thread nD τ).loc main_arg4) = m ((c : Thread nD τ).loc main_arg4) :=
  ((h c).1 4).trans (((dats m 0 c).arrAt_in 4 rfl _).trans ((A_eq m c 4).trans (V_main_arg4 m c)))

/-- After the frame run, argument `main_arg5` is as launched: input window 5 stages it and never writes it back. -/
theorem kept_main_arg5 (r : PUnit × MemSt nD τ sig (Elt F)) (h : Pipeline.FramePost cfgs (dats m) 0 (V m) r) (c : Dev nD) :
    r.2.mem ((c : Thread nD τ).loc main_arg5) = m ((c : Thread nD τ).loc main_arg5) :=
  ((h c).1 5).trans (((dats m 0 c).arrAt_in 5 rfl _).trans ((A_eq m c 5).trans (V_main_arg5 m c)))

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v0_0) = (dats m 0 c).arrAt 6 cfg0.N
      ∧ r.2.mem ((c : Thread nD τ).loc main_v0_1) = (dats m 0 c).arrAt 7 cfg0.N
      ∧ r.2.mem ((c : Thread nD τ).loc main_v0_2) = (dats m 0 c).arrAt 8 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨post6 m r h c,
      post7 m r h c,
      post8 m r h c,
      kept_main_arg0 m r h c,
      kept_main_arg1 m r h c,
      kept_main_arg2 m r h c,
      kept_main_arg3 m r h c,
      kept_main_arg4 m r h c,
      kept_main_arg5 m r h c⟩)
    (run_main m ρ)

/-! ## Closed form at one grid point: every window's block is its array -/

theorem hz0 : (![0, 0, 0] : Fin 3 → Nat) = fun _ => 0 := funext fun a => by fin_cases a <;> rfl

/-- Window 0's block index at the one point is zero on every axis. -/
theorem idx_zero0 : ∀ t : Fin cfg0.N, win0_0.index t (0 : Fin 3) = 0 ∧ win0_0.index t (1 : Fin 3) = 0 ∧ win0_0.index t (2 : Fin 3) = 0 :=
  (by decide +kernel : ∀ t : Fin grid0.N, _)

/-- An index of window 0's block is the same index of its array. -/
theorem emb0 (t : Fin cfg0.N) (j : S2x8192x1664.Idx) : ((cfg0.win 0).blk t).view.emb j = j := by
  obtain ⟨e0, e1, e2⟩ := idx_zero0 t
  funext a; apply Fin.ext
  match a with
  | ⟨0, _⟩ => show win0_0.index t (0 : Fin 3) * 2 + 1 * (j 0).val = (j 0).val; omega
  | ⟨1, _⟩ => show win0_0.index t (1 : Fin 3) * 8192 + 1 * (j 1).val = (j 1).val; omega
  | ⟨2, _⟩ => show win0_0.index t (2 : Fin 3) * 1664 + 1 * (j 2).val = (j 2).val; omega

/-- Input window 0's block at the point is its array as the region finds it. -/
theorem iblk0_eq (c : Dev nD) (t : Fin cfg0.N) : iblk m c 0 t = V m c main_arg0 := by
  funext j; show V m c main_arg0 (((cfg0.win 0).blk t).view.emb j) = V m c main_arg0 j; rw [emb0]

theorem hz1 : (![0, 0, 0] : Fin 3 → Nat) = fun _ => 0 := funext fun a => by fin_cases a <;> rfl

/-- Window 1's block index at the one point is zero on every axis. -/
theorem idx_zero1 : ∀ t : Fin cfg0.N, win0_1.index t (0 : Fin 3) = 0 ∧ win0_1.index t (1 : Fin 3) = 0 ∧ win0_1.index t (2 : Fin 3) = 0 :=
  (by decide +kernel : ∀ t : Fin grid0.N, _)

/-- An index of window 1's block is the same index of its array. -/
theorem emb1 (t : Fin cfg0.N) (j : S2x8192x1.Idx) : ((cfg0.win 1).blk t).view.emb j = j := by
  obtain ⟨e0, e1, e2⟩ := idx_zero1 t
  funext a; apply Fin.ext
  match a with
  | ⟨0, _⟩ => show win0_1.index t (0 : Fin 3) * 2 + 1 * (j 0).val = (j 0).val; omega
  | ⟨1, _⟩ => show win0_1.index t (1 : Fin 3) * 8192 + 1 * (j 1).val = (j 1).val; omega
  | ⟨2, _⟩ => show win0_1.index t (2 : Fin 3) * 1 + 1 * (j 2).val = (j 2).val; omega

/-- Input window 1's block at the point is its array as the region finds it. -/
theorem iblk1_eq (c : Dev nD) (t : Fin cfg0.N) : iblk m c 1 t = V m c main_arg1 := by
  funext j; show V m c main_arg1 (((cfg0.win 1).blk t).view.emb j) = V m c main_arg1 j; rw [emb1]

theorem hz2 : (![0, 0] : Fin 2 → Nat) = fun _ => 0 := funext fun a => by fin_cases a <;> rfl

/-- Window 2's block index at the one point is zero on every axis. -/
theorem idx_zero2 : ∀ t : Fin cfg0.N, win0_2.index t (0 : Fin 2) = 0 ∧ win0_2.index t (1 : Fin 2) = 0 :=
  (by decide +kernel : ∀ t : Fin grid0.N, _)

/-- An index of window 2's block is the same index of its array. -/
theorem emb2 (t : Fin cfg0.N) (j : S1664x4352.Idx) : ((cfg0.win 2).blk t).view.emb j = j := by
  obtain ⟨e0, e1⟩ := idx_zero2 t
  funext a; apply Fin.ext
  match a with
  | ⟨0, _⟩ => show win0_2.index t (0 : Fin 2) * 1664 + 1 * (j 0).val = (j 0).val; omega
  | ⟨1, _⟩ => show win0_2.index t (1 : Fin 2) * 4352 + 1 * (j 1).val = (j 1).val; omega

/-- Input window 2's block at the point is its array as the region finds it. -/
theorem iblk2_eq (c : Dev nD) (t : Fin cfg0.N) : iblk m c 2 t = V m c main_arg2 := by
  funext j; show V m c main_arg2 (((cfg0.win 2).blk t).view.emb j) = V m c main_arg2 j; rw [emb2]

theorem hz3 : (![0] : Fin 1 → Nat) = fun _ => 0 := funext fun a => by fin_cases a <;> rfl

/-- Window 3's block index at the one point is zero on every axis. -/
theorem idx_zero3 : ∀ t : Fin cfg0.N, win0_3.index t (0 : Fin 1) = 0 :=
  (by decide +kernel : ∀ t : Fin grid0.N, _)

/-- An index of window 3's block is the same index of its array. -/
theorem emb3 (t : Fin cfg0.N) (j : S4352.Idx) : ((cfg0.win 3).blk t).view.emb j = j := by
  have e0 := idx_zero3 t
  funext a; apply Fin.ext
  match a with
  | ⟨0, _⟩ => show win0_3.index t (0 : Fin 1) * 4352 + 1 * (j 0).val = (j 0).val; omega

/-- Input window 3's block at the point is its array as the region finds it. -/
theorem iblk3_eq (c : Dev nD) (t : Fin cfg0.N) : iblk m c 3 t = V m c main_arg3 := by
  funext j; show V m c main_arg3 (((cfg0.win 3).blk t).view.emb j) = V m c main_arg3 j; rw [emb3]

theorem hz4 : (![0, 0, 0] : Fin 3 → Nat) = fun _ => 0 := funext fun a => by fin_cases a <;> rfl

/-- Window 4's block index at the one point is zero on every axis. -/
theorem idx_zero4 : ∀ t : Fin cfg0.N, win0_4.index t (0 : Fin 3) = 0 ∧ win0_4.index t (1 : Fin 3) = 0 ∧ win0_4.index t (2 : Fin 3) = 0 :=
  (by decide +kernel : ∀ t : Fin grid0.N, _)

/-- An index of window 4's block is the same index of its array. -/
theorem emb4 (t : Fin cfg0.N) (j : S2x8192x4352.Idx) : ((cfg0.win 4).blk t).view.emb j = j := by
  obtain ⟨e0, e1, e2⟩ := idx_zero4 t
  funext a; apply Fin.ext
  match a with
  | ⟨0, _⟩ => show win0_4.index t (0 : Fin 3) * 2 + 1 * (j 0).val = (j 0).val; omega
  | ⟨1, _⟩ => show win0_4.index t (1 : Fin 3) * 8192 + 1 * (j 1).val = (j 1).val; omega
  | ⟨2, _⟩ => show win0_4.index t (2 : Fin 3) * 4352 + 1 * (j 2).val = (j 2).val; omega

/-- Input window 4's block at the point is its array as the region finds it. -/
theorem iblk4_eq (c : Dev nD) (t : Fin cfg0.N) : iblk m c 4 t = V m c main_arg4 := by
  funext j; show V m c main_arg4 (((cfg0.win 4).blk t).view.emb j) = V m c main_arg4 j; rw [emb4]

theorem hz5 : (![0] : Fin 1 → Nat) = fun _ => 0 := funext fun a => by fin_cases a <;> rfl

/-- Window 5's block index at the one point is zero on every axis. -/
theorem idx_zero5 : ∀ t : Fin cfg0.N, win0_5.index t (0 : Fin 1) = 0 :=
  (by decide +kernel : ∀ t : Fin grid0.N, _)

/-- An index of window 5's block is the same index of its array. -/
theorem emb5 (t : Fin cfg0.N) (j : S4352.Idx) : ((cfg0.win 5).blk t).view.emb j = j := by
  have e0 := idx_zero5 t
  funext a; apply Fin.ext
  match a with
  | ⟨0, _⟩ => show win0_5.index t (0 : Fin 1) * 4352 + 1 * (j 0).val = (j 0).val; omega

/-- Input window 5's block at the point is its array as the region finds it. -/
theorem iblk5_eq (c : Dev nD) (t : Fin cfg0.N) : iblk m c 5 t = V m c main_arg5 := by
  funext j; show V m c main_arg5 (((cfg0.win 5).blk t).view.emb j) = V m c main_arg5 j; rw [emb5]

theorem hz6 : (![0, 0, 0] : Fin 3 → Nat) = fun _ => 0 := funext fun a => by fin_cases a <;> rfl

/-- Window 6's block index at the one point is zero on every axis. -/
theorem idx_zero6 : ∀ t : Fin cfg0.N, win0_6.index t (0 : Fin 3) = 0 ∧ win0_6.index t (1 : Fin 3) = 0 ∧ win0_6.index t (2 : Fin 3) = 0 :=
  (by decide +kernel : ∀ t : Fin grid0.N, _)

/-- An index of window 6's block is the same index of its array. -/
theorem emb6 (t : Fin cfg0.N) (j : S2x8192x4352.Idx) : ((cfg0.win 6).blk t).view.emb j = j := by
  obtain ⟨e0, e1, e2⟩ := idx_zero6 t
  funext a; apply Fin.ext
  match a with
  | ⟨0, _⟩ => show win0_6.index t (0 : Fin 3) * 2 + 1 * (j 0).val = (j 0).val; omega
  | ⟨1, _⟩ => show win0_6.index t (1 : Fin 3) * 8192 + 1 * (j 1).val = (j 1).val; omega
  | ⟨2, _⟩ => show win0_6.index t (2 : Fin 3) * 4352 + 1 * (j 2).val = (j 2).val; omega

theorem hz7 : (![0, 0, 0] : Fin 3 → Nat) = fun _ => 0 := funext fun a => by fin_cases a <;> rfl

/-- Window 7's block index at the one point is zero on every axis. -/
theorem idx_zero7 : ∀ t : Fin cfg0.N, win0_7.index t (0 : Fin 3) = 0 ∧ win0_7.index t (1 : Fin 3) = 0 ∧ win0_7.index t (2 : Fin 3) = 0 :=
  (by decide +kernel : ∀ t : Fin grid0.N, _)

/-- An index of window 7's block is the same index of its array. -/
theorem emb7 (t : Fin cfg0.N) (j : S2x8192x4352.Idx) : ((cfg0.win 7).blk t).view.emb j = j := by
  obtain ⟨e0, e1, e2⟩ := idx_zero7 t
  funext a; apply Fin.ext
  match a with
  | ⟨0, _⟩ => show win0_7.index t (0 : Fin 3) * 2 + 1 * (j 0).val = (j 0).val; omega
  | ⟨1, _⟩ => show win0_7.index t (1 : Fin 3) * 8192 + 1 * (j 1).val = (j 1).val; omega
  | ⟨2, _⟩ => show win0_7.index t (2 : Fin 3) * 4352 + 1 * (j 2).val = (j 2).val; omega

theorem hz8 : (![0, 0, 0] : Fin 3 → Nat) = fun _ => 0 := funext fun a => by fin_cases a <;> rfl

/-- Window 8's block index at the one point is zero on every axis. -/
theorem idx_zero8 : ∀ t : Fin cfg0.N, win0_8.index t (0 : Fin 3) = 0 ∧ win0_8.index t (1 : Fin 3) = 0 ∧ win0_8.index t (2 : Fin 3) = 0 :=
  (by decide +kernel : ∀ t : Fin grid0.N, _)

/-- An index of window 8's block is the same index of its array. -/
theorem emb8 (t : Fin cfg0.N) (j : S2x8192x1.Idx) : ((cfg0.win 8).blk t).view.emb j = j := by
  obtain ⟨e0, e1, e2⟩ := idx_zero8 t
  funext a; apply Fin.ext
  match a with
  | ⟨0, _⟩ => show win0_8.index t (0 : Fin 3) * 2 + 1 * (j 0).val = (j 0).val; omega
  | ⟨1, _⟩ => show win0_8.index t (1 : Fin 3) * 8192 + 1 * (j 1).val = (j 1).val; omega
  | ⟨2, _⟩ => show win0_8.index t (2 : Fin 3) * 1 + 1 * (j 2).val = (j 2).val; omega

/-! ### Output window 6: the array after the run -/

/-- What the window's array ends holding: `out0_6` applied to the argument arrays in place of the input blocks (a value that the
    frame states apart, `kK_payN a…`, keeps its loads inside its own definition). -/
abbrev G6 (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : Vec F S2x8192x4352 .bf16 :=
  k0_pay4 a0 a2 a1 a3 a4

/-- A load of the whole of a block reads the block, and the one store through the whole rectangle leaves its payload. -/
theorem out6_eq (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : out0_6 (F := F) a0 a1 a2 a3 a4 a5 = G6 a0 a1 a2 a3 a4 a5 := by
  unfold out0_6
  rw [View.canon_unit_zero hz6, View.ld_unit_zero (S := S2x8192x1664) hz0 _ a0, View.ld_unit_zero (S := S1664x4352) hz2 _ a2, View.ld_unit_zero (S := S2x8192x1) hz1 _ a1, View.ld_unit_zero (S := S4352) hz3 _ a3, View.ld_unit_zero (S := S2x8192x4352) hz4 _ a4]

/-- Cutting the point's block out of `X` and reading `X` through the block's view give the same. -/
theorem cut6_eq (t : Fin cfg0.N) (X : Vec F S2x8192x4352 .bf16) :
    (cfg0.win 6).cut (grid0.coords t) X = ((cfg0.win 6).blk t).view.read (Elt F) X := by
  funext j
  show X j = X (((cfg0.win 6).blk t).view.emb j)
  rw [emb6]

/-- WHAT THE POINT WRITES BACK is its block of `G6` of the argument arrays as the region finds them. -/
theorem flushed6_eq (c : Dev nD) (t : Fin cfg0.N) :
    (dats m 0 c).flushed 6 t = ((cfg0.win 6).blk t).view.read (Elt F) (G6 (V m c main_arg0) (V m c main_arg1) (V m c main_arg2) (V m c main_arg3) (V m c main_arg4) (V m c main_arg5)) := by
  show (cfg0.win 6).cut (grid0.coords t) ((dats m 0 c).after 6 t) = _
  rw [after0_6, out6_eq, iblk0_eq, iblk1_eq, iblk2_eq, iblk3_eq, iblk4_eq, iblk5_eq]
  exact cut6_eq t _

/-- Every index of the array is in the point's block. -/
theorem covered6 (i : S2x8192x4352.Idx) :
    ∃ t : Fin cfg0.N, (cfg0.win 6).flush t = true ∧ i ∈ ((cfg0.win 6).blk t).view.set :=
  ⟨(⟨0, by decide⟩ : Fin cfg0.N), flush0_6 _, by have h := ((cfg0.win 6).blk (⟨0, by decide⟩ : Fin cfg0.N)).view.emb_mem_set i; rwa [emb6] at h⟩

/-- THE ARRAY after the run: `G6` of the argument arrays as launched. -/
theorem final6 (c : Dev nD) : (dats m 0 c).arrAt 6 cfg0.N = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 6 (G6 (V m c main_arg0) (V m c main_arg1) (V m c main_arg2) (V m c main_arg3) (V m c main_arg4) (V m c main_arg5)) (fun t _ => flushed6_eq m c t) covered6).trans (by rw [V_main_arg0, V_main_arg1, V_main_arg2, V_main_arg3, V_main_arg4, V_main_arg5])

/-! ### Output window 7: the array after the run -/

/-- What the window's array ends holding: `out0_7` applied to the argument arrays in place of the input blocks (a value that the
    frame states apart, `kK_payN a…`, keeps its loads inside its own definition). -/
abbrev G7 (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : Vec F S2x8192x4352 .fp8e4m3 :=
  k0_pay2 (k0_pay5 a0 a2 a1 a3 a4 a5) (k0_pay8 a0 a1 a2 a3 a4 a5) (k0_pay9 a0 a1 a2 a3 a4 a5) (Scalar.ofBits .f32 0x3F800000#32)

/-- A load of the whole of a block reads the block, and the one store through the whole rectangle leaves its payload. -/
theorem out7_eq (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : out0_7 (F := F) a0 a1 a2 a3 a4 a5 = G7 a0 a1 a2 a3 a4 a5 := by
  unfold out0_7
  rw [View.canon_unit_zero hz7, View.ld_unit_zero (S := S2x8192x1664) hz0 _ a0, View.ld_unit_zero (S := S1664x4352) hz2 _ a2, View.ld_unit_zero (S := S2x8192x1) hz1 _ a1, View.ld_unit_zero (S := S4352) hz3 _ a3, View.ld_unit_zero (S := S2x8192x4352) hz4 _ a4, View.ld_unit_zero (S := S4352) hz5 _ a5]

/-- Cutting the point's block out of `X` and reading `X` through the block's view give the same. -/
theorem cut7_eq (t : Fin cfg0.N) (X : Vec F S2x8192x4352 .fp8e4m3) :
    (cfg0.win 7).cut (grid0.coords t) X = ((cfg0.win 7).blk t).view.read (Elt F) X := by
  funext j
  show X j = X (((cfg0.win 7).blk t).view.emb j)
  rw [emb7]

/-- WHAT THE POINT WRITES BACK is its block of `G7` of the argument arrays as the region finds them. -/
theorem flushed7_eq (c : Dev nD) (t : Fin cfg0.N) :
    (dats m 0 c).flushed 7 t = ((cfg0.win 7).blk t).view.read (Elt F) (G7 (V m c main_arg0) (V m c main_arg1) (V m c main_arg2) (V m c main_arg3) (V m c main_arg4) (V m c main_arg5)) := by
  show (cfg0.win 7).cut (grid0.coords t) ((dats m 0 c).after 7 t) = _
  rw [after0_7, out7_eq, iblk0_eq, iblk1_eq, iblk2_eq, iblk3_eq, iblk4_eq, iblk5_eq]
  exact cut7_eq t _

/-- Every index of the array is in the point's block. -/
theorem covered7 (i : S2x8192x4352.Idx) :
    ∃ t : Fin cfg0.N, (cfg0.win 7).flush t = true ∧ i ∈ ((cfg0.win 7).blk t).view.set :=
  ⟨(⟨0, by decide⟩ : Fin cfg0.N), flush0_7 _, by have h := ((cfg0.win 7).blk (⟨0, by decide⟩ : Fin cfg0.N)).view.emb_mem_set i; rwa [emb7] at h⟩

/-- THE ARRAY after the run: `G7` of the argument arrays as launched. -/
theorem final7 (c : Dev nD) : (dats m 0 c).arrAt 7 cfg0.N = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 7 (G7 (V m c main_arg0) (V m c main_arg1) (V m c main_arg2) (V m c main_arg3) (V m c main_arg4) (V m c main_arg5)) (fun t _ => flushed7_eq m c t) covered7).trans (by rw [V_main_arg0, V_main_arg1, V_main_arg2, V_main_arg3, V_main_arg4, V_main_arg5])

/-! ### Output window 8: the array after the run -/

/-- What the window's array ends holding: `out0_8` applied to the argument arrays in place of the input blocks (a value that the
    frame states apart, `kK_payN a…`, keeps its loads inside its own definition). -/
abbrev G8 (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : Vec F S2x8192x1 .f32 :=
  k0_pay3 (k0_pay8 a0 a1 a2 a3 a4 a5) (k0_pay9 a0 a1 a2 a3 a4 a5) (Scalar.ofBits .f32 0x3F800000#32)

/-- The one store through the whole rectangle leaves its payload. -/
theorem out8_eq (a0 : Vec F S2x8192x1664 .fp8e4m3) (a1 : Vec F S2x8192x1 .f32) (a2 : Vec F S1664x4352 .fp8e4m3) (a3 : Vec F S4352 .f32) (a4 : Vec F S2x8192x4352 .bf16) (a5 : Vec F S4352 .bf16) : out0_8 (F := F) a0 a1 a2 a3 a4 a5 = G8 a0 a1 a2 a3 a4 a5 := by
  unfold out0_8
  rw [View.canon_unit_zero hz8]

/-- Cutting the point's block out of `X` and reading `X` through the block's view give the same. -/
theorem cut8_eq (t : Fin cfg0.N) (X : Vec F S2x8192x1 .f32) :
    (cfg0.win 8).cut (grid0.coords t) X = ((cfg0.win 8).blk t).view.read (Elt F) X := by
  funext j
  show X j = X (((cfg0.win 8).blk t).view.emb j)
  rw [emb8]

/-- WHAT THE POINT WRITES BACK is its block of `G8` of the argument arrays as the region finds them. -/
theorem flushed8_eq (c : Dev nD) (t : Fin cfg0.N) :
    (dats m 0 c).flushed 8 t = ((cfg0.win 8).blk t).view.read (Elt F) (G8 (V m c main_arg0) (V m c main_arg1) (V m c main_arg2) (V m c main_arg3) (V m c main_arg4) (V m c main_arg5)) := by
  show (cfg0.win 8).cut (grid0.coords t) ((dats m 0 c).after 8 t) = _
  rw [after0_8, out8_eq, iblk0_eq, iblk1_eq, iblk2_eq, iblk3_eq, iblk4_eq, iblk5_eq]
  exact cut8_eq t _

/-- Every index of the array is in the point's block. -/
theorem covered8 (i : S2x8192x1.Idx) :
    ∃ t : Fin cfg0.N, (cfg0.win 8).flush t = true ∧ i ∈ ((cfg0.win 8).blk t).view.set :=
  ⟨(⟨0, by decide⟩ : Fin cfg0.N), flush0_8 _, by have h := ((cfg0.win 8).blk (⟨0, by decide⟩ : Fin cfg0.N)).view.emb_mem_set i; rwa [emb8] at h⟩

/-- THE ARRAY after the run: `G8` of the argument arrays as launched. -/
theorem final8 (c : Dev nD) : (dats m 0 c).arrAt 8 cfg0.N = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) :=
  ((dats m 0 c).arrAt_eq_of_cover 8 (G8 (V m c main_arg0) (V m c main_arg1) (V m c main_arg2) (V m c main_arg3) (V m c main_arg4) (V m c main_arg5)) (fun t _ => flushed8_eq m c t) covered8).trans (by rw [V_main_arg0, V_main_arg1, V_main_arg2, V_main_arg3, V_main_arg4, V_main_arg5])

/-! ## The run, read -/

/-- The frame run re-posted: each output array at its function of the arguments, the arguments unchanged. -/
theorem run : θ_run defs (onTc (τ := τ) (main (F := F))) ⟨m, fun _ => 0, ρ⟩ fun r => ∀ c : Dev nD,
      r.2.mem ((c : Thread nD τ).loc main_v0_0) = G6 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_1) = G7 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_v0_2) = G8 (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5))
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5) :=
  (θ_run defs _ _).mono (fun r h c => ⟨(post6 m r h c).trans (final6 m c),
      (post7 m r h c).trans (final7 m c),
      (post8 m r h c).trans (final8 m c),
      kept_main_arg0 m r h c,
      kept_main_arg1 m r h c,
      kept_main_arg2 m r h c,
      kept_main_arg3 m r h c,
      kept_main_arg4 m r h c,
      kept_main_arg5 m r h c⟩)
    (run_main m ρ)

end Cert.ReferenceIdeal.Value

end
-- ==== Proof.RefRead.lean ====
/- The reference over the extended reals, entry by entry: each result as a function of one row. -/
module

public import proofs.«01_k».proof.Proof.RefValue
public import proofs.«01_k».proof.Proof.RowMath
public import Idealize.ShloMosaic.Lib.Pointwise

@[expose] public section

noncomputable section

namespace Cert.ReferenceIdeal.Value

open Cert.ReferenceIdeal Cert.ReferenceIdeal.Gen Idealize.ShloMosaic
open Cert.KernelIdeal.Gen (sumSq maxAbs absE normed rowE refE)

/-- A row of the residual output. -/
def rowR (a0 : S2x8192x1664.Idx → EReal) (a1 : S2x8192x1.Idx → EReal) (a2 : S1664x4352.Idx → EReal) (a3 : S4352.Idx → EReal)
    (a4 : S2x8192x4352.Idx → EReal) (b : Fin 2) (s : Fin 8192) (j : Fin 4352) : EReal :=
  (∑ k : Fin 1664, a0 (ix3 b s k) * a2 (ix2 k j)) * a1 (ix3 b s 0) * a3 (ix1 j) + a4 (ix3 b s j)

variable (a0 : Vec Ideal S2x8192x1664 .fp8e4m3) (a1 : Vec Ideal S2x8192x1 .f32) (a2 : Vec Ideal S1664x4352 .fp8e4m3) (a3 : Vec Ideal S4352 .f32)
  (a4 : Vec Ideal S2x8192x4352 .bf16) (a5 : Vec Ideal S4352 .bf16)

theorem pay4_at (b : Fin 2) (s : Fin 8192) (j : Fin 4352) : k0_pay4 (F := Ideal) a0 a2 a1 a3 a4 (ix3 b s j) = rowR a0 a1 a2 a3 a4 b s j := by
  unfold rowR
  pointwise [k0_pay4]

theorem count_word : (Ideal.ofBits .f32 0x45880000#32 : EReal) = ((4352 : ℝ) : EReal) := by
  simp [Ideal.ofBits, Ideal.ieee, -EReal.coe_mul]
  norm_num

theorem least_word : (Ideal.ofBits .f32 0xC2FC0000#32 : EReal) = ((-126 : ℝ) : EReal) := by
  simp [Ideal.ofBits, Ideal.ieee, -EReal.coe_mul]
  norm_num

theorem pay5_at (b : Fin 2) (s : Fin 8192) (j : Fin 4352) : k0_pay5 (F := Ideal) a0 a2 a1 a3 a4 a5 (ix3 b s j) = normed (rowR a0 a1 a2 a3 a4 b s) (fun j => a5 (ix1 j)) j := by
  unfold k0_pay5
  generalize hr : k0_pay4 (F := Ideal) a0 a2 a1 a3 a4 = r
  have hr' : rowR a0 a1 a2 a3 a4 b s = fun j => r (ix3 b s j) := funext fun j => by rw [← hr, pay4_at]
  rw [hr']
  unfold normed sumSq Cert.KernelIdeal.Gen.invR
  rw [Cert.KernelIdeal.Gen.inv_n_word]
  pointwise []
  rw [count_word, Ideal.div_coe (by norm_num)]

/-- The largest entry along the last axis, at any extents. -/
theorem maxLast_gen {n0 n1 n2 : Nat} (r : FVec Ideal (⟨3, ![n0, n1, n2]⟩ : Shape) .f32) (w : BitVec 32)
    (h : (⟨3, ![n0, n1, n2]⟩ : Shape).Reduces [2] ⟨2, ![n0, n1]⟩) (hφ : FKind.Formats .f32) (hw : w = FKind.maximumf.neutral .f32 hφ) (b : Fin n0) (s : Fin n1) :
    multiReduction .maximumf [2] ⟨2, ![n0, n1]⟩ r w h hφ hw (ix2 b s) = Finset.univ.fold max (Ideal.ofBits .f32 w) fun k : Fin n2 => r (ix3 b s k) := by
  refine (Ideal.multiReduction_maximumf_single _ _ _ _ _ _).trans ?_
  refine congrArg (Finset.univ.fold max _) (funext fun k => ?_)
  refine congrArg r ?_
  funext a
  apply Fin.ext
  match a with
  | ⟨0, _⟩ => rfl
  | ⟨1, _⟩ => rfl
  | ⟨2, _⟩ => rfl

theorem absf_at (r : FVec Ideal S2x8192x4352 .f32) (p : S2x8192x4352.Idx) : absf r p = absE (r p) := rfl

theorem maxLast_at (r : FVec Ideal S2x8192x4352 .f32) (b : Fin 2) (s : Fin 8192) :
    multiReduction .maximumf [2] S2x8192 (absf r) 0xFF800000#32 reduces_S2x8192x4352_S2x8192 (.inl rfl) rfl (ix2 b s) = maxAbs fun j => r (ix3 b s j) := by
  refine (maxLast_gen (n0 := 2) (n1 := 8192) (n2 := 4352) (absf r) _ _ _ _ b s).trans ?_
  unfold maxAbs
  simp only [absf_at]

theorem column_at (M : FVec Ideal S2x8192 .f32) (c : Ideal .f32) (b : Fin 2) (s : Fin 8192) :
    mulf (shapeCast S2x8192x1 M shapeCasts_S2x8192_S2x8192x1) (broadcast S2x8192x1 c) (ix3 b s 0) = M (ix2 b s) * c := by
  pointwise []

theorem pay6_at (b : Fin 2) (s : Fin 8192) : k0_pay6 (F := Ideal) a0 a2 a1 a3 a4 a5 (ix3 b s 0)
    = maxAbs (normed (rowR a0 a1 a2 a3 a4 b s) (fun j => a5 (ix1 j))) * Ideal.ofBits .f32 0x3B124925#32 := by
  unfold k0_pay6
  generalize hr : k0_pay5 (F := Ideal) a0 a2 a1 a3 a4 a5 = r
  have hr' : normed (rowR a0 a1 a2 a3 a4 b s) (fun j => a5 (ix1 j)) = fun j => r (ix3 b s j) := funext fun j => by rw [← hr, pay5_at]
  rw [hr']
  exact (column_at _ _ b s).trans (congrArg (fun x : EReal => x * Ideal.ofBits .f32 0x3B124925#32) (maxLast_at r b s))

theorem pay1_at (v : FVec Ideal S2x8192x1 .f32) (p : S2x8192x1.Idx) (a : EReal) (h : v p = a) (w : FVec Ideal S2x8192x1 .f32) (hw : w p = Ideal.liftRound Int.floor (Ideal.div (Ideal.log a) ((Real.log 2 : ℝ) : EReal))) :
    k0_pay1 (F := Ideal) v w (Scalar.ofBits .f32 0x3F800000#32) p = refE a := by
  unfold refE
  pointwise [k0_pay1]
  rw [h, hw, least_word]
  simp

theorem ln2_word : (Named.named κ "ln2" 0x3F317218#32 : Ideal .f32) = ((Real.log 2 : ℝ) : EReal) :=
  IdealRules.named_const.ideal_named_scalar (φ := .f32) κ "ln2" 0x3F317218#32 ((Real.log 2 : ℝ) : EReal) rfl

theorem floor_at {S : Shape} (v : FVec Ideal S .f32) (c : Ideal .f32) (p : S.Idx) :
    floor (divf (log v) (broadcast S c)) p = Ideal.liftRound Int.floor (Ideal.div (Ideal.log (v p)) c) := rfl

theorem pay7_at (b : Fin 2) (s : Fin 8192) : k0_pay7 (F := Ideal) a0 a2 a1 a3 a4 a5 (ix3 b s 0)
    = Ideal.liftRound Int.floor (Ideal.div (Ideal.log (k0_pay6 (F := Ideal) a0 a2 a1 a3 a4 a5 (ix3 b s 0))) ((Real.log 2 : ℝ) : EReal)) := by
  unfold k0_pay7
  exact (floor_at _ _ _).trans (by rw [ln2_word])

/-- The exponent of a row's scale. -/
theorem pay1_row (b : Fin 2) (s : Fin 8192) :
    k0_pay1 (F := Ideal) (k0_pay6 a0 a2 a1 a3 a4 a5) (k0_pay7 a0 a2 a1 a3 a4 a5) (Scalar.ofBits .f32 0x3F800000#32) (ix3 b s 0)
      = rowE (rowR a0 a1 a2 a3 a4 b s) (fun j => a5 (ix1 j)) :=
  pay1_at _ _ _ (pay6_at a0 a1 a2 a3 a4 a5 b s) _ ((pay7_at a0 a1 a2 a3 a4 a5 b s).trans (by rw [pay6_at]))

theorem pay8_eq : k0_pay8 (F := Ideal) a0 a1 a2 a3 a4 a5 = k0_pay6 a0 a2 a1 a3 a4 a5 := by
  unfold k0_pay8
  rw [View.ld_unit_zero (S := S2x8192x1664) hz0 _ a0, View.ld_unit_zero (S := S1664x4352) hz2 _ a2, View.ld_unit_zero (S := S2x8192x1) hz1 _ a1, View.ld_unit_zero (S := S4352) hz3 _ a3, View.ld_unit_zero (S := S2x8192x4352) hz4 _ a4, View.ld_unit_zero (S := S4352) hz5 _ a5]

theorem pay9_eq : k0_pay9 (F := Ideal) a0 a1 a2 a3 a4 a5 = k0_pay7 a0 a2 a1 a3 a4 a5 := by
  unfold k0_pay9
  rw [View.ld_unit_zero (S := S2x8192x1664) hz0 _ a0, View.ld_unit_zero (S := S1664x4352) hz2 _ a2, View.ld_unit_zero (S := S2x8192x1) hz1 _ a1, View.ld_unit_zero (S := S4352) hz3 _ a3, View.ld_unit_zero (S := S2x8192x4352) hz4 _ a4, View.ld_unit_zero (S := S4352) hz5 _ a5]

/-- The first result. -/
theorem G6_at (b : Fin 2) (s : Fin 8192) (j : Fin 4352) : G6 (F := Ideal) a0 a1 a2 a3 a4 a5 (ix3 b s j) = rowR a0 a1 a2 a3 a4 b s j :=
  pay4_at a0 a1 a2 a3 a4 b s j

theorem exp2_at {S : Shape} (v : FVec Ideal S .f32) (p : S.Idx) : exp2 v p = Ideal.exp2 (v p) := rfl

theorem pay3_at (x y : FVec Ideal S2x8192x1 .f32) (c : Ideal .f32) (p : S2x8192x1.Idx) : k0_pay3 (F := Ideal) x y c p = Ideal.exp2 (k0_pay1 x y c p) := by
  unfold k0_pay3
  exact exp2_at _ _

/-- The third result. -/
theorem G8_at (b : Fin 2) (s : Fin 8192) : G8 (F := Ideal) a0 a1 a2 a3 a4 a5 (ix3 b s 0) = Ideal.exp2 (rowE (rowR a0 a1 a2 a3 a4 b s) (fun j => a5 (ix1 j))) := by
  show k0_pay3 _ _ _ (ix3 b s 0) = _
  rw [pay8_eq, pay9_eq, pay3_at, pay1_row]

theorem pay2_at (v : FVec Ideal S2x8192x4352 .f32) (x y : FVec Ideal S2x8192x1 .f32) (c : Ideal .f32) (b : Fin 2) (s : Fin 8192) (j : Fin 4352) :
    k0_pay2 (F := Ideal) v x y c (ix3 b s j)
      = min (Ideal.ofBits .f32 0x43E00000#32) (max (Ideal.ofBits .f32 0xC3E00000#32) (v (ix3 b s j) * Ideal.exp2 (0 - k0_pay1 x y c (ix3 b s 0)))) := by
  unfold k0_pay2
  generalize k0_pay1 x y c = e
  pointwise []
  rfl

/-- The second result. -/
theorem G7_at (b : Fin 2) (s : Fin 8192) (j : Fin 4352) : G7 (F := Ideal) a0 a1 a2 a3 a4 a5 (ix3 b s j)
    = min (Ideal.ofBits .f32 0x43E00000#32) (max (Ideal.ofBits .f32 0xC3E00000#32)
        (normed (rowR a0 a1 a2 a3 a4 b s) (fun j => a5 (ix1 j)) j * Ideal.exp2 (0 - rowE (rowR a0 a1 a2 a3 a4 b s) (fun j => a5 (ix1 j))))) := by
  show k0_pay2 _ _ _ _ (ix3 b s j) = _
  rw [pay8_eq, pay9_eq, pay2_at, pay1_row, pay5_at]

end Cert.ReferenceIdeal.Value

end
-- ==== Proof.Meet.lean ====
/- The kernel and the reference over the extended reals leave the same three results. -/
module

public import proofs.«01_k».proof.Defs
public import proofs.«01_k».proof.Proof.IdealRead
public import proofs.«01_k».proof.Proof.RefRead

@[expose] public section

noncomputable section

namespace Cert.Meet

open Idealize.ShloMosaic Idealize.ShloMosaic.TcCoe Idealize.SL.Sem
open Cert.KernelIdeal.Gen (argX argXs argW argWs argRes argG outAt gammaAt res0 res1 res2 res0_at res1_at res2_at absE)
open Cert.ReferenceIdeal.Value (rowR G6 G7 G8 G6_at G7_at G8_at)

variable (m : (ℓ : Loc Cert.KernelIdeal.nD Cert.KernelIdeal.τ Cert.KernelIdeal.sig) → Buf (Elt Ideal) ℓ) (c : Dev Cert.KernelIdeal.nD)

/-- The side conditions of the precondition. -/
theorem facts : Cert.Pre_finite_gamma.Facts where
  bitsLt_bf16_f32 := by decide
  bcast_S_S4352 := by decide

attribute [local instance] facts

/-- The precondition bounds every entry of gamma by the largest finite value of its format. -/
theorem gamma_bound (h : Cert.Pre_KernelIdeal_finite_gamma m) (j : Fin 4352) : absE (gammaAt m c j) ≤ Ideal.ofBits .f32 0x7F7F0000#32 := by
  have hc := congrFun (h c) (ValueIdx.ix1 j)
  change BitVec.ofBool (decide (absE (gammaAt m c j) ≤ Ideal.ofBits .f32 0x7F7F0000#32)) = 1#1 at hc
  by_contra hn
  rw [decide_eq_false hn] at hc
  exact absurd hc (by decide)

theorem row_meet (b : Fin 2) (s : Fin 8192) : rowR (argX m c) (argXs m c) (argW m c) (argWs m c) (argRes m c) b s = outAt m c b s := by
  funext j
  unfold rowR outAt
  rfl

theorem gamma_meet : (fun j : Fin 4352 => argG m c (ix1 j)) = gammaAt m c := rfl

theorem meet0_at (b : Fin 2) (s : Fin 8192) (j : Fin 4352) :
    res0 m c (ValueIdx.ix3 b s j) = G6 (F := Ideal) (argX m c) (argXs m c) (argW m c) (argWs m c) (argRes m c) (argG m c) (ValueIdx.ix3 b s j) := by
  refine (res0_at m c b s j).trans (Eq.trans ?_ (G6_at (argX m c) (argXs m c) (argW m c) (argWs m c) (argRes m c) (argG m c) b s j).symm)
  rw [row_meet]

/-- The first results agree. -/
theorem meet0 : res0 m c = G6 (F := Ideal) (argX m c) (argXs m c) (argW m c) (argWs m c) (argRes m c) (argG m c) := by
  funext p
  have hp : p = ValueIdx.ix3 (p 0) (p 1) (p 2) := ValueIdx.eq_ix3 (n0 := 2) (n1 := 8192) (n2 := 4352) p
  exact (congrArg (res0 m c) hp).trans ((meet0_at m c (p 0) (p 1) (p 2)).trans (congrArg (G6 (F := Ideal) (argX m c) (argXs m c) (argW m c) (argWs m c) (argRes m c) (argG m c)) hp.symm))

theorem meet1_at (h : Cert.Pre_KernelIdeal_finite_gamma m) (b : Fin 2) (s : Fin 8192) (j : Fin 4352) :
    res1 m c (ValueIdx.ix3 b s j) = G7 (F := Ideal) (argX m c) (argXs m c) (argW m c) (argWs m c) (argRes m c) (argG m c) (ValueIdx.ix3 b s j) := by
  refine (res1_at m c b s j (gamma_bound m c h)).trans (Eq.trans ?_ (G7_at (argX m c) (argXs m c) (argW m c) (argWs m c) (argRes m c) (argG m c) b s j).symm)
  rw [row_meet, gamma_meet]

/-- The second results agree. -/
theorem meet1 (h : Cert.Pre_KernelIdeal_finite_gamma m) : res1 m c = G7 (F := Ideal) (argX m c) (argXs m c) (argW m c) (argWs m c) (argRes m c) (argG m c) := by
  funext p
  have hp : p = ValueIdx.ix3 (p 0) (p 1) (p 2) := ValueIdx.eq_ix3 (n0 := 2) (n1 := 8192) (n2 := 4352) p
  exact (congrArg (res1 m c) hp).trans ((meet1_at m c h (p 0) (p 1) (p 2)).trans (congrArg (G7 (F := Ideal) (argX m c) (argXs m c) (argW m c) (argWs m c) (argRes m c) (argG m c)) hp.symm))

theorem meet2_at (h : Cert.Pre_KernelIdeal_finite_gamma m) (b : Fin 2) (s : Fin 8192) :
    res2 m c (ValueIdx.ix3 b s (0 : Fin 1)) = G8 (F := Ideal) (argX m c) (argXs m c) (argW m c) (argWs m c) (argRes m c) (argG m c) (ValueIdx.ix3 b s (0 : Fin 1)) := by
  refine (res2_at m c b s (gamma_bound m c h)).trans (Eq.trans ?_ (G8_at (argX m c) (argXs m c) (argW m c) (argWs m c) (argRes m c) (argG m c) b s).symm)
  rw [row_meet, gamma_meet]

/-- The third results agree. -/
theorem meet2 (h : Cert.Pre_KernelIdeal_finite_gamma m) : res2 m c = G8 (F := Ideal) (argX m c) (argXs m c) (argW m c) (argWs m c) (argRes m c) (argG m c) := by
  funext p
  have h2 : p 2 = (0 : Fin 1) := Subsingleton.elim (α := Fin 1) _ _
  have hp : p = ValueIdx.ix3 (p 0) (p 1) (0 : Fin 1) := (ValueIdx.eq_ix3 (n0 := 2) (n1 := 8192) (n2 := 1) p).trans (congrArg (fun z : Fin 1 => ValueIdx.ix3 (n0 := 2) (n1 := 8192) (p 0) (p 1) z) h2)
  exact (congrArg (res2 m c) hp).trans ((meet2_at m c h (p 0) (p 1)).trans (congrArg (G8 (F := Ideal) (argX m c) (argXs m c) (argW m c) (argWs m c) (argRes m c) (argG m c)) hp.symm))

/-- The two programs leave equal results when they start from equal arguments. -/
theorem algebraic [hKernelIdeal : Cert.KernelIdeal.Facts] [hReferenceIdeal : Cert.ReferenceIdeal.Facts] :
    Cert.algebraic_KernelIdeal_ReferenceIdeal_pre_finite_gamma := by
  intro m g m' g' hpre hargs
  refine ⟨fun c => res0 m c, fun c => res1 m c, fun c => res2 m c, Cert.KernelIdeal.Gen.run_results m g, ?_⟩
  refine (θ_run _ _ _).mono (fun r h c => ?_) (Cert.ReferenceIdeal.Value.run m' g')
  obtain ⟨h0, h1, h2, hr⟩ := h c
  obtain ⟨e0, e1, e2, e3, e4, e5⟩ := hargs c
  rw [e0, e1, e2, e3, e4, e5] at h0 h1 h2
  exact ⟨h0.trans (meet0 m c).symm, h1.trans (meet1 m c hpre).symm, h2.trans (meet2 m c hpre).symm, hr⟩

end Cert.Meet

end
-- ==== Proof.lean ====
module

public import proofs.«01_k».proof.Defs
public import proofs.«01_k».proof.Proof.Gen.Reference.Frame
public import proofs.«01_k».proof.Proof.Gen.ReferenceIdeal.Frame
public import proofs.«01_k».proof.Proof.KernelFrame
public import proofs.«01_k».proof.Proof.IdealFrame
public import proofs.«01_k».proof.Proof.Meet

@[expose] public section

open Idealize.ShloMosaic Idealize.ShloMosaic.TcCoe

theorem Cert.Proof.claim : Cert.Claim :=
  ⟨Cert.Kernel.Gen.facts, Cert.KernelIdeal.Gen.facts, Cert.ReferenceIdeal.Gen.facts, Cert.Reference.Gen.facts, Cert.Meet.facts,
    fun m ρ _ => Cert.Kernel.Gen.frameR m ρ, fun m ρ _ => Cert.KernelIdeal.Gen.frameR m ρ, fun m ρ _ => Cert.KernelIdeal.Gen.frameR m ρ,
    fun m ρ _ => Cert.ReferenceIdeal.Gen.frame m ρ, fun m ρ _ => Cert.ReferenceIdeal.Gen.frame m ρ, fun m ρ _ => Cert.Reference.Gen.frame m ρ,
    IdealRules.named_const.statement Cert.KernelIdeal.κ "inv_n" .f32 0x3970F0F1#32 ((1 / 4352 : ℝ) : EReal) rfl,
    IdealRules.named_const.statement Cert.ReferenceIdeal.κ "ln2" .f32 0x3F317218#32 ((Real.log 2 : ℝ) : EReal) rfl,
    Cert.Meet.algebraic⟩
